-- ==== Defs.lean ====
def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsReferenceIdeal (m : (ℓ : Loc Cert.StatsReferenceIdeal.nD Cert.StatsReferenceIdeal.τ Cert.StatsReferenceIdeal.sig) → Buf (Elt Ideal) ℓ) : Prop :=
  True

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2)
      ∧ r.2.mem ((c.tc : Thread Cert.Stats.nD Cert.Stats.τ).loc Cert.Stats.main_arg3) = m ((c.tc : Thread Cert.Stats.nD Cert.Stats.τ).loc Cert.Stats.main_arg3)
      ∧ r.2.mem ((c.tc : Thread Cert.Stats.nD Cert.Stats.τ).loc Cert.Stats.main_arg4) = m ((c.tc : Thread Cert.Stats.nD Cert.Stats.τ).loc Cert.Stats.main_arg4)
      ∧ r.2.mem ((c.tc : Thread Cert.Stats.nD Cert.Stats.τ).loc Cert.Stats.main_arg5) = m ((c.tc : Thread Cert.Stats.nD Cert.Stats.τ).loc Cert.Stats.main_arg5)
      ∧ r.2.mem ((c.tc : Thread Cert.Stats.nD Cert.Stats.τ).loc Cert.Stats.main_arg6) = m ((c.tc : Thread Cert.Stats.nD Cert.Stats.τ).loc Cert.Stats.main_arg6)
      ∧ r.2.mem ((c.tc : Thread Cert.Stats.nD Cert.Stats.τ).loc Cert.Stats.main_arg7) = m ((c.tc : Thread Cert.Stats.nD Cert.Stats.τ).loc Cert.Stats.main_arg7)
      ∧ r.2.mem ((c.tc : Thread Cert.Stats.nD Cert.Stats.τ).loc Cert.Stats.main_arg8) = m ((c.tc : Thread Cert.Stats.nD Cert.Stats.τ).loc Cert.Stats.main_arg8)
      ∧ r.2.mem ((c.tc : Thread Cert.Stats.nD Cert.Stats.τ).loc Cert.Stats.main_arg9) = m ((c.tc : Thread Cert.Stats.nD Cert.Stats.τ).loc Cert.Stats.main_arg9)
      ∧ r.2.mem ((c.tc : Thread Cert.Stats.nD Cert.Stats.τ).loc Cert.Stats.main_arg10) = m ((c.tc : Thread Cert.Stats.nD Cert.Stats.τ).loc Cert.Stats.main_arg10)
      ∧ r.2.mem ((c.tc : Thread Cert.Stats.nD Cert.Stats.τ).loc Cert.Stats.main_arg11) = m ((c.tc : Thread Cert.Stats.nD Cert.Stats.τ).loc Cert.Stats.main_arg11)
      ∧ r.2.mem ((c.tc : Thread Cert.Stats.nD Cert.Stats.τ).loc Cert.Stats.main_arg12) = m ((c.tc : Thread Cert.Stats.nD Cert.Stats.τ).loc Cert.Stats.main_arg12)
      ∧ r.2.mem ((c.tc : Thread Cert.Stats.nD Cert.Stats.τ).loc Cert.Stats.main_arg13) = m ((c.tc : Thread Cert.Stats.nD Cert.Stats.τ).loc Cert.Stats.main_arg13)
      ∧ r.2.mem ((c.tc : Thread Cert.Stats.nD Cert.Stats.τ).loc Cert.Stats.main_arg14) = m ((c.tc : Thread Cert.Stats.nD Cert.Stats.τ).loc Cert.Stats.main_arg14))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
      ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4)
      ∧ r.2.mem ((c.tc : Thread Cert.StatsIdeal.nD Cert.StatsIdeal.τ).loc Cert.StatsIdeal.main_arg5) = m ((c.tc : Thread Cert.StatsIdeal.nD Cert.StatsIdeal.τ).loc Cert.StatsIdeal.main_arg5)
      ∧ r.2.mem ((c.tc : Thread Cert.StatsIdeal.nD Cert.StatsIdeal.τ).loc Cert.StatsIdeal.main_arg6) = m ((c.tc : Thread Cert.StatsIdeal.nD Cert.StatsIdeal.τ).loc Cert.StatsIdeal.main_arg6)
      ∧ r.2.mem ((c.tc : Thread Cert.StatsIdeal.nD Cert.StatsIdeal.τ).loc Cert.StatsIdeal.main_arg7) = m ((c.tc : Thread Cert.StatsIdeal.nD Cert.StatsIdeal.τ).loc Cert.StatsIdeal.main_arg7)
      ∧ r.2.mem ((c.tc : Thread Cert.StatsIdeal.nD Cert.StatsIdeal.τ).loc Cert.StatsIdeal.main_arg8) = m ((c.tc : Thread Cert.StatsIdeal.nD Cert.StatsIdeal.τ).loc Cert.StatsIdeal.main_arg8)
      ∧ r.2.mem ((c.tc : Thread Cert.StatsIdeal.nD Cert.StatsIdeal.τ).loc Cert.StatsIdeal.main_arg9) = m ((c.tc : Thread Cert.StatsIdeal.nD Cert.StatsIdeal.τ).loc Cert.StatsIdeal.main_arg9)
      ∧ r.2.mem ((c.tc : Thread Cert.StatsIdeal.nD Cert.StatsIdeal.τ).loc Cert.StatsIdeal.main_arg10) = m ((c.tc : Thread Cert.StatsIdeal.nD Cert.StatsIdeal.τ).loc Cert.StatsIdeal.main_arg10)
      ∧ r.2.mem ((c.tc : Thread Cert.StatsIdeal.nD Cert.StatsIdeal.τ).loc Cert.StatsIdeal.main_arg11) = m ((c.tc : Thread Cert.StatsIdeal.nD Cert.StatsIdeal.τ).loc Cert.StatsIdeal.main_arg11)
      ∧ r.2.mem ((c.tc : Thread Cert.StatsIdeal.nD Cert.StatsIdeal.τ).loc Cert.StatsIdeal.main_arg12) = m ((c.tc : Thread Cert.StatsIdeal.nD Cert.StatsIdeal.τ).loc Cert.StatsIdeal.main_arg12)
      ∧ r.2.mem ((c.tc : Thread Cert.StatsIdeal.nD Cert.StatsIdeal.τ).loc Cert.StatsIdeal.main_arg13) = m ((c.tc : Thread Cert.StatsIdeal.nD Cert.StatsIdeal.τ).loc Cert.StatsIdeal.main_arg13)
      ∧ r.2.mem ((c.tc : Thread Cert.StatsIdeal.nD Cert.StatsIdeal.τ).loc Cert.StatsIdeal.main_arg14) = m ((c.tc : Thread Cert.StatsIdeal.nD Cert.StatsIdeal.τ).loc Cert.StatsIdeal.main_arg14))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2)
      ∧ r.2.mem ((c.tc : Thread Cert.StatsReferenceIdeal.nD Cert.StatsReferenceIdeal.τ).loc Cert.StatsReferenceIdeal.main_arg3) = m ((c.tc : Thread Cert.StatsReferenceIdeal.nD Cert.StatsReferenceIdeal.τ).loc Cert.StatsReferenceIdeal.main_arg3)
      ∧ r.2.mem ((c.tc : Thread Cert.StatsReferenceIdeal.nD Cert.StatsReferenceIdeal.τ).loc Cert.StatsReferenceIdeal.main_arg4) = m ((c.tc : Thread Cert.StatsReferenceIdeal.nD Cert.StatsReferenceIdeal.τ).loc Cert.StatsReferenceIdeal.main_arg4)
      ∧ r.2.mem ((c.tc : Thread Cert.StatsReferenceIdeal.nD Cert.StatsReferenceIdeal.τ).loc Cert.StatsReferenceIdeal.main_arg5) = m ((c.tc : Thread Cert.StatsReferenceIdeal.nD Cert.StatsReferenceIdeal.τ).loc Cert.StatsReferenceIdeal.main_arg5)
      ∧ r.2.mem ((c.tc : Thread Cert.StatsReferenceIdeal.nD Cert.StatsReferenceIdeal.τ).loc Cert.StatsReferenceIdeal.main_arg6) = m ((c.tc : Thread Cert.StatsReferenceIdeal.nD Cert.StatsReferenceIdeal.τ).loc Cert.StatsReferenceIdeal.main_arg6)
      ∧ r.2.mem ((c.tc : Thread Cert.StatsReferenceIdeal.nD Cert.StatsReferenceIdeal.τ).loc Cert.StatsReferenceIdeal.main_arg7) = m ((c.tc : Thread Cert.StatsReferenceIdeal.nD Cert.StatsReferenceIdeal.τ).loc Cert.StatsReferenceIdeal.main_arg7)
      ∧ r.2.mem ((c.tc : Thread Cert.StatsReferenceIdeal.nD Cert.StatsReferenceIdeal.τ).loc Cert.StatsReferenceIdeal.main_arg8) = m ((c.tc : Thread Cert.StatsReferenceIdeal.nD Cert.StatsReferenceIdeal.τ).loc Cert.StatsReferenceIdeal.main_arg8)
      ∧ r.2.mem ((c.tc : Thread Cert.StatsReferenceIdeal.nD Cert.StatsReferenceIdeal.τ).loc Cert.StatsReferenceIdeal.main_arg9) = m ((c.tc : Thread Cert.StatsReferenceIdeal.nD Cert.StatsReferenceIdeal.τ).loc Cert.StatsReferenceIdeal.main_arg9)
      ∧ r.2.mem ((c.tc : Thread Cert.StatsReferenceIdeal.nD Cert.StatsReferenceIdeal.τ).loc Cert.StatsReferenceIdeal.main_arg10) = m ((c.tc : Thread Cert.StatsReferenceIdeal.nD Cert.StatsReferenceIdeal.τ).loc Cert.StatsReferenceIdeal.main_arg10)
      ∧ r.2.mem ((c.tc : Thread Cert.StatsReferenceIdeal.nD Cert.StatsReferenceIdeal.τ).loc Cert.StatsReferenceIdeal.main_arg11) = m ((c.tc : Thread Cert.StatsReferenceIdeal.nD Cert.StatsReferenceIdeal.τ).loc Cert.StatsReferenceIdeal.main_arg11)
      ∧ r.2.mem ((c.tc : Thread Cert.StatsReferenceIdeal.nD Cert.StatsReferenceIdeal.τ).loc Cert.StatsReferenceIdeal.main_arg12) = m ((c.tc : Thread Cert.StatsReferenceIdeal.nD Cert.StatsReferenceIdeal.τ).loc Cert.StatsReferenceIdeal.main_arg12)
      ∧ r.2.mem ((c.tc : Thread Cert.StatsReferenceIdeal.nD Cert.StatsReferenceIdeal.τ).loc Cert.StatsReferenceIdeal.main_arg13) = m ((c.tc : Thread Cert.StatsReferenceIdeal.nD Cert.StatsReferenceIdeal.τ).loc Cert.StatsReferenceIdeal.main_arg13)
      ∧ r.2.mem ((c.tc : Thread Cert.StatsReferenceIdeal.nD Cert.StatsReferenceIdeal.τ).loc Cert.StatsReferenceIdeal.main_arg14) = m ((c.tc : Thread Cert.StatsReferenceIdeal.nD Cert.StatsReferenceIdeal.τ).loc Cert.StatsReferenceIdeal.main_arg14))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4)
      ∧ r.2.mem ((c.tc : Thread Cert.Grad.nD Cert.Grad.τ).loc Cert.Grad.main_arg5) = m ((c.tc : Thread Cert.Grad.nD Cert.Grad.τ).loc Cert.Grad.main_arg5)
      ∧ r.2.mem ((c.tc : Thread Cert.Grad.nD Cert.Grad.τ).loc Cert.Grad.main_arg6) = m ((c.tc : Thread Cert.Grad.nD Cert.Grad.τ).loc Cert.Grad.main_arg6)
      ∧ r.2.mem ((c.tc : Thread Cert.Grad.nD Cert.Grad.τ).loc Cert.Grad.main_arg7) = m ((c.tc : Thread Cert.Grad.nD Cert.Grad.τ).loc Cert.Grad.main_arg7)
      ∧ r.2.mem ((c.tc : Thread Cert.Grad.nD Cert.Grad.τ).loc Cert.Grad.main_arg8) = m ((c.tc : Thread Cert.Grad.nD Cert.Grad.τ).loc Cert.Grad.main_arg8)
      ∧ r.2.mem ((c.tc : Thread Cert.Grad.nD Cert.Grad.τ).loc Cert.Grad.main_arg9) = m ((c.tc : Thread Cert.Grad.nD Cert.Grad.τ).loc Cert.Grad.main_arg9)
      ∧ r.2.mem ((c.tc : Thread Cert.Grad.nD Cert.Grad.τ).loc Cert.Grad.main_arg10) = m ((c.tc : Thread Cert.Grad.nD Cert.Grad.τ).loc Cert.Grad.main_arg10))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
      ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
      ∧ r.2.mem ((c.tc : Thread Cert.GradIdeal.nD Cert.GradIdeal.τ).loc Cert.GradIdeal.main_arg10) = m ((c.tc : Thread Cert.GradIdeal.nD Cert.GradIdeal.τ).loc Cert.GradIdeal.main_arg10))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1)
      ∧ r.2.mem ((c.tc : Thread Cert.GradReferenceIdeal.nD Cert.GradReferenceIdeal.τ).loc Cert.GradReferenceIdeal.main_arg2) = m ((c.tc : Thread Cert.GradReferenceIdeal.nD Cert.GradReferenceIdeal.τ).loc Cert.GradReferenceIdeal.main_arg2)
      ∧ r.2.mem ((c.tc : Thread Cert.GradReferenceIdeal.nD Cert.GradReferenceIdeal.τ).loc Cert.GradReferenceIdeal.main_arg3) = m ((c.tc : Thread Cert.GradReferenceIdeal.nD Cert.GradReferenceIdeal.τ).loc Cert.GradReferenceIdeal.main_arg3)
      ∧ r.2.mem ((c.tc : Thread Cert.GradReferenceIdeal.nD Cert.GradReferenceIdeal.τ).loc Cert.GradReferenceIdeal.main_arg4) = m ((c.tc : Thread Cert.GradReferenceIdeal.nD Cert.GradReferenceIdeal.τ).loc Cert.GradReferenceIdeal.main_arg4)
      ∧ r.2.mem ((c.tc : Thread Cert.GradReferenceIdeal.nD Cert.GradReferenceIdeal.τ).loc Cert.GradReferenceIdeal.main_arg5) = m ((c.tc : Thread Cert.GradReferenceIdeal.nD Cert.GradReferenceIdeal.τ).loc Cert.GradReferenceIdeal.main_arg5)
      ∧ r.2.mem ((c.tc : Thread Cert.GradReferenceIdeal.nD Cert.GradReferenceIdeal.τ).loc Cert.GradReferenceIdeal.main_arg6) = m ((c.tc : Thread Cert.GradReferenceIdeal.nD Cert.GradReferenceIdeal.τ).loc Cert.GradReferenceIdeal.main_arg6)
      ∧ r.2.mem ((c.tc : Thread Cert.GradReferenceIdeal.nD Cert.GradReferenceIdeal.τ).loc Cert.GradReferenceIdeal.main_arg7) = m ((c.tc : Thread Cert.GradReferenceIdeal.nD Cert.GradReferenceIdeal.τ).loc Cert.GradReferenceIdeal.main_arg7)
      ∧ r.2.mem ((c.tc : Thread Cert.GradReferenceIdeal.nD Cert.GradReferenceIdeal.τ).loc Cert.GradReferenceIdeal.main_arg8) = m ((c.tc : Thread Cert.GradReferenceIdeal.nD Cert.GradReferenceIdeal.τ).loc Cert.GradReferenceIdeal.main_arg8)
      ∧ r.2.mem ((c.tc : Thread Cert.GradReferenceIdeal.nD Cert.GradReferenceIdeal.τ).loc Cert.GradReferenceIdeal.main_arg9) = m ((c.tc : Thread Cert.GradReferenceIdeal.nD Cert.GradReferenceIdeal.τ).loc Cert.GradReferenceIdeal.main_arg9)
      ∧ r.2.mem ((c.tc : Thread Cert.GradReferenceIdeal.nD Cert.GradReferenceIdeal.τ).loc Cert.GradReferenceIdeal.main_arg10) = m ((c.tc : Thread Cert.GradReferenceIdeal.nD Cert.GradReferenceIdeal.τ).loc Cert.GradReferenceIdeal.main_arg10))
      ∧ r.2.sem = fun _ => 0)

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v2_0)) (v1 : (c : Dev Cert.PrepIdeal.nD) → Buf (Elt Ideal) ((c.tc : Thread Cert.PrepIdeal.nD Cert.PrepIdeal.τ).loc Cert.PrepIdeal.main_v3)) (v2 : (c : Dev Cert.PrepIdeal.nD) → Buf (Elt Ideal) ((c.tc : Thread Cert.PrepIdeal.nD Cert.PrepIdeal.τ).loc Cert.PrepIdeal.main_v2_3)) (v3 : (c : Dev Cert.PrepIdeal.nD) → Buf (Elt Ideal) ((c.tc : Thread Cert.PrepIdeal.nD Cert.PrepIdeal.τ).loc Cert.PrepIdeal.main_v4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v2_0) = v0 c
          ∧ r.2.mem ((c.tc : Thread Cert.PrepIdeal.nD Cert.PrepIdeal.τ).loc Cert.PrepIdeal.main_v3) = v1 c
          ∧ r.2.mem ((c.tc : Thread Cert.PrepIdeal.nD Cert.PrepIdeal.τ).loc Cert.PrepIdeal.main_v2_3) = v2 c
          ∧ r.2.mem ((c.tc : Thread Cert.PrepIdeal.nD Cert.PrepIdeal.τ).loc Cert.PrepIdeal.main_v4) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v2_0) = v0 c
          ∧ r.2.mem ((c.tc : Thread Cert.PrepReferenceIdeal.nD Cert.PrepReferenceIdeal.τ).loc Cert.PrepReferenceIdeal.main_v3) = v1 c
          ∧ r.2.mem ((c.tc : Thread Cert.PrepReferenceIdeal.nD Cert.PrepReferenceIdeal.τ).loc Cert.PrepReferenceIdeal.main_v2_2) = v2 c
          ∧ r.2.mem ((c.tc : Thread Cert.PrepReferenceIdeal.nD Cert.PrepReferenceIdeal.τ).loc Cert.PrepReferenceIdeal.main_v4) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3))

def preserves_Stats_StatsIdeal : Prop :=
  True

def algebraic_StatsIdeal_StatsReferenceIdeal [hStatsIdeal : Cert.StatsIdeal.Facts] [hStatsReferenceIdeal : Cert.StatsReferenceIdeal.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)
      ∧ m' ((c.tc : Thread Cert.StatsReferenceIdeal.nD Cert.StatsReferenceIdeal.τ).loc Cert.StatsReferenceIdeal.main_arg1) = m ((c.tc : Thread Cert.StatsIdeal.nD Cert.StatsIdeal.τ).loc Cert.StatsIdeal.main_arg1)
      ∧ m' ((c.tc : Thread Cert.StatsReferenceIdeal.nD Cert.StatsReferenceIdeal.τ).loc Cert.StatsReferenceIdeal.main_arg2) = m ((c.tc : Thread Cert.StatsIdeal.nD Cert.StatsIdeal.τ).loc Cert.StatsIdeal.main_arg2)
      ∧ m' ((c.tc : Thread Cert.StatsReferenceIdeal.nD Cert.StatsReferenceIdeal.τ).loc Cert.StatsReferenceIdeal.main_arg3) = m ((c.tc : Thread Cert.StatsIdeal.nD Cert.StatsIdeal.τ).loc Cert.StatsIdeal.main_arg3)
      ∧ m' ((c.tc : Thread Cert.StatsReferenceIdeal.nD Cert.StatsReferenceIdeal.τ).loc Cert.StatsReferenceIdeal.main_arg4) = m ((c.tc : Thread Cert.StatsIdeal.nD Cert.StatsIdeal.τ).loc Cert.StatsIdeal.main_arg4)
      ∧ m' ((c.tc : Thread Cert.StatsReferenceIdeal.nD Cert.StatsReferenceIdeal.τ).loc Cert.StatsReferenceIdeal.main_arg5) = m ((c.tc : Thread Cert.StatsIdeal.nD Cert.StatsIdeal.τ).loc Cert.StatsIdeal.main_arg5)
      ∧ m' ((c.tc : Thread Cert.StatsReferenceIdeal.nD Cert.StatsReferenceIdeal.τ).loc Cert.StatsReferenceIdeal.main_arg6) = m ((c.tc : Thread Cert.StatsIdeal.nD Cert.StatsIdeal.τ).loc Cert.StatsIdeal.main_arg6)
      ∧ m' ((c.tc : Thread Cert.StatsReferenceIdeal.nD Cert.StatsReferenceIdeal.τ).loc Cert.StatsReferenceIdeal.main_arg7) = m ((c.tc : Thread Cert.StatsIdeal.nD Cert.StatsIdeal.τ).loc Cert.StatsIdeal.main_arg7)
      ∧ m' ((c.tc : Thread Cert.StatsReferenceIdeal.nD Cert.StatsReferenceIdeal.τ).loc Cert.StatsReferenceIdeal.main_arg8) = m ((c.tc : Thread Cert.StatsIdeal.nD Cert.StatsIdeal.τ).loc Cert.StatsIdeal.main_arg8)
      ∧ m' ((c.tc : Thread Cert.StatsReferenceIdeal.nD Cert.StatsReferenceIdeal.τ).loc Cert.StatsReferenceIdeal.main_arg9) = m ((c.tc : Thread Cert.StatsIdeal.nD Cert.StatsIdeal.τ).loc Cert.StatsIdeal.main_arg9)
      ∧ m' ((c.tc : Thread Cert.StatsReferenceIdeal.nD Cert.StatsReferenceIdeal.τ).loc Cert.StatsReferenceIdeal.main_arg10) = m ((c.tc : Thread Cert.StatsIdeal.nD Cert.StatsIdeal.τ).loc Cert.StatsIdeal.main_arg10)
      ∧ m' ((c.tc : Thread Cert.StatsReferenceIdeal.nD Cert.StatsReferenceIdeal.τ).loc Cert.StatsReferenceIdeal.main_arg11) = m ((c.tc : Thread Cert.StatsIdeal.nD Cert.StatsIdeal.τ).loc Cert.StatsIdeal.main_arg11)
      ∧ m' ((c.tc : Thread Cert.StatsReferenceIdeal.nD Cert.StatsReferenceIdeal.τ).loc Cert.StatsReferenceIdeal.main_arg12) = m ((c.tc : Thread Cert.StatsIdeal.nD Cert.StatsIdeal.τ).loc Cert.StatsIdeal.main_arg12)
      ∧ m' ((c.tc : Thread Cert.StatsReferenceIdeal.nD Cert.StatsReferenceIdeal.τ).loc Cert.StatsReferenceIdeal.main_arg13) = m ((c.tc : Thread Cert.StatsIdeal.nD Cert.StatsIdeal.τ).loc Cert.StatsIdeal.main_arg13)
      ∧ m' ((c.tc : Thread Cert.StatsReferenceIdeal.nD Cert.StatsReferenceIdeal.τ).loc Cert.StatsReferenceIdeal.main_arg14) = m ((c.tc : Thread Cert.StatsIdeal.nD Cert.StatsIdeal.τ).loc Cert.StatsIdeal.main_arg14)) →
    ∃ (v0 : (c : Dev Cert.StatsIdeal.nD) → Buf (Elt Ideal) ((c.tc : Thread Cert.StatsIdeal.nD Cert.StatsIdeal.τ).loc Cert.StatsIdeal.main_v10_0)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v10_0) = v0 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
          ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
          ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4)
          ∧ r.2.mem ((c.tc : Thread Cert.StatsIdeal.nD Cert.StatsIdeal.τ).loc Cert.StatsIdeal.main_arg5) = m ((c.tc : Thread Cert.StatsIdeal.nD Cert.StatsIdeal.τ).loc Cert.StatsIdeal.main_arg5)
          ∧ r.2.mem ((c.tc : Thread Cert.StatsIdeal.nD Cert.StatsIdeal.τ).loc Cert.StatsIdeal.main_arg6) = m ((c.tc : Thread Cert.StatsIdeal.nD Cert.StatsIdeal.τ).loc Cert.StatsIdeal.main_arg6)
          ∧ r.2.mem ((c.tc : Thread Cert.StatsIdeal.nD Cert.StatsIdeal.τ).loc Cert.StatsIdeal.main_arg7) = m ((c.tc : Thread Cert.StatsIdeal.nD Cert.StatsIdeal.τ).loc Cert.StatsIdeal.main_arg7)
          ∧ r.2.mem ((c.tc : Thread Cert.StatsIdeal.nD Cert.StatsIdeal.τ).loc Cert.StatsIdeal.main_arg8) = m ((c.tc : Thread Cert.StatsIdeal.nD Cert.StatsIdeal.τ).loc Cert.StatsIdeal.main_arg8)
          ∧ r.2.mem ((c.tc : Thread Cert.StatsIdeal.nD Cert.StatsIdeal.τ).loc Cert.StatsIdeal.main_arg9) = m ((c.tc : Thread Cert.StatsIdeal.nD Cert.StatsIdeal.τ).loc Cert.StatsIdeal.main_arg9)
          ∧ r.2.mem ((c.tc : Thread Cert.StatsIdeal.nD Cert.StatsIdeal.τ).loc Cert.StatsIdeal.main_arg10) = m ((c.tc : Thread Cert.StatsIdeal.nD Cert.StatsIdeal.τ).loc Cert.StatsIdeal.main_arg10)
          ∧ r.2.mem ((c.tc : Thread Cert.StatsIdeal.nD Cert.StatsIdeal.τ).loc Cert.StatsIdeal.main_arg11) = m ((c.tc : Thread Cert.StatsIdeal.nD Cert.StatsIdeal.τ).loc Cert.StatsIdeal.main_arg11)
          ∧ r.2.mem ((c.tc : Thread Cert.StatsIdeal.nD Cert.StatsIdeal.τ).loc Cert.StatsIdeal.main_arg12) = m ((c.tc : Thread Cert.StatsIdeal.nD Cert.StatsIdeal.τ).loc Cert.StatsIdeal.main_arg12)
          ∧ r.2.mem ((c.tc : Thread Cert.StatsIdeal.nD Cert.StatsIdeal.τ).loc Cert.StatsIdeal.main_arg13) = m ((c.tc : Thread Cert.StatsIdeal.nD Cert.StatsIdeal.τ).loc Cert.StatsIdeal.main_arg13)
          ∧ r.2.mem ((c.tc : Thread Cert.StatsIdeal.nD Cert.StatsIdeal.τ).loc Cert.StatsIdeal.main_arg14) = m ((c.tc : Thread Cert.StatsIdeal.nD Cert.StatsIdeal.τ).loc Cert.StatsIdeal.main_arg14))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          r.2.mem ((c.tc : Thread Cert.StatsReferenceIdeal.nD Cert.StatsReferenceIdeal.τ).loc Cert.StatsReferenceIdeal.main_v1) = v0 c
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0)
          ∧ r.2.mem ((c.tc : Thread Cert.StatsReferenceIdeal.nD Cert.StatsReferenceIdeal.τ).loc Cert.StatsReferenceIdeal.main_arg1) = m' ((c.tc : Thread Cert.StatsReferenceIdeal.nD Cert.StatsReferenceIdeal.τ).loc Cert.StatsReferenceIdeal.main_arg1)
          ∧ r.2.mem ((c.tc : Thread Cert.StatsReferenceIdeal.nD Cert.StatsReferenceIdeal.τ).loc Cert.StatsReferenceIdeal.main_arg2) = m' ((c.tc : Thread Cert.StatsReferenceIdeal.nD Cert.StatsReferenceIdeal.τ).loc Cert.StatsReferenceIdeal.main_arg2)
          ∧ r.2.mem ((c.tc : Thread Cert.StatsReferenceIdeal.nD Cert.StatsReferenceIdeal.τ).loc Cert.StatsReferenceIdeal.main_arg3) = m' ((c.tc : Thread Cert.StatsReferenceIdeal.nD Cert.StatsReferenceIdeal.τ).loc Cert.StatsReferenceIdeal.main_arg3)
          ∧ r.2.mem ((c.tc : Thread Cert.StatsReferenceIdeal.nD Cert.StatsReferenceIdeal.τ).loc Cert.StatsReferenceIdeal.main_arg4) = m' ((c.tc : Thread Cert.StatsReferenceIdeal.nD Cert.StatsReferenceIdeal.τ).loc Cert.StatsReferenceIdeal.main_arg4)
          ∧ r.2.mem ((c.tc : Thread Cert.StatsReferenceIdeal.nD Cert.StatsReferenceIdeal.τ).loc Cert.StatsReferenceIdeal.main_arg5) = m' ((c.tc : Thread Cert.StatsReferenceIdeal.nD Cert.StatsReferenceIdeal.τ).loc Cert.StatsReferenceIdeal.main_arg5)
          ∧ r.2.mem ((c.tc : Thread Cert.StatsReferenceIdeal.nD Cert.StatsReferenceIdeal.τ).loc Cert.StatsReferenceIdeal.main_arg6) = m' ((c.tc : Thread Cert.StatsReferenceIdeal.nD Cert.StatsReferenceIdeal.τ).loc Cert.StatsReferenceIdeal.main_arg6)
          ∧ r.2.mem ((c.tc : Thread Cert.StatsReferenceIdeal.nD Cert.StatsReferenceIdeal.τ).loc Cert.StatsReferenceIdeal.main_arg7) = m' ((c.tc : Thread Cert.StatsReferenceIdeal.nD Cert.StatsReferenceIdeal.τ).loc Cert.StatsReferenceIdeal.main_arg7)
          ∧ r.2.mem ((c.tc : Thread Cert.StatsReferenceIdeal.nD Cert.StatsReferenceIdeal.τ).loc Cert.StatsReferenceIdeal.main_arg8) = m' ((c.tc : Thread Cert.StatsReferenceIdeal.nD Cert.StatsReferenceIdeal.τ).loc Cert.StatsReferenceIdeal.main_arg8)
          ∧ r.2.mem ((c.tc : Thread Cert.StatsReferenceIdeal.nD Cert.StatsReferenceIdeal.τ).loc Cert.StatsReferenceIdeal.main_arg9) = m' ((c.tc : Thread Cert.StatsReferenceIdeal.nD Cert.StatsReferenceIdeal.τ).loc Cert.StatsReferenceIdeal.main_arg9)
          ∧ r.2.mem ((c.tc : Thread Cert.StatsReferenceIdeal.nD Cert.StatsReferenceIdeal.τ).loc Cert.StatsReferenceIdeal.main_arg10) = m' ((c.tc : Thread Cert.StatsReferenceIdeal.nD Cert.StatsReferenceIdeal.τ).loc Cert.StatsReferenceIdeal.main_arg10)
          ∧ r.2.mem ((c.tc : Thread Cert.StatsReferenceIdeal.nD Cert.StatsReferenceIdeal.τ).loc Cert.StatsReferenceIdeal.main_arg11) = m' ((c.tc : Thread Cert.StatsReferenceIdeal.nD Cert.StatsReferenceIdeal.τ).loc Cert.StatsReferenceIdeal.main_arg11)
          ∧ r.2.mem ((c.tc : Thread Cert.StatsReferenceIdeal.nD Cert.StatsReferenceIdeal.τ).loc Cert.StatsReferenceIdeal.main_arg12) = m' ((c.tc : Thread Cert.StatsReferenceIdeal.nD Cert.StatsReferenceIdeal.τ).loc Cert.StatsReferenceIdeal.main_arg12)
          ∧ r.2.mem ((c.tc : Thread Cert.StatsReferenceIdeal.nD Cert.StatsReferenceIdeal.τ).loc Cert.StatsReferenceIdeal.main_arg13) = m' ((c.tc : Thread Cert.StatsReferenceIdeal.nD Cert.StatsReferenceIdeal.τ).loc Cert.StatsReferenceIdeal.main_arg13)
          ∧ r.2.mem ((c.tc : Thread Cert.StatsReferenceIdeal.nD Cert.StatsReferenceIdeal.τ).loc Cert.StatsReferenceIdeal.main_arg14) = m' ((c.tc : Thread Cert.StatsReferenceIdeal.nD Cert.StatsReferenceIdeal.τ).loc Cert.StatsReferenceIdeal.main_arg14))

def preserves_Grad_GradIdeal : Prop :=
  True

def algebraic_GradIdeal_GradReferenceIdeal [hGradIdeal : Cert.GradIdeal.Facts] [hGradReferenceIdeal : Cert.GradReferenceIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradIdeal m →
    (∀ c : Dev Cert.GradIdeal.nD,
      m' ((c.tc : Thread Cert.GradReferenceIdeal.nD Cert.GradReferenceIdeal.τ).loc Cert.GradReferenceIdeal.main_arg0) = m ((c.tc : Thread Cert.GradIdeal.nD Cert.GradIdeal.τ).loc Cert.GradIdeal.main_arg0)
      ∧ m' ((c.tc : Thread Cert.GradReferenceIdeal.nD Cert.GradReferenceIdeal.τ).loc Cert.GradReferenceIdeal.main_arg1) = m ((c.tc : Thread Cert.GradIdeal.nD Cert.GradIdeal.τ).loc Cert.GradIdeal.main_arg1)
      ∧ m' ((c.tc : Thread Cert.GradReferenceIdeal.nD Cert.GradReferenceIdeal.τ).loc Cert.GradReferenceIdeal.main_arg2) = m ((c.tc : Thread Cert.GradIdeal.nD Cert.GradIdeal.τ).loc Cert.GradIdeal.main_arg2)
      ∧ m' ((c.tc : Thread Cert.GradReferenceIdeal.nD Cert.GradReferenceIdeal.τ).loc Cert.GradReferenceIdeal.main_arg3) = m ((c.tc : Thread Cert.GradIdeal.nD Cert.GradIdeal.τ).loc Cert.GradIdeal.main_arg3)
      ∧ m' ((c.tc : Thread Cert.GradReferenceIdeal.nD Cert.GradReferenceIdeal.τ).loc Cert.GradReferenceIdeal.main_arg4) = m ((c.tc : Thread Cert.GradIdeal.nD Cert.GradIdeal.τ).loc Cert.GradIdeal.main_arg4)
      ∧ m' ((c.tc : Thread Cert.GradReferenceIdeal.nD Cert.GradReferenceIdeal.τ).loc Cert.GradReferenceIdeal.main_arg5) = m ((c.tc : Thread Cert.GradIdeal.nD Cert.GradIdeal.τ).loc Cert.GradIdeal.main_arg5)
      ∧ m' ((c.tc : Thread Cert.GradReferenceIdeal.nD Cert.GradReferenceIdeal.τ).loc Cert.GradReferenceIdeal.main_arg6) = m ((c.tc : Thread Cert.GradIdeal.nD Cert.GradIdeal.τ).loc Cert.GradIdeal.main_arg6)
      ∧ m' ((c.tc : Thread Cert.GradReferenceIdeal.nD Cert.GradReferenceIdeal.τ).loc Cert.GradReferenceIdeal.main_arg7) = m ((c.tc : Thread Cert.GradIdeal.nD Cert.GradIdeal.τ).loc Cert.GradIdeal.main_arg7)
      ∧ m' ((c.tc : Thread Cert.GradReferenceIdeal.nD Cert.GradReferenceIdeal.τ).loc Cert.GradReferenceIdeal.main_arg8) = m ((c.tc : Thread Cert.GradIdeal.nD Cert.GradIdeal.τ).loc Cert.GradIdeal.main_arg8)
      ∧ m' ((c.tc : Thread Cert.GradReferenceIdeal.nD Cert.GradReferenceIdeal.τ).loc Cert.GradReferenceIdeal.main_arg9) = m ((c.tc : Thread Cert.GradIdeal.nD Cert.GradIdeal.τ).loc Cert.GradIdeal.main_arg9)
      ∧ m' ((c.tc : Thread Cert.GradReferenceIdeal.nD Cert.GradReferenceIdeal.τ).loc Cert.GradReferenceIdeal.main_arg10) = m ((c.tc : Thread Cert.GradIdeal.nD Cert.GradIdeal.τ).loc Cert.GradIdeal.main_arg10)) →
    ∃ (v0 : (c : Dev Cert.GradIdeal.nD) → Buf (Elt Ideal) ((c.tc : Thread Cert.GradIdeal.nD Cert.GradIdeal.τ).loc Cert.GradIdeal.main_v12_1)) (v1 : (c : Dev Cert.GradIdeal.nD) → Buf (Elt Ideal) ((c.tc : Thread Cert.GradIdeal.nD Cert.GradIdeal.τ).loc Cert.GradIdeal.main_v12_0)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v12_1) = v0 c
          ∧ r.2.mem ((c.tc : Thread Cert.GradIdeal.nD Cert.GradIdeal.τ).loc Cert.GradIdeal.main_v12_0) = v1 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
          ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
          ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
          ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
          ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
          ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
          ∧ r.2.mem ((c.tc : Thread Cert.GradIdeal.nD Cert.GradIdeal.τ).loc Cert.GradIdeal.main_arg10) = m ((c.tc : Thread Cert.GradIdeal.nD Cert.GradIdeal.τ).loc Cert.GradIdeal.main_arg10))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v8_0) = v0 c
          ∧ r.2.mem ((c.tc : Thread Cert.GradReferenceIdeal.nD Cert.GradReferenceIdeal.τ).loc Cert.GradReferenceIdeal.main_v8_1) = v1 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1)
          ∧ r.2.mem ((c.tc : Thread Cert.GradReferenceIdeal.nD Cert.GradReferenceIdeal.τ).loc Cert.GradReferenceIdeal.main_arg2) = m' ((c.tc : Thread Cert.GradReferenceIdeal.nD Cert.GradReferenceIdeal.τ).loc Cert.GradReferenceIdeal.main_arg2)
          ∧ r.2.mem ((c.tc : Thread Cert.GradReferenceIdeal.nD Cert.GradReferenceIdeal.τ).loc Cert.GradReferenceIdeal.main_arg3) = m' ((c.tc : Thread Cert.GradReferenceIdeal.nD Cert.GradReferenceIdeal.τ).loc Cert.GradReferenceIdeal.main_arg3)
          ∧ r.2.mem ((c.tc : Thread Cert.GradReferenceIdeal.nD Cert.GradReferenceIdeal.τ).loc Cert.GradReferenceIdeal.main_arg4) = m' ((c.tc : Thread Cert.GradReferenceIdeal.nD Cert.GradReferenceIdeal.τ).loc Cert.GradReferenceIdeal.main_arg4)
          ∧ r.2.mem ((c.tc : Thread Cert.GradReferenceIdeal.nD Cert.GradReferenceIdeal.τ).loc Cert.GradReferenceIdeal.main_arg5) = m' ((c.tc : Thread Cert.GradReferenceIdeal.nD Cert.GradReferenceIdeal.τ).loc Cert.GradReferenceIdeal.main_arg5)
          ∧ r.2.mem ((c.tc : Thread Cert.GradReferenceIdeal.nD Cert.GradReferenceIdeal.τ).loc Cert.GradReferenceIdeal.main_arg6) = m' ((c.tc : Thread Cert.GradReferenceIdeal.nD Cert.GradReferenceIdeal.τ).loc Cert.GradReferenceIdeal.main_arg6)
          ∧ r.2.mem ((c.tc : Thread Cert.GradReferenceIdeal.nD Cert.GradReferenceIdeal.τ).loc Cert.GradReferenceIdeal.main_arg7) = m' ((c.tc : Thread Cert.GradReferenceIdeal.nD Cert.GradReferenceIdeal.τ).loc Cert.GradReferenceIdeal.main_arg7)
          ∧ r.2.mem ((c.tc : Thread Cert.GradReferenceIdeal.nD Cert.GradReferenceIdeal.τ).loc Cert.GradReferenceIdeal.main_arg8) = m' ((c.tc : Thread Cert.GradReferenceIdeal.nD Cert.GradReferenceIdeal.τ).loc Cert.GradReferenceIdeal.main_arg8)
          ∧ r.2.mem ((c.tc : Thread Cert.GradReferenceIdeal.nD Cert.GradReferenceIdeal.τ).loc Cert.GradReferenceIdeal.main_arg9) = m' ((c.tc : Thread Cert.GradReferenceIdeal.nD Cert.GradReferenceIdeal.τ).loc Cert.GradReferenceIdeal.main_arg9)
          ∧ r.2.mem ((c.tc : Thread Cert.GradReferenceIdeal.nD Cert.GradReferenceIdeal.τ).loc Cert.GradReferenceIdeal.main_arg10) = m' ((c.tc : Thread Cert.GradReferenceIdeal.nD Cert.GradReferenceIdeal.τ).loc Cert.GradReferenceIdeal.main_arg10))

def Claim : Prop :=
  ∃ (hPrep : Cert.Prep.Facts) (hPrepIdeal : Cert.PrepIdeal.Facts) (hPrepReferenceIdeal : Cert.PrepReferenceIdeal.Facts) (hStats : Cert.Stats.Facts) (hStatsIdeal : Cert.StatsIdeal.Facts) (hStatsReferenceIdeal : Cert.StatsReferenceIdeal.Facts) (hGrad : Cert.Grad.Facts) (hGradIdeal : Cert.GradIdeal.Facts) (hGradReferenceIdeal : Cert.GradReferenceIdeal.Facts),
    quiescent_Prep (hPrep := hPrep)
    ∧ quiescent_PrepIdeal (hPrepIdeal := hPrepIdeal)
    ∧ quiescent_PrepReferenceIdeal (hPrepReferenceIdeal := hPrepReferenceIdeal)
    ∧ quiescent_Stats (hStats := hStats)
    ∧ quiescent_StatsIdeal (hStatsIdeal := hStatsIdeal)
    ∧ quiescent_StatsReferenceIdeal (hStatsReferenceIdeal := hStatsReferenceIdeal)
    ∧ quiescent_Grad (hGrad := hGrad)
    ∧ quiescent_GradIdeal (hGradIdeal := hGradIdeal)
    ∧ quiescent_GradReferenceIdeal (hGradReferenceIdeal := hGradReferenceIdeal)
    ∧ preserves_Prep_PrepIdeal
    ∧ algebraic_PrepIdeal_PrepReferenceIdeal (hPrepIdeal := hPrepIdeal) (hPrepReferenceIdeal := hPrepReferenceIdeal)
    ∧ preserves_Stats_StatsIdeal
    ∧ algebraic_StatsIdeal_StatsReferenceIdeal (hStatsIdeal := hStatsIdeal) (hStatsReferenceIdeal := hStatsReferenceIdeal)
    ∧ preserves_Grad_GradIdeal
    ∧ algebraic_GradIdeal_GradReferenceIdeal (hGradIdeal := hGradIdeal) (hGradReferenceIdeal := hGradReferenceIdeal)
-- ==== Prep.lean ====
abbrev S1024x2560 : Shape := ⟨2, ![1024, 2560]⟩
abbrev S2560 : Shape := ⟨1, ![2560]⟩
abbrev S1x2560 : Shape := ⟨2, ![1, 2560]⟩
abbrev S1x1024 : Shape := ⟨2, ![1, 1024]⟩
abbrev S1024x128 : Shape := ⟨2, ![1024, 128]⟩
abbrev S128x2560 : Shape := ⟨2, ![128, 2560]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S1024x2560, .bf16⟩
  | .hbm, ⟨1, _⟩ => ⟨S1024x2560, .bf16⟩
  | .hbm, ⟨2, _⟩ => ⟨S2560, .f32⟩
  | .hbm, ⟨3, _⟩ => ⟨S2560, .f32⟩
  | .hbm, ⟨4, _⟩ => ⟨S1x2560, .f32⟩
  | .hbm, ⟨5, _⟩ => ⟨S1x2560, .f32⟩
  | .hbm, ⟨6, _⟩ => ⟨S1024x2560, .fp8e4m3⟩
  | .hbm, ⟨7, _⟩ => ⟨S1x1024, .f32⟩
  | .hbm, ⟨8, _⟩ => ⟨S1024x128, .f32⟩
  | .hbm, ⟨9, _⟩ => ⟨S1024x2560, .fp8e4m3⟩
  | .hbm, ⟨10, _⟩ => ⟨S1x1024, .f32⟩
  | .hbm, ⟨11, _⟩ => ⟨S1024x128, .f32⟩
  | .hbm, ⟨12, _⟩ => ⟨S1024, .f32⟩
  | .hbm, ⟨13, _⟩ => ⟨S1024, .f32⟩
  | .local _ .vmem, ⟨0, _⟩ => ⟨S128x2560, .bf16⟩
  | .local _ .vmem, ⟨1, _⟩ => ⟨S128x2560, .bf16⟩
  | .local _ .vmem, ⟨2, _⟩ => ⟨S128x2560, .bf16⟩
  | .local _ .vmem, ⟨3, _⟩ => ⟨S128x2560, .bf16⟩
  | .local _ .vmem, ⟨4, _⟩ => ⟨S1x2560, .f32⟩
  | .local _ .vmem, ⟨5, _⟩ => ⟨S1x2560, .f32⟩
  | .local _ .vmem, ⟨6, _⟩ => ⟨S128x2560, .fp8e4m3⟩
  | .local _ .vmem, ⟨7, _⟩ => ⟨S128x2560, .fp8e4m3⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S128x2560, .fp8e4m3⟩
  | .local _ .vmem, ⟨13, _⟩ => ⟨S128x2560, .fp8e4m3⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S128x128, .f32⟩
  | _, _ => ⟨S1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2560 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2560 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrepReferenceIdeal.lean ====
abbrev S1024x2560 : Shape := ⟨2, ![1024, 2560]⟩
abbrev S2560 : Shape := ⟨1, ![2560]⟩
abbrev S1x2560 : Shape := ⟨2, ![1, 2560]⟩
abbrev S1024x1 : Shape := ⟨2, ![1024, 1]⟩
abbrev S1024 : Shape := ⟨1, ![1024]⟩

abbrev nBuf : Space → Nat
  | .hbm => 12
  | .vmem => 8
  | .smem => 0
  | _ => 0

abbrev bufTy : (tb : Table) → Fin (tcTables nBuf tb) → BufTy
  | .hbm, ⟨0, _⟩ => ⟨S1024x2560, .bf16⟩
  | .hbm, ⟨1, _⟩ => ⟨S1024x2560, .bf16⟩
  | .hbm, ⟨2, _⟩ => ⟨S2560, .f32⟩
  | .hbm, ⟨3, _⟩ => ⟨S2560, .f32⟩
  | .hbm, ⟨4, _⟩ => ⟨S1x2560, .f32⟩
  | .hbm, ⟨5, _⟩ => ⟨S1x2560, .f32⟩
  | .hbm, ⟨6, _⟩ => ⟨S1024x2560, .fp8e4m3⟩
  | .hbm, ⟨7, _⟩ => ⟨S1024x1, .f32⟩
  | .hbm, ⟨8, _⟩ => ⟨S1024x2560, .fp8e4m3⟩
  | .hbm, ⟨9, _⟩ => ⟨S1024x1, .f32⟩
  | .hbm, ⟨10, _⟩ => ⟨S1024, .f32⟩
  | .hbm, ⟨11, _⟩ => ⟨S1024, .f32⟩
  | .local _ .vmem, ⟨0, _⟩ => ⟨S1024x2560, .bf16⟩
  | .local _ .vmem, ⟨1, _⟩ => ⟨S1024x2560, .bf16⟩
  | .local _ .vmem, ⟨2, _⟩ => ⟨S1x2560, .f32⟩
  | .local _ .vmem, ⟨3, _⟩ => ⟨S1x2560, .f32⟩
  | .local _ .vmem, ⟨4, _⟩ => ⟨S1024x2560, .fp8e4m3⟩
  | .local _ .vmem, ⟨5, _⟩ => ⟨S1024x1, .f32⟩
  | .local _ .vmem, ⟨6, _⟩ => ⟨S1024x2560, .fp8e4m3⟩
  | .local _ .vmem, ⟨7, _⟩ => ⟨S1024x1, .f32⟩
  | _, _ => ⟨S1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Stats.lean ====
abbrev S17 : Shape := ⟨1, ![17]⟩
abbrev S16 : Shape := ⟨1, ![16]⟩
abbrev S1024x2560 : Shape := ⟨2, ![1024, 2560]⟩
abbrev S1024 : Shape := ⟨1, ![1024]⟩
abbrev S151936 : Shape := ⟨1, ![151936]⟩
abbrev S151936x2560 : Shape := ⟨2, ![151936, 2560]⟩
abbrev S1024x1 : Shape := ⟨2, ![1024, 1]⟩
abbrev S1024x128 : Shape := ⟨2, ![1024, 128]⟩
abbrev S1x1024 : Shape := ⟨2, ![1, 1024]⟩
abbrev S1x151936 : Shape := ⟨2, ![1, 151936]⟩
abbrev S1024x151936 : Shape := ⟨2, ![1024, 151936]⟩
abbrev S1x128 : Shape := ⟨2, ![1, 128]⟩
abbrev S1024x1024 : Shape := ⟨2, ![1024, 1024]⟩
abbrev S128x128 : Shape := ⟨2, ![128, 128]⟩
abbrev S256x2560 : Shape := ⟨2, ![256, 2560]⟩
abbrev S1024x256 : Shape := ⟨2, ![1024, 256]⟩
abbrev S1x256 : Shape := ⟨2, ![1, 256]⟩
abbrev S128x2560 : Shape := ⟨2, ![128, 2560]⟩
abbrev S1 : Shape := ⟨1, ![1]⟩
abbrev S1x1 : Shape := ⟨2, ![1, 1]⟩
abbrev S128 : Shape := ⟨1, ![128]⟩

abbrev nBuf : Space → Nat
  | .hbm => 37
  | .vmem => 39
  | .smem => 3
  | _ => 0

abbrev bufTy : (tb : Table) → Fin (tcTables nBuf tb) → BufTy
  | .hbm, ⟨0, _⟩ => ⟨S17, .i32⟩
  | .hbm, ⟨1, _⟩ => ⟨S16, .i32⟩
  | .hbm, ⟨2, _⟩ => ⟨S16, .f32⟩
  | .hbm, ⟨3, _⟩ => ⟨S1024x2560, .fp8e4m3⟩
  | .hbm, ⟨4, _⟩ => ⟨S1024x2560, .fp8e4m3⟩
  | .hbm, ⟨5, _⟩ => ⟨S1024, .f32⟩
  | .hbm, ⟨6, _⟩ => ⟨S1024, .f32⟩
  | .hbm, ⟨7, _⟩ => ⟨S1024, .i32⟩
  | .hbm, ⟨8, _⟩ => ⟨S1024, .f32⟩
  | .hbm, ⟨9, _⟩ => ⟨S1024, .i32⟩
  | .hbm, ⟨10, _⟩ => ⟨S1024, .f32⟩
  | .hbm, ⟨11, _⟩ => ⟨S151936, .f32⟩
  | .hbm, ⟨12, _⟩ => ⟨S151936, .f32⟩
  | .hbm, ⟨13, _⟩ => ⟨S151936x2560, .fp8e4m3⟩
  | .hbm, ⟨14, _⟩ => ⟨S151936x2560, .fp8e4m3⟩
  | .hbm, ⟨15, _⟩ => ⟨S1024x1, .f32⟩
  | .hbm, ⟨16, _⟩ => ⟨S1024x128, .f32⟩
  | .hbm, ⟨17, _⟩ => ⟨S1024x1, .f32⟩
  | .hbm, ⟨18, _⟩ => ⟨S1024x128, .f32⟩
  | .hbm, ⟨19, _⟩ => ⟨S1x1024, .i32⟩
  | .hbm, ⟨20, _⟩ => ⟨S1x1024, .f32⟩
  | .hbm, ⟨21, _⟩ => ⟨S1x1024, .i32⟩
  | .hbm, ⟨22, _⟩ => ⟨S1x1024, .f32⟩
  | .hbm, ⟨23, _⟩ => ⟨S1x151936, .f32⟩
  | .hbm, ⟨24, _⟩ => ⟨S1x151936, .f32⟩
  | .hbm, ⟨25, _⟩ => ⟨S1024x151936, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1024x128, .f32⟩
  | .hbm, ⟨35, _⟩ => ⟨S1024x128, .f32⟩
  | .hbm, ⟨36, _⟩ => ⟨S1024x128, .f32⟩
  | .local _ .vmem, ⟨0, _⟩ => ⟨S1024x2560, .fp8e4m3⟩
  | .local _ .vmem, ⟨1, _⟩ => ⟨S1024x2560, .fp8e4m3⟩
  | .local _ .vmem, ⟨2, _⟩ => ⟨S1024x128, .f32⟩
  | .local _ .vmem, ⟨3, _⟩ => ⟨S1024x128, .f32⟩
  | .local _ .vmem, ⟨4, _⟩ => ⟨S1x1024, .i32⟩
  | .local _ .vmem, ⟨5, _⟩ => ⟨S1x1024, .f32⟩
  | .local _ .vmem, ⟨6, _⟩ => ⟨S1x1024, .i32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x2560, .fp8e4m3⟩
  | .local _ .vmem, ⟨13, _⟩ => ⟨S1024x2560, .fp8e4m3⟩
  | .local _ .vmem, ⟨14, _⟩ => ⟨S1024x2560, .fp8e4m3⟩
  | .local _ .vmem, ⟨15, _⟩ => ⟨S1024x2560, .fp8e4m3⟩
  | .local _ .vmem, ⟨16, _⟩ => ⟨S1024x1024, .f32⟩
  | .local _ .vmem, ⟨17, _⟩ => ⟨S1024x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .i32⟩
  | .local _ .smem, ⟨0, _⟩ => ⟨S17, .i32⟩
  | .local _ .smem, ⟨1, _⟩ => ⟨S16, .i32⟩
  | .local _ .smem, ⟨2, _⟩ => ⟨S16, .f32⟩
  | _, _ => ⟨S17, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v10_3 : Ref sig .tc := ⟨.hbm, 28, rfl⟩
abbrev main_v10_4 : Ref sig .tc := ⟨.hbm, 29, rfl⟩
abbrev main_v10_5 : Ref sig .tc := ⟨.hbm, 30, rfl⟩
abbrev main_v10_6 : Ref sig .tc := ⟨.hbm, 31, rfl⟩
abbrev main_v10_7 : Ref sig .tc := ⟨.hbm, 32, rfl⟩
abbrev main_v10_8 : Ref sig .tc := ⟨.hbm, 33, rfl⟩
abbrev main_v10_9 : Ref sig .tc := ⟨.hbm, 34, rfl⟩
abbrev main_v10_10 : Ref sig .tc := ⟨.hbm, 35, rfl⟩
abbrev main_v10_11 : Ref sig .tc := ⟨.hbm, 36, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg11_1 : Ref sig .tc := ⟨.vmem, 9, rfl⟩
abbrev cc0_stg12_0 : Ref sig .tc := ⟨.vmem, 10, rfl⟩
abbrev cc0_stg12_1 : Ref sig .tc := ⟨.vmem, 11, rfl⟩
abbrev cc0_stg13_0 : Ref sig .tc := ⟨.vmem, 12, rfl⟩
abbrev cc0_stg13_1 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_scratch9 : Ref sig .tc := ⟨.vmem, 38, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem26_0 : DmaSem sig := 31

abbrev nD : Nat := 1
abbrev τ : Topo := Topo.v7x

variable {F : FTy → Type} [FloatOps F]

abbrev grid0 : Pipeline.Grid := ⟨1, ![149], ![false]⟩

def k0_cond2 (i : grid0.Coords) : BitVec 1 :=
  let arg0 : BitVec 32 := BitVec.ofNat 32 (i 0).val
  let c148_i32 : BitVec 32 := 148#32
  let v3 : BitVec 1 := Scalar.cmpi .slt arg0 c148_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c148_i32_2 : BitVec 32 := 148#32
  let v6 : BitVec 1 := Scalar.cmpi .eq arg0 c148_i32_2
  let v7 : BitVec 32 := Scalar.extui v6
  let c0_i32_3 : BitVec 32 := 0#32
  let v8 : BitVec 1 := Scalar.cmpi .ne v7 c0_i32_3
  v8

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x2560 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x2560 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1024x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1024x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1024x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== StatsReferenceIdeal.lean ====
abbrev S17 : Shape := ⟨1, ![17]⟩
abbrev S16 : Shape := ⟨1, ![16]⟩
abbrev S1024x2560 : Shape := ⟨2, ![1024, 2560]⟩
abbrev S1024 : Shape := ⟨1, ![1024]⟩
abbrev S151936 : Shape := ⟨1, ![151936]⟩
abbrev S151936x2560 : Shape := ⟨2, ![151936, 2560]⟩
abbrev S1x151936 : Shape := ⟨2, ![1, 151936]⟩
abbrev S1024x151936 : Shape := ⟨2, ![1024, 151936]⟩

abbrev nBuf : Space → Nat
  | .hbm => 17
  | .vmem => 4
  | .smem => 0
  | _ => 0

abbrev bufTy : (tb : Table) → Fin (tcTables nBuf tb) → BufTy
  | .hbm, ⟨0, _⟩ => ⟨S17, .i32⟩
  | .hbm, ⟨1, _⟩ => ⟨S16, .i32⟩
  | .hbm, ⟨2, _⟩ => ⟨S16, .f32⟩
  | .hbm, ⟨3, _⟩ => ⟨S1024x2560, .fp8e4m3⟩
  | .hbm, ⟨4, _⟩ => ⟨S1024x2560, .fp8e4m3⟩
  | .hbm, ⟨5, _⟩ => ⟨S1024, .f32⟩
  | .hbm, ⟨6, _⟩ => ⟨S1024, .f32⟩
  | .hbm, ⟨7, _⟩ => ⟨S1024, .i32⟩
  | .hbm, ⟨8, _⟩ => ⟨S1024, .f32⟩
  | .hbm, ⟨9, _⟩ => ⟨S1024, .i32⟩
  | .hbm, ⟨10, _⟩ => ⟨S1024, .f32⟩
  | .hbm, ⟨11, _⟩ => ⟨S151936, .f32⟩
  | .hbm, ⟨12, _⟩ => ⟨S151936, .f32⟩
  | .hbm, ⟨13, _⟩ => ⟨S151936x2560, .fp8e4m3⟩
  | .hbm, ⟨14, _⟩ => ⟨S151936x2560, .fp8e4m3⟩
  | .hbm, ⟨15, _⟩ => ⟨S1x151936, .f32⟩
  | .hbm, ⟨16, _⟩ => ⟨S1024x151936, .f32⟩
  | .local _ .vmem, ⟨0, _⟩ => ⟨S1024x2560, .fp8e4m3⟩
  | .local _ .vmem, ⟨1, _⟩ => ⟨S151936x2560, .fp8e4m3⟩
  | .local _ .vmem, ⟨2, _⟩ => ⟨S1x151936, .f32⟩
  | .local _ .vmem, ⟨3, _⟩ => ⟨S1024x151936, .f32⟩
  | _, _ => ⟨S17, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1024x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S151936x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x151936 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x151936 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Grad.lean ====
abbrev S1024x151936 : Shape := ⟨2, ![1024, 151936]⟩
abbrev S151936x2560 : Shape := ⟨2, ![151936, 2560]⟩
abbrev S151936 : Shape := ⟨1, ![151936]⟩
abbrev S1024 : Shape := ⟨1, ![1024]⟩
abbrev S1024x2560 : Shape := ⟨2, ![1024, 2560]⟩
abbrev S2560 : Shape := ⟨1, ![2560]⟩
abbrev S1x151936 : Shape := ⟨2, ![1, 151936]⟩
abbrev S1024x1 : Shape := ⟨2, ![1024, 1]⟩
abbrev S1024x128 : Shape := ⟨2, ![1024, 128]⟩
abbrev S1x1024 : Shape := ⟨2, ![1, 1024]⟩
abbrev S1x2560 : Shape := ⟨2, ![1, 2560]⟩
abbrev S1024x1024 : Shape := ⟨2, ![1024, 1024]⟩
abbrev S1x128 : Shape := ⟨2, ![1, 128]⟩
abbrev S128x128 : Shape := ⟨2, ![128, 128]⟩
abbrev S1024x384 : Shape := ⟨2, ![1024, 384]⟩
abbrev S384x2560 : Shape := ⟨2, ![384, 2560]⟩
abbrev S64x2560 : Shape := ⟨2, ![64, 2560]⟩
abbrev S64 : Shape := ⟨1, ![64]⟩
abbrev S64x1 : Shape := ⟨2, ![64, 1]⟩

abbrev nBuf : Space → Nat
  | .hbm => 25
  | .vmem => 19
  | .smem => 0
  | _ => 0

abbrev bufTy : (tb : Table) → Fin (tcTables nBuf tb) → BufTy
  | .hbm, ⟨0, _⟩ => ⟨S1024x151936, .f32⟩
  | .hbm, ⟨1, _⟩ => ⟨S151936x2560, .fp8e4m3⟩
  | .hbm, ⟨2, _⟩ => ⟨S151936, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .i32⟩
  | .hbm, ⟨8, _⟩ => ⟨S1024, .f32⟩
  | .hbm, ⟨9, _⟩ => ⟨S1024x2560, .bf16⟩
  | .hbm, ⟨10, _⟩ => ⟨S2560, .f32⟩
  | .hbm, ⟨11, _⟩ => ⟨S1x151936, .f32⟩
  | .hbm, ⟨12, _⟩ => ⟨S1024x1, .f32⟩
  | .hbm, ⟨13, _⟩ => ⟨S1024x128, .f32⟩
  | .hbm, ⟨14, _⟩ => ⟨S1024x1, .f32⟩
  | .hbm, ⟨15, _⟩ => ⟨S1024x128, .f32⟩
  | .hbm, ⟨16, _⟩ => ⟨S1024x1, .f32⟩
  | .hbm, ⟨17, _⟩ => ⟨S1024x128, .f32⟩
  | .hbm, ⟨18, _⟩ => ⟨S1024x1, .f32⟩
  | .hbm, ⟨19, _⟩ => ⟨S1024x128, .f32⟩
  | .hbm, ⟨20, _⟩ => ⟨S1x1024, .i32⟩
  | .hbm, ⟨21, _⟩ => ⟨S1x1024, .f32⟩
  | .hbm, ⟨22, _⟩ => ⟨S1x2560, .f32⟩
  | .hbm, ⟨23, _⟩ => ⟨S1024x151936, .fp8e5m2⟩
  | .hbm, ⟨24, _⟩ => ⟨S1024x2560, .bf16⟩
  | .local _ .vmem, ⟨0, _⟩ => ⟨S1024x1024, .f32⟩
  | .local _ .vmem, ⟨1, _⟩ => ⟨S1024x1024, .f32⟩
  | .local _ .vmem, ⟨2, _⟩ => ⟨S1024x2560, .fp8e4m3⟩
  | .local _ .vmem, ⟨3, _⟩ => ⟨S1024x2560, .fp8e4m3⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1024, .i32⟩
  | .local _ .vmem, ⟨11, _⟩ => ⟨S1x1024, .f32⟩
  | .local _ .vmem, ⟨12, _⟩ => ⟨S1024x2560, .bf16⟩
  | .local _ .vmem, ⟨13, _⟩ => ⟨S1x2560, .f32⟩
  | .local _ .vmem, ⟨14, _⟩ => ⟨S1024x1024, .fp8e5m2⟩
  | .local _ .vmem, ⟨15, _⟩ => ⟨S1024x1024, .fp8e5m2⟩
  | .local _ .vmem, ⟨16, _⟩ => ⟨S1024x2560, .bf16⟩
  | .local _ .vmem, ⟨17, _⟩ => ⟨S1024x2560, .f32⟩
  | .local _ .vmem, ⟨18, _⟩ => ⟨S1024x128, .i32⟩
  | _, _ => ⟨S1024x151936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16

abbrev nD : Nat := 1
abbrev τ : Topo := Topo.v7x

variable {F : FTy → Type} [FloatOps F]

abbrev grid0 : Pipeline.Grid := ⟨1, ![149], ![false]⟩

def k0_cond2 (i : grid0.Coords) : BitVec 1 :=
  let arg0 : BitVec 32 := BitVec.ofNat 32 (i 0).val
  let c148_i32 : BitVec 32 := 148#32
  let v3 : BitVec 1 := Scalar.cmpi .slt arg0 c148_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c148_i32_2 : BitVec 32 := 148#32
  let v6 : BitVec 1 := Scalar.cmpi .eq arg0 c148_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x2560 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GradReferenceIdeal.lean ====
abbrev S1024x151936 : Shape := ⟨2, ![1024, 151936]⟩
abbrev S151936x2560 : Shape := ⟨2, ![151936, 2560]⟩
abbrev S151936 : Shape := ⟨1, ![151936]⟩
abbrev S1024 : Shape := ⟨1, ![1024]⟩
abbrev S1024x2560 : Shape := ⟨2, ![1024, 2560]⟩
abbrev S2560 : Shape := ⟨1, ![2560]⟩
abbrev S1x151936 : Shape := ⟨2, ![1, 151936]⟩
abbrev S1024x1 : Shape := ⟨2, ![1024, 1]⟩
abbrev S1x2560 : Shape := ⟨2, ![1, 2560]⟩

abbrev nBuf : Space → Nat
  | .hbm => 21
  | .vmem => 13
  | .smem => 0
  | _ => 0

abbrev bufTy : (tb : Table) → Fin (tcTables nBuf tb) → BufTy
  | .hbm, ⟨0, _⟩ => ⟨S1024x151936, .f32⟩
  | .hbm, ⟨1, _⟩ => ⟨S151936x2560, .fp8e4m3⟩
  | .hbm, ⟨2, _⟩ => ⟨S151936, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .i32⟩
  | .hbm, ⟨8, _⟩ => ⟨S1024, .f32⟩
  | .hbm, ⟨9, _⟩ => ⟨S1024x2560, .bf16⟩
  | .hbm, ⟨10, _⟩ => ⟨S2560, .f32⟩
  | .hbm, ⟨11, _⟩ => ⟨S1x151936, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1, .i32⟩
  | .hbm, ⟨17, _⟩ => ⟨S1024x1, .f32⟩
  | .hbm, ⟨18, _⟩ => ⟨S1x2560, .f32⟩
  | .hbm, ⟨19, _⟩ => ⟨S1024x2560, .bf16⟩
  | .hbm, ⟨20, _⟩ => ⟨S1024x151936, .fp8e5m2⟩
  | .local _ .vmem, ⟨0, _⟩ => ⟨S1024x151936, .f32⟩
  | .local _ .vmem, ⟨1, _⟩ => ⟨S151936x2560, .fp8e4m3⟩
  | .local _ .vmem, ⟨2, _⟩ => ⟨S1x151936, .f32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .i32⟩
  | .local _ .vmem, ⟨8, _⟩ => ⟨S1024x1, .f32⟩
  | .local _ .vmem, ⟨9, _⟩ => ⟨S1024x2560, .bf16⟩
  | .local _ .vmem, ⟨10, _⟩ => ⟨S1x2560, .f32⟩
  | .local _ .vmem, ⟨11, _⟩ => ⟨S1024x2560, .bf16⟩
  | .local _ .vmem, ⟨12, _⟩ => ⟨S1024x151936, .fp8e5m2⟩
  | _, _ => ⟨S1024x151936, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1024x151936 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S151936x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x151936 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x2560 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x151936 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.PrepValue.lean ====
module

public import proofs.«01_k».proof.Proof.Gen.PrepIdeal.Frame
public import proofs.«01_k».proof.Proof.Gen.PrepReferenceIdeal.Frame
public import Idealize.ShloMosaic.Lib.Pipeline.ValueKit
public import Idealize.ShloMosaic.Lib.Claim

@[expose] public section

set_option maxRecDepth 16384

/-! # What the quantising call leaves, against the same mathematics on whole arrays -/

noncomputable section

open Idealize.ShloMosaic Idealize.ShloMosaic.TcCoe Idealize.SL.Sem
open Idealize.ShloMosaic.Pipeline (Dat)

namespace Cert.PrepValue

/-- A row of the hidden states, normalised by its root mean square and scaled by the gain, at one channel. -/
def unit (x g : Fin 2560 → EReal) (k : Fin 2560) : EReal :=
  x k * Ideal.div 1 (Ideal.sqrt (Ideal.div (∑ d, x d * x d) (Ideal.ofBits FTy.f32 1159725056#32)
    + Ideal.ofBits FTy.f32 897988541#32)) * g k
/-- The largest entry of a row, from a start value. -/
def rowMax {n : ℕ} (b : EReal) (f : Fin n → EReal) : EReal := Finset.univ.fold max b f
theorem rowMax_eq {n : ℕ} {h₁} {h₂} (b : Ideal FTy.f32) (f : Fin n → Ideal FTy.f32) :
    @Finset.fold (Fin n) (Ideal FTy.f32) (@max (Ideal FTy.f32) (@SemilatticeSup.toMax (Ideal FTy.f32)
      (@Lattice.toSemilatticeSup (Ideal FTy.f32) (@ConditionallyCompleteLattice.toLattice (Ideal FTy.f32)
        (@ConditionallyCompleteLinearOrder.toConditionallyCompleteLattice (Ideal FTy.f32)
          (@ConditionallyCompleteLinearOrderBot.toConditionallyCompleteLinearOrder (Ideal FTy.f32)
            (@CompleteLinearOrder.toConditionallyCompleteLinearOrderBot (Ideal FTy.f32) instCompleteLinearOrderEReal)))))))
      h₁ h₂ b f Finset.univ = rowMax b f := rfl
/-- The row's quantisation scale. -/
def scale (x g : Fin 2560 → EReal) : EReal :=
  if rowMax (Ideal.ofBits FTy.f32 4286578688#32) (fun k => FloatOps.absf (F := Ideal) (φ := .f32) (unit x g k)) = 0
  then 1
  else Ideal.div (rowMax (Ideal.ofBits FTy.f32 4286578688#32) (fun k => FloatOps.absf (F := Ideal) (φ := .f32) (unit x g k)))
    (Ideal.ofBits FTy.f32 1138753536#32)
/-- The row's code at one channel. -/
def code (x g : Fin 2560 → EReal) (k : Fin 2560) : EReal :=
  min (Ideal.ofBits FTy.f32 1138753536#32) (max (Ideal.ofBits FTy.f32 3286237184#32) (Ideal.div (unit x g k) (scale x g)))

/-- The codes of all rows. -/
def codeArr (X : (⟨2, ![1024, 2560]⟩ : Shape).Idx → EReal) (G : (⟨1, ![2560]⟩ : Shape).Idx → EReal) : (⟨2, ![1024, 2560]⟩ : Shape).Idx → EReal :=
  fun i => code (fun k => X (ix2 (i 0) k)) (fun k => G (ix1 k)) (i 1)
/-- The scales of all rows. -/
def scaleArr (X : (⟨2, ![1024, 2560]⟩ : Shape).Idx → EReal) (G : (⟨1, ![2560]⟩ : Shape).Idx → EReal) : (⟨1, ![1024]⟩ : Shape).Idx → EReal :=
  fun i => scale (fun k => X (ix2 (i 0) k)) (fun k => G (ix1 k))

theorem unit_k (v : Vec Ideal Cert.PrepIdeal.S128x2560 .bf16) (g : Vec Ideal Cert.PrepIdeal.S1x2560 .f32) (r : Fin 128) (k : Fin 2560) :
    Cert.PrepIdeal.Gen.k0_pay2 v g (ix2 r k) = unit (fun k => v (ix2 r k)) (fun k => g (ix2 0 k)) k := by
  pointwise [Cert.PrepIdeal.Gen.k0_pay2, unit]
theorem unit_r (v : Vec Ideal Cert.PrepReferenceIdeal.S1024x2560 .bf16) (g : Vec Ideal Cert.PrepReferenceIdeal.S1x2560 .f32) (r : Fin 1024) (k : Fin 2560) :
    Cert.PrepReferenceIdeal.Gen.k0_pay4 v g (ix2 r k) = unit (fun k => v (ix2 r k)) (fun k => g (ix2 0 k)) k := by
  pointwise [Cert.PrepReferenceIdeal.Gen.k0_pay4, unit]
theorem max_k (u : FVec Ideal Cert.PrepIdeal.S128x2560 .f32) (r : Fin 128) :
    multiReduction .maximumf [1] Cert.PrepIdeal.S128 (absf u) 0xFF800000#32 Cert.PrepIdeal.Gen.reduces_S128x2560_S128 (.inl rfl) rfl (ix1 r)
      = rowMax (Ideal.ofBits FTy.f32 4286578688#32) (fun k => FloatOps.absf (F := Ideal) (φ := .f32) (u (ix2 r k))) := by
  pointwise
  exact rowMax_eq _ _
theorem choose_k (w : FVec Ideal Cert.PrepIdeal.S128 .f32) (r : Fin 128) :
    select (cmpf .oeq (shapeCast Cert.PrepIdeal.S128x1 w Cert.PrepIdeal.Gen.shapeCasts_S128_S128x1) (broadcast Cert.PrepIdeal.S128x1 (Scalar.ofBits .f32 0x00000000#32)))
      (broadcast Cert.PrepIdeal.S128x1 (Scalar.ofBits .f32 0x3F800000#32))
      (divf (shapeCast Cert.PrepIdeal.S128x1 w Cert.PrepIdeal.Gen.shapeCasts_S128_S128x1) (broadcast Cert.PrepIdeal.S128x1 (Scalar.ofBits .f32 0x43E00000#32))) (ix2 r 0)
    = if w (ix1 r) = 0 then (1 : EReal) else Ideal.div (w (ix1 r)) (Ideal.ofBits FTy.f32 1138753536#32) := by
  pointwise
theorem scale_k (v : Vec Ideal Cert.PrepIdeal.S128x2560 .bf16) (g : Vec Ideal Cert.PrepIdeal.S1x2560 .f32) (r : Fin 128) :
    Cert.PrepIdeal.Gen.k0_pay3 v g (ix2 r 0) = scale (fun k => v (ix2 r k)) (fun k => g (ix2 0 k)) := by
  refine (choose_k _ r).trans ?_
  rw [max_k]
  simp only [unit_k, scale]
theorem max_r (u : FVec Ideal Cert.PrepReferenceIdeal.S1024x2560 .f32) (r : Fin 1024) :
    multiReduction .maximumf [1] Cert.PrepReferenceIdeal.S1024 (absf u) 0xFF800000#32 Cert.PrepReferenceIdeal.Gen.reduces_S1024x2560_S1024 (.inl rfl) rfl (ix1 r)
      = rowMax (Ideal.ofBits FTy.f32 4286578688#32) (fun k => FloatOps.absf (F := Ideal) (φ := .f32) (u (ix2 r k))) := by
  pointwise
  exact rowMax_eq _ _
theorem choose_r (w : FVec Ideal Cert.PrepReferenceIdeal.S1024 .f32) (r : Fin 1024) :
    select (cmpf .oeq (shapeCast Cert.PrepReferenceIdeal.S1024x1 w Cert.PrepReferenceIdeal.Gen.shapeCasts_S1024_S1024x1) (broadcast Cert.PrepReferenceIdeal.S1024x1 (Scalar.ofBits .f32 0x00000000#32)))
      (broadcast Cert.PrepReferenceIdeal.S1024x1 (Scalar.ofBits .f32 0x3F800000#32))
      (divf (shapeCast Cert.PrepReferenceIdeal.S1024x1 w Cert.PrepReferenceIdeal.Gen.shapeCasts_S1024_S1024x1) (broadcast Cert.PrepReferenceIdeal.S1024x1 (Scalar.ofBits .f32 0x43E00000#32))) (ix2 r 0)
    = if w (ix1 r) = 0 then (1 : EReal) else Ideal.div (w (ix1 r)) (Ideal.ofBits FTy.f32 1138753536#32) := by
  pointwise
theorem scale_r (v : Vec Ideal Cert.PrepReferenceIdeal.S1024x2560 .bf16) (g : Vec Ideal Cert.PrepReferenceIdeal.S1x2560 .f32) (r : Fin 1024) :
    Cert.PrepReferenceIdeal.Gen.k0_pay5 v g (ix2 r 0) = scale (fun k => v (ix2 r k)) (fun k => g (ix2 0 k)) := by
  refine (choose_r _ r).trans ?_
  rw [max_r]
  simp only [unit_r, scale]
theorem clip_k (u : FVec Ideal Cert.PrepIdeal.S128x2560 .f32) (w : FVec Ideal Cert.PrepIdeal.S128x1 .f32) (r : Fin 128) (k : Fin 2560) :
    truncf .fp8e4m3 (minimumf (broadcast Cert.PrepIdeal.S128x2560 (Scalar.ofBits .f32 0x43E00000#32))
      (maximumf (broadcast Cert.PrepIdeal.S128x2560 (Scalar.ofBits .f32 0xC3E00000#32))
        (divf u (broadcastTo Cert.PrepIdeal.S128x2560 w Cert.PrepIdeal.Gen.broadcasts_S128x1_S128x2560)))) Cert.PrepIdeal.Gen.bitsLt_fp8e4m3_f32 (ix2 r k)
    = min (Ideal.ofBits FTy.f32 1138753536#32) (max (Ideal.ofBits FTy.f32 3286237184#32) (Ideal.div (u (ix2 r k)) (w (ix2 r 0)))) := by
  pointwise
theorem code_k (v : Vec Ideal Cert.PrepIdeal.S128x2560 .bf16) (g : Vec Ideal Cert.PrepIdeal.S1x2560 .f32) (r : Fin 128) (k : Fin 2560) :
    Cert.PrepIdeal.Gen.k0_pay4 v g (ix2 r k) = code (fun k => v (ix2 r k)) (fun k => g (ix2 0 k)) k := by
  refine (clip_k _ _ r k).trans ?_
  rw [unit_k, scale_k]
  rfl
theorem clip_r (u : FVec Ideal Cert.PrepReferenceIdeal.S1024x2560 .f32) (w : FVec Ideal Cert.PrepReferenceIdeal.S1024x1 .f32) (r : Fin 1024) (k : Fin 2560) :
    truncf .fp8e4m3 (minimumf (broadcast Cert.PrepReferenceIdeal.S1024x2560 (Scalar.ofBits .f32 0x43E00000#32))
      (maximumf (broadcast Cert.PrepReferenceIdeal.S1024x2560 (Scalar.ofBits .f32 0xC3E00000#32))
        (divf u (broadcastTo Cert.PrepReferenceIdeal.S1024x2560 w Cert.PrepReferenceIdeal.Gen.broadcasts_S1024x1_S1024x2560)))) Cert.PrepReferenceIdeal.Gen.bitsLt_fp8e4m3_f32 (ix2 r k)
    = min (Ideal.ofBits FTy.f32 1138753536#32) (max (Ideal.ofBits FTy.f32 3286237184#32) (Ideal.div (u (ix2 r k)) (w (ix2 r 0)))) := by
  pointwise
theorem code_r (v : Vec Ideal Cert.PrepReferenceIdeal.S1024x2560 .bf16) (g : Vec Ideal Cert.PrepReferenceIdeal.S1x2560 .f32) (r : Fin 1024) (k : Fin 2560) :
    Cert.PrepReferenceIdeal.Gen.k0_pay6 v g (ix2 r k) = code (fun k => v (ix2 r k)) (fun k => g (ix2 0 k)) k := by
  refine (clip_r _ _ r k).trans ?_
  rw [unit_r, scale_r]
  rfl
theorem lane_k (v : Vec Ideal Cert.PrepIdeal.S128x2560 .bf16) (g : Vec Ideal Cert.PrepIdeal.S1x2560 .f32) (r : Fin 128) :
    Cert.PrepIdeal.Gen.k0_pay7 (Cert.PrepIdeal.Gen.k0_pay6 v g) (ix2 0 r) = scale (fun k => v (ix2 r k)) (fun k => g (ix2 0 k)) := by
  pointwise [Cert.PrepIdeal.Gen.k0_pay7, Cert.PrepIdeal.Gen.k0_pay6, Cert.PrepIdeal.Gen.k0_pay5]; exact scale_k v g r

/-- The second half of the body does to the reference policy's states what the first does to the policy's. -/
theorem code_k' : @Cert.PrepIdeal.Gen.k0_pay10 Ideal _ = Cert.PrepIdeal.Gen.k0_pay4 := rfl
theorem lane_k' (v : Vec Ideal Cert.PrepIdeal.S128x2560 .bf16) (g : Vec Ideal Cert.PrepIdeal.S1x2560 .f32) :
    Cert.PrepIdeal.Gen.k0_pay1 (Cert.PrepIdeal.Gen.k0_pay11 v g) = Cert.PrepIdeal.Gen.k0_pay7 (Cert.PrepIdeal.Gen.k0_pay6 v g) := rfl
theorem code_r' (v : Vec Ideal Cert.PrepReferenceIdeal.S1024x2560 .bf16) (g : Vec Ideal Cert.PrepReferenceIdeal.S1x2560 .f32) :
    Cert.PrepReferenceIdeal.Gen.k0_pay3 (Cert.PrepReferenceIdeal.Gen.k0_pay7 v) (Cert.PrepReferenceIdeal.Gen.k0_pay8 v) (Scalar.ofBits .f32 0x358637BD#32) g = Cert.PrepReferenceIdeal.Gen.k0_pay6 v g := rfl
theorem scale_r' (v : Vec Ideal Cert.PrepReferenceIdeal.S1024x2560 .bf16) (g : Vec Ideal Cert.PrepReferenceIdeal.S1x2560 .f32) :
    Cert.PrepReferenceIdeal.Gen.k0_pay2 (Cert.PrepReferenceIdeal.Gen.k0_pay7 v) (Cert.PrepReferenceIdeal.Gen.k0_pay8 v) (Scalar.ofBits .f32 0x358637BD#32) g = Cert.PrepReferenceIdeal.Gen.k0_pay5 v g := rfl

theorem lane8 (x0 x1 : Vec Ideal Cert.PrepIdeal.S128x2560 .bf16) (x2 x3 : Vec Ideal Cert.PrepIdeal.S1x2560 .f32) :
    Cert.PrepIdeal.Gen.k0_pay1 (Cert.PrepIdeal.Gen.k0_pay12 x0 x1 x2 x3) = Cert.PrepIdeal.Gen.k0_pay7 (Cert.PrepIdeal.Gen.k0_pay6 x1 x3) := by
  unfold Cert.PrepIdeal.Gen.k0_pay12
  rw [View.ld_unit_lit _ _ (by decide), View.ld_unit_lit _ _ (by decide), lane_k']
theorem code6 (x0 x1 : Vec Ideal Cert.PrepReferenceIdeal.S1024x2560 .bf16) (x2 x3 : Vec Ideal Cert.PrepReferenceIdeal.S1x2560 .f32) :
    Cert.PrepReferenceIdeal.Gen.k0_pay3 (Cert.PrepReferenceIdeal.Gen.k0_pay9 x0 x1 x2 x3) (Cert.PrepReferenceIdeal.Gen.k0_pay10 x0 x1 x2 x3) (Scalar.ofBits .f32 0x358637BD#32) x3 = Cert.PrepReferenceIdeal.Gen.k0_pay6 x1 x3 := by
  unfold Cert.PrepReferenceIdeal.Gen.k0_pay9 Cert.PrepReferenceIdeal.Gen.k0_pay10
  rw [View.ld_unit_lit _ _ (by decide), code_r']
theorem scale7 (x0 x1 : Vec Ideal Cert.PrepReferenceIdeal.S1024x2560 .bf16) (x2 x3 : Vec Ideal Cert.PrepReferenceIdeal.S1x2560 .f32) :
    Cert.PrepReferenceIdeal.Gen.k0_pay2 (Cert.PrepReferenceIdeal.Gen.k0_pay9 x0 x1 x2 x3) (Cert.PrepReferenceIdeal.Gen.k0_pay10 x0 x1 x2 x3) (Scalar.ofBits .f32 0x358637BD#32) x3 = Cert.PrepReferenceIdeal.Gen.k0_pay5 x1 x3 := by
  unfold Cert.PrepReferenceIdeal.Gen.k0_pay9 Cert.PrepReferenceIdeal.Gen.k0_pay10
  rw [View.ld_unit_lit _ _ (by decide), scale_r']

end Cert.PrepValue

namespace Cert.PrepIdeal.Value
open Cert.PrepIdeal Cert.PrepIdeal.Gen Cert.PrepValue

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, t.val] ∧ win0_6.index t = ![t.val, 0]
    ∧ win0_7.index t = ![t.val, 0] ∧ win0_8.index t = ![0, t.val] ∧ win0_9.index t = ![t.val, 0] :=
  (by decide +kernel : ∀ t : Fin grid0.N, _)

/-- A row of a 128-row block of an array is the array's row. -/
theorem row_0 (c : Dev nD) (t : Fin cfg0.N) (r : Fin 128) (k : Fin 2560) (i : Fin 1024) (hi : i.val = t.val * 128 + r.val) :
    iblk m c 0 t (ix2 r k) = m ((c : Thread nD τ).loc main_arg0) (ix2 i k) := by
  blk_ext [iblk, V, idx t]
theorem row_1 (c : Dev nD) (t : Fin cfg0.N) (r : Fin 128) (k : Fin 2560) (i : Fin 1024) (hi : i.val = t.val * 128 + r.val) :
    iblk m c 1 t (ix2 r k) = m ((c : Thread nD τ).loc main_arg1) (ix2 i k) := by
  blk_ext [iblk, V, idx t]
theorem row_2 (c : Dev nD) (t : Fin cfg0.N) (k : Fin 2560) :
    iblk m c 2 t (ix2 0 k) = V m c main_v0 (ix2 0 k) := by
  blk_ext [iblk, idx t]
theorem row_3 (c : Dev nD) (t : Fin cfg0.N) (k : Fin 2560) :
    iblk m c 3 t (ix2 0 k) = V m c main_v1 (ix2 0 k) := by
  blk_ext [iblk, idx t]

theorem final4 (c : Dev nD) : (dats m 0 c).arrAt 4 (cfgs 0).N
    = fun i : S1024x2560.Idx => code (fun k => m ((c : Thread nD τ).loc main_arg0) (ix2 (i 0) k)) (fun k => V m c main_v0 (ix2 0 k)) (i 1) := by
  refine (dats m 0 c).arrAt_eq_of_covers 4 _ (by decide +kernel) fun t hf y => ?_
  blk_simp
  rw [after0_4]
  frame_out
  obtain ⟨r, k, rfl⟩ : ∃ (r : Fin 128) (k : Fin 2560), y = ix2 r k := ⟨y 0, y 1, eq_ix2 y⟩
  skip
  refine (code_k _ _ r k).trans ?_
  congr 1
  · funext k; exact row_0 m c t r k _ (by blk_simp [idx t])
  · funext k; exact row_2 m c t k
  · apply Fin.ext; blk_simp [idx t]

theorem final7 (c : Dev nD) : (dats m 0 c).arrAt 7 (cfgs 0).N
    = fun i : S1024x2560.Idx => code (fun k => m ((c : Thread nD τ).loc main_arg1) (ix2 (i 0) k)) (fun k => V m c main_v1 (ix2 0 k)) (i 1) := by
  refine (dats m 0 c).arrAt_eq_of_covers 7 _ (by decide +kernel) fun t hf y => ?_
  blk_simp
  rw [after0_7]
  frame_out
  obtain ⟨r, k, rfl⟩ : ∃ (r : Fin 128) (k : Fin 2560), y = ix2 r k := ⟨y 0, y 1, eq_ix2 y⟩
  rw [code_k']
  refine (code_k _ _ r k).trans ?_
  congr 1
  · funext k; exact row_1 m c t r k _ (by blk_simp [idx t])
  · funext k; exact row_3 m c t k
  · apply Fin.ext; blk_simp [idx t]

theorem final5 (c : Dev nD) : (dats m 0 c).arrAt 5 (cfgs 0).N
    = fun i : S1x1024.Idx => scale (fun k => m ((c : Thread nD τ).loc main_arg0) (ix2 (i 1) k)) (fun k => V m c main_v0 (ix2 0 k)) := by
  refine (dats m 0 c).arrAt_eq_of_covers 5 _ (by decide +kernel) fun t hf y => ?_
  blk_simp
  rw [after0_5]
  frame_out
  obtain ⟨z, r, rfl⟩ : ∃ (z : Fin 1) (r : Fin 128), y = ix2 z r := ⟨y 0, y 1, eq_ix2 y⟩
  skip
  obtain rfl : z = 0 := Subsingleton.elim _ _
  refine (lane_k _ _ r).trans ?_
  congr 1
  · funext k; exact row_0 m c t r k _ (by blk_simp [idx t])
  · funext k; exact row_2 m c t k

theorem final8 (c : Dev nD) : (dats m 0 c).arrAt 8 (cfgs 0).N
    = fun i : S1x1024.Idx => scale (fun k => m ((c : Thread nD τ).loc main_arg1) (ix2 (i 1) k)) (fun k => V m c main_v1 (ix2 0 k)) := by
  refine (dats m 0 c).arrAt_eq_of_covers 8 _ (by decide +kernel) fun t hf y => ?_
  blk_simp
  rw [after0_8]
  frame_out
  obtain ⟨z, r, rfl⟩ : ∃ (z : Fin 1) (r : Fin 128), y = ix2 z r := ⟨y 0, y 1, eq_ix2 y⟩
  refine (congrFun (lane8 _ _ _ _) _).trans ?_
  obtain rfl : z = 0 := Subsingleton.elim _ _
  refine (lane_k _ _ r).trans ?_
  congr 1
  · funext k; exact row_1 m c t r k _ (by blk_simp [idx t])
  · funext k; exact row_3 m c t k

/-- The gain's row as the region finds it. -/
theorem gain_0 (c : Dev nD) (k : Fin 2560) : V m c main_v0 (ix2 0 k) = m ((c : Thread nD τ).loc main_arg2) (ix1 k) := by
  have h : V m c main_v0 = shapeCast S1x2560 (m ((c : Thread nD τ).loc main_arg2)) shapeCasts_S2560_S1x2560 := by
    unfold V V0
    simp only [hostOps0, List.flatten_cons, List.flatten_nil, List.append_nil]
    after_results
    rfl
  rw [h]
  pointwise

/-- The gain's row as the region finds it. -/
theorem gain_1 (c : Dev nD) (k : Fin 2560) : V m c main_v1 (ix2 0 k) = m ((c : Thread nD τ).loc main_arg3) (ix1 k) := by
  have h : V m c main_v1 = shapeCast S1x2560 (m ((c : Thread nD τ).loc main_arg3)) shapeCasts_S2560_S1x2560 := by
    unfold V V0
    simp only [hostOps0, List.flatten_cons, List.flatten_nil, List.append_nil]
    after_results
    rfl
  rw [h]
  pointwise

/-- The scales' reshape after the region. -/
theorem tail_3 (c : Dev nD) : Pipeline.afterTail₀ cfgs (dats m) 0 (V0 m) [hostOps1] c main_v3
    = shapeCast S1024 ((dats m 0 c).arrAt 5 (cfgs 0).N) shapeCasts_S1x1024_S1024 := by
  unfold Pipeline.afterTail₀
  simp only [hostOps1, List.flatten_cons, List.flatten_nil, List.append_nil]
  after_results
  exact congrArg (fun X : Vec Ideal S1x1024 .f32 => shapeCast S1024 X shapeCasts_S1x1024_S1024)
    (Pipeline.withArrays_arr spec0 launch0.win.arr_inj c (V0 m c) (fun w => (dats m 0 c).arrAt w (cfgs 0).N) 5)

/-- The scales' reshape after the region. -/
theorem tail_4 (c : Dev nD) : Pipeline.afterTail₀ cfgs (dats m) 0 (V0 m) [hostOps1] c main_v4
    = shapeCast S1024 ((dats m 0 c).arrAt 8 (cfgs 0).N) shapeCasts_S1x1024_S1024 := by
  unfold Pipeline.afterTail₀
  simp only [hostOps1, List.flatten_cons, List.flatten_nil, List.append_nil]
  after_results
  exact congrArg (fun X : Vec Ideal S1x1024 .f32 => shapeCast S1024 X shapeCasts_S1x1024_S1024)
    (Pipeline.withArrays_arr spec0 launch0.win.arr_inj c (V0 m c) (fun w => (dats m 0 c).arrAt w (cfgs 0).N) 8)

theorem flat (f : Fin 1024 → EReal) (r : Fin 1024) :
    shapeCast S1024 (fun i : S1x1024.Idx => f (i 1)) shapeCasts_S1x1024_S1024 (ix1 r) = f r := by
  pointwise

theorem res0 (c : Dev nD) : (dats m 0 c).arrAt 4 (cfgs 0).N
    = codeArr (m ((c : Thread nD τ).loc main_arg0)) (m ((c : Thread nD τ).loc main_arg2)) := by
  rw [final4]
  funext i
  exact congrArg (fun g => code _ g _) (funext fun k => gain_0 m c k)

theorem res2 (c : Dev nD) : (dats m 0 c).arrAt 7 (cfgs 0).N
    = codeArr (m ((c : Thread nD τ).loc main_arg1)) (m ((c : Thread nD τ).loc main_arg3)) := by
  rw [final7]
  funext i
  exact congrArg (fun g => code _ g _) (funext fun k => gain_1 m c k)

theorem res1 (c : Dev nD) : Pipeline.afterTail₀ cfgs (dats m) 0 (V0 m) [hostOps1] c main_v3
    = scaleArr (m ((c : Thread nD τ).loc main_arg0)) (m ((c : Thread nD τ).loc main_arg2)) := by
  rw [tail_3, final5]
  funext i
  obtain ⟨r, rfl⟩ : ∃ r : Fin 1024, i = ix1 r := ⟨i 0, eq_ix1 i⟩
  refine (flat (fun r => scale (fun k => m ((c : Thread nD τ).loc main_arg0) (ix2 r k)) (fun k => V m c main_v0 (ix2 0 k))) r).trans ?_
  exact congrArg (fun g => scale _ g) (funext fun k => gain_0 m c k)

theorem res3 (c : Dev nD) : Pipeline.afterTail₀ cfgs (dats m) 0 (V0 m) [hostOps1] c main_v4
    = scaleArr (m ((c : Thread nD τ).loc main_arg1)) (m ((c : Thread nD τ).loc main_arg3)) := by
  rw [tail_4, final8]
  funext i
  obtain ⟨r, rfl⟩ : ∃ r : Fin 1024, i = ix1 r := ⟨i 0, eq_ix1 i⟩
  refine (flat (fun r => scale (fun k => m ((c : Thread nD τ).loc main_arg1) (ix2 r k)) (fun k => V m c main_v1 (ix2 0 k))) r).trans ?_
  exact congrArg (fun g => scale _ g) (funext fun k => gain_1 m c k)

end Cert.PrepIdeal.Value

namespace Cert.PrepReferenceIdeal.Value
open Cert.PrepReferenceIdeal Cert.PrepReferenceIdeal.Gen Cert.PrepValue

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

theorem row_0 (c : Dev nD) (t : Fin cfg0.N) (r : Fin 1024) (k : Fin 2560) :
    iblk m c 0 t (ix2 r k) = m ((c : Thread nD τ).loc main_arg0) (ix2 r k) := by
  blk_ext [iblk, V, idx t]
theorem row_1 (c : Dev nD) (t : Fin cfg0.N) (r : Fin 1024) (k : Fin 2560) :
    iblk m c 1 t (ix2 r k) = m ((c : Thread nD τ).loc main_arg1) (ix2 r k) := by
  blk_ext [iblk, V, idx t]
theorem row_2 (c : Dev nD) (t : Fin cfg0.N) (k : Fin 2560) :
    iblk m c 2 t (ix2 0 k) = V m c main_v0 (ix2 0 k) := by
  blk_ext [iblk, idx t]
theorem row_3 (c : Dev nD) (t : Fin cfg0.N) (k : Fin 2560) :
    iblk m c 3 t (ix2 0 k) = V m c main_v1 (ix2 0 k) := by
  blk_ext [iblk, idx t]

theorem final4 (c : Dev nD) : (dats m 0 c).arrAt 4 (cfgs 0).N
    = fun i : S1024x2560.Idx => code (fun k => m ((c : Thread nD τ).loc main_arg0) (ix2 (i 0) k)) (fun k => V m c main_v0 (ix2 0 k)) (i 1) := by
  refine (dats m 0 c).arrAt_eq_of_after_last 4 t0_0 (by decide +kernel) _ fun y => ?_
  blk_simp
  rw [after0_4]
  frame_out
  obtain ⟨r, k, rfl⟩ : ∃ (r : Fin 1024) (k : Fin 2560), y = ix2 r k := ⟨y 0, y 1, eq_ix2 y⟩
  skip
  refine (code_r _ _ r k).trans ?_
  congr 1
  · funext k; exact row_0 m c _ r k
  · funext k; exact row_2 m c _ k

theorem final6 (c : Dev nD) : (dats m 0 c).arrAt 6 (cfgs 0).N
    = fun i : S1024x2560.Idx => code (fun k => m ((c : Thread nD τ).loc main_arg1) (ix2 (i 0) k)) (fun k => V m c main_v1 (ix2 0 k)) (i 1) := by
  refine (dats m 0 c).arrAt_eq_of_after_last 6 t0_0 (by decide +kernel) _ fun y => ?_
  blk_simp
  rw [after0_6]
  frame_out
  obtain ⟨r, k, rfl⟩ : ∃ (r : Fin 1024) (k : Fin 2560), y = ix2 r k := ⟨y 0, y 1, eq_ix2 y⟩
  refine (congrFun (code6 _ _ _ _) _).trans ?_
  refine (code_r _ _ r k).trans ?_
  congr 1
  · funext k; exact row_1 m c _ r k
  · funext k; exact row_3 m c _ k

theorem final5 (c : Dev nD) : (dats m 0 c).arrAt 5 (cfgs 0).N
    = fun i : S1024x1.Idx => scale (fun k => m ((c : Thread nD τ).loc main_arg0) (ix2 (i 0) k)) (fun k => V m c main_v0 (ix2 0 k)) := by
  refine (dats m 0 c).arrAt_eq_of_after_last 5 t0_0 (by decide +kernel) _ fun y => ?_
  blk_simp
  rw [after0_5]
  frame_out
  obtain ⟨r, z, rfl⟩ : ∃ (r : Fin 1024) (z : Fin 1), y = ix2 r z := ⟨y 0, y 1, eq_ix2 y⟩
  skip
  obtain rfl : z = 0 := Subsingleton.elim _ _
  refine (scale_r _ _ r).trans ?_
  congr 1
  · funext k; exact row_0 m c _ r k
  · funext k; exact row_2 m c _ k

theorem final7 (c : Dev nD) : (dats m 0 c).arrAt 7 (cfgs 0).N
    = fun i : S1024x1.Idx => scale (fun k => m ((c : Thread nD τ).loc main_arg1) (ix2 (i 0) k)) (fun k => V m c main_v1 (ix2 0 k)) := by
  refine (dats m 0 c).arrAt_eq_of_after_last 7 t0_0 (by decide +kernel) _ fun y => ?_
  blk_simp
  rw [after0_7]
  frame_out
  obtain ⟨r, z, rfl⟩ : ∃ (r : Fin 1024) (z : Fin 1), y = ix2 r z := ⟨y 0, y 1, eq_ix2 y⟩
  refine (congrFun (scale7 _ _ _ _) _).trans ?_
  obtain rfl : z = 0 := Subsingleton.elim _ _
  refine (scale_r _ _ r).trans ?_
  congr 1
  · funext k; exact row_1 m c _ r k
  · funext k; exact row_3 m c _ k

/-- The gain's row as the region finds it. -/
theorem gain_0 (c : Dev nD) (k : Fin 2560) : V m c main_v0 (ix2 0 k) = m ((c : Thread nD τ).loc main_arg2) (ix1 k) := by
  have h : V m c main_v0 = shapeCast S1x2560 (m ((c : Thread nD τ).loc main_arg2)) shapeCasts_S2560_S1x2560 := by
    unfold V V0
    simp only [hostOps0, List.flatten_cons, List.flatten_nil, List.append_nil]
    after_results
    rfl
  rw [h]
  pointwise

/-- The gain's row as the region finds it. -/
theorem gain_1 (c : Dev nD) (k : Fin 2560) : V m c main_v1 (ix2 0 k) = m ((c : Thread nD τ).loc main_arg3) (ix1 k) := by
  have h : V m c main_v1 = shapeCast S1x2560 (m ((c : Thread nD τ).loc main_arg3)) shapeCasts_S2560_S1x2560 := by
    unfold V V0
    simp only [hostOps0, List.flatten_cons, List.flatten_nil, List.append_nil]
    after_results
    rfl
  rw [h]
  pointwise

/-- The scales' reshape after the region. -/
theorem tail_3 (c : Dev nD) : Pipeline.afterTail₀ cfgs (dats m) 0 (V0 m) [hostOps1] c main_v3
    = shapeCast S1024 ((dats m 0 c).arrAt 5 (cfgs 0).N) shapeCasts_S1024x1_S1024 := by
  unfold Pipeline.afterTail₀
  simp only [hostOps1, List.flatten_cons, List.flatten_nil, List.append_nil]
  after_results
  exact congrArg (fun X : Vec Ideal S1024x1 .f32 => shapeCast S1024 X shapeCasts_S1024x1_S1024)
    (Pipeline.withArrays_arr spec0 launch0.win.arr_inj c (V0 m c) (fun w => (dats m 0 c).arrAt w (cfgs 0).N) 5)

/-- The scales' reshape after the region. -/
theorem tail_4 (c : Dev nD) : Pipeline.afterTail₀ cfgs (dats m) 0 (V0 m) [hostOps1] c main_v4
    = shapeCast S1024 ((dats m 0 c).arrAt 7 (cfgs 0).N) shapeCasts_S1024x1_S1024 := by
  unfold Pipeline.afterTail₀
  simp only [hostOps1, List.flatten_cons, List.flatten_nil, List.append_nil]
  after_results
  exact congrArg (fun X : Vec Ideal S1024x1 .f32 => shapeCast S1024 X shapeCasts_S1024x1_S1024)
    (Pipeline.withArrays_arr spec0 launch0.win.arr_inj c (V0 m c) (fun w => (dats m 0 c).arrAt w (cfgs 0).N) 7)

theorem flat (f : Fin 1024 → EReal) (r : Fin 1024) :
    shapeCast S1024 (fun i : S1024x1.Idx => f (i 0)) shapeCasts_S1024x1_S1024 (ix1 r) = f r := by
  pointwise

theorem res0 (c : Dev nD) : (dats m 0 c).arrAt 4 (cfgs 0).N
    = codeArr (m ((c : Thread nD τ).loc main_arg0)) (m ((c : Thread nD τ).loc main_arg2)) := by
  rw [final4]
  funext i
  exact congrArg (fun g => code _ g _) (funext fun k => gain_0 m c k)

theorem res2 (c : Dev nD) : (dats m 0 c).arrAt 6 (cfgs 0).N
    = codeArr (m ((c : Thread nD τ).loc main_arg1)) (m ((c : Thread nD τ).loc main_arg3)) := by
  rw [final6]
  funext i
  exact congrArg (fun g => code _ g _) (funext fun k => gain_1 m c k)

theorem res1 (c : Dev nD) : Pipeline.afterTail₀ cfgs (dats m) 0 (V0 m) [hostOps1] c main_v3
    = scaleArr (m ((c : Thread nD τ).loc main_arg0)) (m ((c : Thread nD τ).loc main_arg2)) := by
  rw [tail_3, final5]
  funext i
  obtain ⟨r, rfl⟩ : ∃ r : Fin 1024, i = ix1 r := ⟨i 0, eq_ix1 i⟩
  refine (flat (fun r => scale (fun k => m ((c : Thread nD τ).loc main_arg0) (ix2 r k)) (fun k => V m c main_v0 (ix2 0 k))) r).trans ?_
  exact congrArg (fun g => scale _ g) (funext fun k => gain_0 m c k)

theorem res3 (c : Dev nD) : Pipeline.afterTail₀ cfgs (dats m) 0 (V0 m) [hostOps1] c main_v4
    = scaleArr (m ((c : Thread nD τ).loc main_arg1)) (m ((c : Thread nD τ).loc main_arg3)) := by
  rw [tail_4, final7]
  funext i
  obtain ⟨r, rfl⟩ : ∃ r : Fin 1024, i = ix1 r := ⟨i 0, eq_ix1 i⟩
  refine (flat (fun r => scale (fun k => m ((c : Thread nD τ).loc main_arg1) (ix2 r k)) (fun k => V m c main_v1 (ix2 0 k))) r).trans ?_
  exact congrArg (fun g => scale _ g) (funext fun k => gain_1 m c k)

end Cert.PrepReferenceIdeal.Value

end
-- ==== Proof.StatsBase.lean ====
module

public import proofs.«01_k».proof.Proof.Gen.StatsIdeal.Frame
public import proofs.«01_k».proof.Proof.Gen.StatsIdeal.Launch
public import proofs.«01_k».proof.Proof.Gen.StatsIdeal.Skeleton
public import proofs.«01_k».proof.Proof.Gen.StatsIdeal.Points
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.VecWindow
public import Idealize.ShloMosaic.Lib.Pipeline.ValueKit

@[expose] public section

set_option maxRecDepth 16384

/-! # The statistics body, run over what it holds: inputs and the logits' block named, every other buffer at some contents -/

noncomputable section

namespace Cert.StatsIdeal.Body

open Cert.StatsIdeal Cert.StatsIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

/-- The buffers the body is called with. -/
structure Bufs where
  a1 : Memref sig .tc .smem S17 .i32
  h1 : a1.IsWhole
  a2 : Memref sig .tc .smem S16 .i32
  h2 : a2.IsWhole
  a3 : Memref sig .tc .smem S16 .f32
  h3 : a3.IsWhole
  a4 : Memref sig .tc .vmem S1024x2560 .fp8e4m3
  h4 : a4.IsWhole
  a5 : Memref sig .tc .vmem S1024x2560 .fp8e4m3
  h5 : a5.IsWhole
  a6 : Memref sig .tc .vmem S1024x128 .f32
  h6 : a6.IsWhole
  a7 : Memref sig .tc .vmem S1024x128 .f32
  h7 : a7.IsWhole
  a8 : Memref sig .tc .vmem S1x1024 .i32
  h8 : a8.IsWhole
  a9 : Memref sig .tc .vmem S1x1024 .f32
  h9 : a9.IsWhole
  a10 : Memref sig .tc .vmem S1x1024 .i32
  h10 : a10.IsWhole
  a11 : Memref sig .tc .vmem S1x1024 .f32
  h11 : a11.IsWhole
  a12 : Memref sig .tc .vmem S1x1024 .f32
  h12 : a12.IsWhole
  a13 : Memref sig .tc .vmem S1x1024 .f32
  h13 : a13.IsWhole
  a14 : Memref sig .tc .vmem S1024x2560 .fp8e4m3
  h14 : a14.IsWhole
  a15 : Memref sig .tc .vmem S1024x2560 .fp8e4m3
  h15 : a15.IsWhole
  a16 : Memref sig .tc .vmem S1024x1024 .f32
  h16 : a16.IsWhole
  a17 : Memref sig .tc .vmem S1x1024 .f32
  h17 : a17.IsWhole
  a18 : Memref sig .tc .vmem S1x1024 .f32
  h18 : a18.IsWhole
  a19 : Memref sig .tc .vmem S1x1024 .f32
  h19 : a19.IsWhole
  a20 : Memref sig .tc .vmem S1x1024 .f32
  h20 : a20.IsWhole
  a21 : Memref sig .tc .vmem S1x128 .f32
  h21 : a21.IsWhole
  a22 : Memref sig .tc .vmem S1x128 .f32
  h22 : a22.IsWhole
  a23 : Memref sig .tc .vmem S1x128 .f32
  h23 : a23.IsWhole
  a24 : Memref sig .tc .vmem S1x128 .f32
  h24 : a24.IsWhole
  a25 : Memref sig .tc .vmem S1024x128 .f32
  h25 : a25.IsWhole
  a26 : Memref sig .tc .vmem S1024x128 .f32
  h26 : a26.IsWhole
  a27 : Memref sig .tc .vmem S1024x128 .f32
  h27 : a27.IsWhole
  a28 : Memref sig .tc .vmem S1024x128 .f32
  h28 : a28.IsWhole
  a29 : Memref sig .tc .vmem S1024x128 .f32
  h29 : a29.IsWhole
  a30 : Memref sig .tc .vmem S1024x128 .f32
  h30 : a30.IsWhole
  a31 : Memref sig .tc .vmem S1024x128 .f32
  h31 : a31.IsWhole
  a32 : Memref sig .tc .vmem S1024x128 .f32
  h32 : a32.IsWhole
  a33 : Memref sig .tc .vmem S1024x128 .f32
  h33 : a33.IsWhole
  a34 : Memref sig .tc .vmem S1024x128 .f32
  h34 : a34.IsWhole
  a35 : Memref sig .tc .vmem S1024x128 .f32
  h35 : a35.IsWhole
  a36 : Memref sig .tc .vmem S1024x128 .f32
  h36 : a36.IsWhole
  a37 : Memref sig .tc .vmem S1024x128 .i32
  h37 : a37.IsWhole

/-- The inputs' contents. -/
structure Ins (F : FTy → Type) [FloatOps F] where
  x1 : Vec F S17 .i32
  x2 : Vec F S16 .i32
  x3 : Vec F S16 .f32
  x4 : Vec F S1024x2560 .fp8e4m3
  x5 : Vec F S1024x2560 .fp8e4m3
  x6 : Vec F S1024x128 .f32
  x7 : Vec F S1024x128 .f32
  x8 : Vec F S1x1024 .i32
  x9 : Vec F S1x1024 .f32
  x10 : Vec F S1x1024 .i32
  x11 : Vec F S1x1024 .f32
  x12 : Vec F S1x1024 .f32
  x13 : Vec F S1x1024 .f32
  x14 : Vec F S1024x2560 .fp8e4m3
  x15 : Vec F S1024x2560 .fp8e4m3

/-- A function of the buffers, at these. -/
@[reducible] def Bufs.on (b : Bufs) {R : Sort _} (f : (a1 : Memref sig .tc .smem S17 .i32) → a1.IsWhole → (a2 : Memref sig .tc .smem S16 .i32) → a2.IsWhole → (a3 : Memref sig .tc .smem S16 .f32) → a3.IsWhole → (a4 : Memref sig .tc .vmem S1024x2560 .fp8e4m3) → a4.IsWhole → (a5 : Memref sig .tc .vmem S1024x2560 .fp8e4m3) → a5.IsWhole → (a6 : Memref sig .tc .vmem S1024x128 .f32) → a6.IsWhole → (a7 : Memref sig .tc .vmem S1024x128 .f32) → a7.IsWhole → (a8 : Memref sig .tc .vmem S1x1024 .i32) → a8.IsWhole → (a9 : Memref sig .tc .vmem S1x1024 .f32) → a9.IsWhole → (a10 : Memref sig .tc .vmem S1x1024 .i32) → a10.IsWhole → (a11 : Memref sig .tc .vmem S1x1024 .f32) → a11.IsWhole → (a12 : Memref sig .tc .vmem S1x1024 .f32) → a12.IsWhole → (a13 : Memref sig .tc .vmem S1x1024 .f32) → a13.IsWhole → (a14 : Memref sig .tc .vmem S1024x2560 .fp8e4m3) → a14.IsWhole → (a15 : Memref sig .tc .vmem S1024x2560 .fp8e4m3) → a15.IsWhole → (a16 : Memref sig .tc .vmem S1024x1024 .f32) → a16.IsWhole → (a17 : Memref sig .tc .vmem S1x1024 .f32) → a17.IsWhole → (a18 : Memref sig .tc .vmem S1x1024 .f32) → a18.IsWhole → (a19 : Memref sig .tc .vmem S1x1024 .f32) → a19.IsWhole → (a20 : Memref sig .tc .vmem S1x1024 .f32) → a20.IsWhole → (a21 : Memref sig .tc .vmem S1x128 .f32) → a21.IsWhole → (a22 : Memref sig .tc .vmem S1x128 .f32) → a22.IsWhole → (a23 : Memref sig .tc .vmem S1x128 .f32) → a23.IsWhole → (a24 : Memref sig .tc .vmem S1x128 .f32) → a24.IsWhole → (a25 : Memref sig .tc .vmem S1024x128 .f32) → a25.IsWhole → (a26 : Memref sig .tc .vmem S1024x128 .f32) → a26.IsWhole → (a27 : Memref sig .tc .vmem S1024x128 .f32) → a27.IsWhole → (a28 : Memref sig .tc .vmem S1024x128 .f32) → a28.IsWhole → (a29 : Memref sig .tc .vmem S1024x128 .f32) → a29.IsWhole → (a30 : Memref sig .tc .vmem S1024x128 .f32) → a30.IsWhole → (a31 : Memref sig .tc .vmem S1024x128 .f32) → a31.IsWhole → (a32 : Memref sig .tc .vmem S1024x128 .f32) → a32.IsWhole → (a33 : Memref sig .tc .vmem S1024x128 .f32) → a33.IsWhole → (a34 : Memref sig .tc .vmem S1024x128 .f32) → a34.IsWhole → (a35 : Memref sig .tc .vmem S1024x128 .f32) → a35.IsWhole → (a36 : Memref sig .tc .vmem S1024x128 .f32) → a36.IsWhole → (a37 : Memref sig .tc .vmem S1024x128 .i32) → a37.IsWhole → R) : R :=
  f b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13 b.a14 b.h14 b.a15 b.h15 b.a16 b.h16 b.a17 b.h17 b.a18 b.h18 b.a19 b.h19 b.a20 b.h20 b.a21 b.h21 b.a22 b.h22 b.a23 b.h23 b.a24 b.h24 b.a25 b.h25 b.a26 b.h26 b.a27 b.h27 b.a28 b.h28 b.a29 b.h29 b.a30 b.h30 b.a31 b.h31 b.a32 b.h32 b.a33 b.h33 b.a34 b.h34 b.a35 b.h35 b.a36 b.h36 b.a37 b.h37

/-- A buffer held at some contents. -/
def any (c : Dev nD) {sp : Space} {s : Shape} {e : EltTy} (m : Memref sig .tc sp s e) : sProp 𝕄 := iprop(∃ y, owns (c : Thread nD τ) m fullShare y)

/-- What the body holds. -/
def Inv (c : Dev nD) (b : Bufs) (I : Ins F) (R : sProp 𝕄) (x : Vec F S1024x1024 .f32) : sProp 𝕄 :=
  iprop(owns (c : Thread nD τ) b.a1 fullShare I.x1 ∗ owns (c : Thread nD τ) b.a2 fullShare I.x2 ∗ owns (c : Thread nD τ) b.a3 fullShare I.x3 ∗ owns (c : Thread nD τ) b.a4 fullShare I.x4 ∗ owns (c : Thread nD τ) b.a5 fullShare I.x5 ∗ owns (c : Thread nD τ) b.a6 fullShare I.x6 ∗ owns (c : Thread nD τ) b.a7 fullShare I.x7 ∗ owns (c : Thread nD τ) b.a8 fullShare I.x8 ∗ owns (c : Thread nD τ) b.a9 fullShare I.x9 ∗ owns (c : Thread nD τ) b.a10 fullShare I.x10 ∗ owns (c : Thread nD τ) b.a11 fullShare I.x11 ∗ owns (c : Thread nD τ) b.a12 fullShare I.x12 ∗ owns (c : Thread nD τ) b.a13 fullShare I.x13 ∗ owns (c : Thread nD τ) b.a14 fullShare I.x14 ∗ owns (c : Thread nD τ) b.a15 fullShare I.x15 ∗ owns (c : Thread nD τ) b.a16 fullShare x ∗ any (F := F) c b.a17 ∗ any (F := F) c b.a18 ∗ any (F := F) c b.a19 ∗ any (F := F) c b.a20 ∗ any (F := F) c b.a21 ∗ any (F := F) c b.a22 ∗ any (F := F) c b.a23 ∗ any (F := F) c b.a24 ∗ any (F := F) c b.a25 ∗ any (F := F) c b.a26 ∗ any (F := F) c b.a27 ∗ any (F := F) c b.a28 ∗ any (F := F) c b.a29 ∗ any (F := F) c b.a30 ∗ any (F := F) c b.a31 ∗ any (F := F) c b.a32 ∗ any (F := F) c b.a33 ∗ any (F := F) c b.a34 ∗ any (F := F) c b.a35 ∗ any (F := F) c b.a36 ∗ any (F := F) c b.a37 ∗ R)

/-- From `P` one can take `X` and, giving `X'` back, have `P'`. -/
def Takes (P X X' P' : sProp 𝕄) : Prop := P ⊢ iprop(X ∗ (X' -∗ P'))

theorem Takes.here {X X' P : sProp 𝕄} : Takes (iprop(X ∗ P)) X X' (iprop(X' ∗ P)) := by
  unfold Takes
  iintro ⟨H, HP⟩
  isplitl [H]; · iexact H
  iintro H
  isplitl [H]; · iexact H
  iexact HP

theorem Takes.step {Z P X X' P' : sProp 𝕄} (h : Takes P X X' P') : Takes (iprop(Z ∗ P)) X X' (iprop(Z ∗ P')) := by
  unfold Takes at h ⊢
  iintro ⟨HZ, HP⟩
  ihave H := h $$ HP
  icases H with ⟨HX, HW⟩
  isplitl [HX]; · iexact HX
  iintro HX
  isplitl [HZ]; · iexact HZ
  iapply HW; iexact HX

variable (c : Dev nD) (E : Set ℕ) (b : Bufs) (I : Ins F)

theorem t1 (R : sProp 𝕄) (x) : Takes (Inv c b I R x) (owns (c : Thread nD τ) b.a1 fullShare I.x1) (owns (c : Thread nD τ) b.a1 fullShare I.x1) (Inv c b I R x) := by
  unfold Inv; repeat (first | exact Takes.here | refine Takes.step ?_)
theorem t2 (R : sProp 𝕄) (x) : Takes (Inv c b I R x) (owns (c : Thread nD τ) b.a2 fullShare I.x2) (owns (c : Thread nD τ) b.a2 fullShare I.x2) (Inv c b I R x) := by
  unfold Inv; repeat (first | exact Takes.here | refine Takes.step ?_)
theorem t3 (R : sProp 𝕄) (x) : Takes (Inv c b I R x) (owns (c : Thread nD τ) b.a3 fullShare I.x3) (owns (c : Thread nD τ) b.a3 fullShare I.x3) (Inv c b I R x) := by
  unfold Inv; repeat (first | exact Takes.here | refine Takes.step ?_)
theorem t4 (R : sProp 𝕄) (x) : Takes (Inv c b I R x) (owns (c : Thread nD τ) b.a4 fullShare I.x4) (owns (c : Thread nD τ) b.a4 fullShare I.x4) (Inv c b I R x) := by
  unfold Inv; repeat (first | exact Takes.here | refine Takes.step ?_)
theorem t5 (R : sProp 𝕄) (x) : Takes (Inv c b I R x) (owns (c : Thread nD τ) b.a5 fullShare I.x5) (owns (c : Thread nD τ) b.a5 fullShare I.x5) (Inv c b I R x) := by
  unfold Inv; repeat (first | exact Takes.here | refine Takes.step ?_)
theorem t6 (R : sProp 𝕄) (x) : Takes (Inv c b I R x) (owns (c : Thread nD τ) b.a6 fullShare I.x6) (owns (c : Thread nD τ) b.a6 fullShare I.x6) (Inv c b I R x) := by
  unfold Inv; repeat (first | exact Takes.here | refine Takes.step ?_)
theorem t7 (R : sProp 𝕄) (x) : Takes (Inv c b I R x) (owns (c : Thread nD τ) b.a7 fullShare I.x7) (owns (c : Thread nD τ) b.a7 fullShare I.x7) (Inv c b I R x) := by
  unfold Inv; repeat (first | exact Takes.here | refine Takes.step ?_)
theorem t8 (R : sProp 𝕄) (x) : Takes (Inv c b I R x) (owns (c : Thread nD τ) b.a8 fullShare I.x8) (owns (c : Thread nD τ) b.a8 fullShare I.x8) (Inv c b I R x) := by
  unfold Inv; repeat (first | exact Takes.here | refine Takes.step ?_)
theorem t9 (R : sProp 𝕄) (x) : Takes (Inv c b I R x) (owns (c : Thread nD τ) b.a9 fullShare I.x9) (owns (c : Thread nD τ) b.a9 fullShare I.x9) (Inv c b I R x) := by
  unfold Inv; repeat (first | exact Takes.here | refine Takes.step ?_)
theorem t10 (R : sProp 𝕄) (x) : Takes (Inv c b I R x) (owns (c : Thread nD τ) b.a10 fullShare I.x10) (owns (c : Thread nD τ) b.a10 fullShare I.x10) (Inv c b I R x) := by
  unfold Inv; repeat (first | exact Takes.here | refine Takes.step ?_)
theorem t11 (R : sProp 𝕄) (x) : Takes (Inv c b I R x) (owns (c : Thread nD τ) b.a11 fullShare I.x11) (owns (c : Thread nD τ) b.a11 fullShare I.x11) (Inv c b I R x) := by
  unfold Inv; repeat (first | exact Takes.here | refine Takes.step ?_)
theorem t12 (R : sProp 𝕄) (x) : Takes (Inv c b I R x) (owns (c : Thread nD τ) b.a12 fullShare I.x12) (owns (c : Thread nD τ) b.a12 fullShare I.x12) (Inv c b I R x) := by
  unfold Inv; repeat (first | exact Takes.here | refine Takes.step ?_)
theorem t13 (R : sProp 𝕄) (x) : Takes (Inv c b I R x) (owns (c : Thread nD τ) b.a13 fullShare I.x13) (owns (c : Thread nD τ) b.a13 fullShare I.x13) (Inv c b I R x) := by
  unfold Inv; repeat (first | exact Takes.here | refine Takes.step ?_)
theorem t14 (R : sProp 𝕄) (x) : Takes (Inv c b I R x) (owns (c : Thread nD τ) b.a14 fullShare I.x14) (owns (c : Thread nD τ) b.a14 fullShare I.x14) (Inv c b I R x) := by
  unfold Inv; repeat (first | exact Takes.here | refine Takes.step ?_)
theorem t15 (R : sProp 𝕄) (x) : Takes (Inv c b I R x) (owns (c : Thread nD τ) b.a15 fullShare I.x15) (owns (c : Thread nD τ) b.a15 fullShare I.x15) (Inv c b I R x) := by
  unfold Inv; repeat (first | exact Takes.here | refine Takes.step ?_)
theorem t16 (R : sProp 𝕄) (x x') : Takes (Inv c b I R x) (owns (c : Thread nD τ) b.a16 fullShare x) (owns (c : Thread nD τ) b.a16 fullShare x') (Inv c b I R x') := by
  unfold Inv; repeat (first | exact Takes.here | refine Takes.step ?_)
theorem t17 (R : sProp 𝕄) (x) : Takes (Inv c b I R x) (any (F := F) c b.a17) (any (F := F) c b.a17) (Inv c b I R x) := by
  unfold Inv; repeat (first | exact Takes.here | refine Takes.step ?_)
theorem t18 (R : sProp 𝕄) (x) : Takes (Inv c b I R x) (any (F := F) c b.a18) (any (F := F) c b.a18) (Inv c b I R x) := by
  unfold Inv; repeat (first | exact Takes.here | refine Takes.step ?_)
theorem t19 (R : sProp 𝕄) (x) : Takes (Inv c b I R x) (any (F := F) c b.a19) (any (F := F) c b.a19) (Inv c b I R x) := by
  unfold Inv; repeat (first | exact Takes.here | refine Takes.step ?_)
theorem t20 (R : sProp 𝕄) (x) : Takes (Inv c b I R x) (any (F := F) c b.a20) (any (F := F) c b.a20) (Inv c b I R x) := by
  unfold Inv; repeat (first | exact Takes.here | refine Takes.step ?_)
theorem t21 (R : sProp 𝕄) (x) : Takes (Inv c b I R x) (any (F := F) c b.a21) (any (F := F) c b.a21) (Inv c b I R x) := by
  unfold Inv; repeat (first | exact Takes.here | refine Takes.step ?_)
theorem t22 (R : sProp 𝕄) (x) : Takes (Inv c b I R x) (any (F := F) c b.a22) (any (F := F) c b.a22) (Inv c b I R x) := by
  unfold Inv; repeat (first | exact Takes.here | refine Takes.step ?_)
theorem t23 (R : sProp 𝕄) (x) : Takes (Inv c b I R x) (any (F := F) c b.a23) (any (F := F) c b.a23) (Inv c b I R x) := by
  unfold Inv; repeat (first | exact Takes.here | refine Takes.step ?_)
theorem t24 (R : sProp 𝕄) (x) : Takes (Inv c b I R x) (any (F := F) c b.a24) (any (F := F) c b.a24) (Inv c b I R x) := by
  unfold Inv; repeat (first | exact Takes.here | refine Takes.step ?_)
theorem t25 (R : sProp 𝕄) (x) : Takes (Inv c b I R x) (any (F := F) c b.a25) (any (F := F) c b.a25) (Inv c b I R x) := by
  unfold Inv; repeat (first | exact Takes.here | refine Takes.step ?_)
theorem t26 (R : sProp 𝕄) (x) : Takes (Inv c b I R x) (any (F := F) c b.a26) (any (F := F) c b.a26) (Inv c b I R x) := by
  unfold Inv; repeat (first | exact Takes.here | refine Takes.step ?_)
theorem t27 (R : sProp 𝕄) (x) : Takes (Inv c b I R x) (any (F := F) c b.a27) (any (F := F) c b.a27) (Inv c b I R x) := by
  unfold Inv; repeat (first | exact Takes.here | refine Takes.step ?_)
theorem t28 (R : sProp 𝕄) (x) : Takes (Inv c b I R x) (any (F := F) c b.a28) (any (F := F) c b.a28) (Inv c b I R x) := by
  unfold Inv; repeat (first | exact Takes.here | refine Takes.step ?_)
theorem t29 (R : sProp 𝕄) (x) : Takes (Inv c b I R x) (any (F := F) c b.a29) (any (F := F) c b.a29) (Inv c b I R x) := by
  unfold Inv; repeat (first | exact Takes.here | refine Takes.step ?_)
theorem t30 (R : sProp 𝕄) (x) : Takes (Inv c b I R x) (any (F := F) c b.a30) (any (F := F) c b.a30) (Inv c b I R x) := by
  unfold Inv; repeat (first | exact Takes.here | refine Takes.step ?_)
theorem t31 (R : sProp 𝕄) (x) : Takes (Inv c b I R x) (any (F := F) c b.a31) (any (F := F) c b.a31) (Inv c b I R x) := by
  unfold Inv; repeat (first | exact Takes.here | refine Takes.step ?_)
theorem t32 (R : sProp 𝕄) (x) : Takes (Inv c b I R x) (any (F := F) c b.a32) (any (F := F) c b.a32) (Inv c b I R x) := by
  unfold Inv; repeat (first | exact Takes.here | refine Takes.step ?_)
theorem t33 (R : sProp 𝕄) (x) : Takes (Inv c b I R x) (any (F := F) c b.a33) (any (F := F) c b.a33) (Inv c b I R x) := by
  unfold Inv; repeat (first | exact Takes.here | refine Takes.step ?_)
theorem t34 (R : sProp 𝕄) (x) : Takes (Inv c b I R x) (any (F := F) c b.a34) (any (F := F) c b.a34) (Inv c b I R x) := by
  unfold Inv; repeat (first | exact Takes.here | refine Takes.step ?_)
theorem t35 (R : sProp 𝕄) (x) : Takes (Inv c b I R x) (any (F := F) c b.a35) (any (F := F) c b.a35) (Inv c b I R x) := by
  unfold Inv; repeat (first | exact Takes.here | refine Takes.step ?_)
theorem t36 (R : sProp 𝕄) (x) : Takes (Inv c b I R x) (any (F := F) c b.a36) (any (F := F) c b.a36) (Inv c b I R x) := by
  unfold Inv; repeat (first | exact Takes.here | refine Takes.step ?_)
theorem t37 (R : sProp 𝕄) (x) : Takes (Inv c b I R x) (any (F := F) c b.a37) (any (F := F) c b.a37) (Inv c b I R x) := by
  unfold Inv; repeat (first | exact Takes.here | refine Takes.step ?_)

/-- A program run from what the body holds, to a result and a logits' block in the relation `Q`. -/
def Ok (R : sProp 𝕄) {α : Type} (x : Vec F S1024x1024 .f32) (p : Prog (TpuEff nD τ sig (Elt F) Λ₀ .tc) α) (Q : α → Vec F S1024x1024 .f32 → Prop) : Prop :=
  ∀ K : α → sProp 𝕄, (∀ v x', Q v x' → (Inv c b I R x' ⊢ K v)) →
    (Inv c b I R x ⊢ wp frame (wpE (defs₀ (F := F)) Variants.none c none) E p K)

variable {c E b I}

theorem Ok.ret {R : sProp 𝕄} {α : Type} {x : Vec F S1024x1024 .f32} {v : α} {Q : α → Vec F S1024x1024 .f32 → Prop} (h : Q v x) : Ok c E b I R x (pure v) Q := by
  intro K hK
  rw [wp_pure]
  exact (hK v x h).trans (fupd_intro (PROP := sProp 𝕄))

theorem Ok.bind {R : sProp 𝕄} {α β : Type} {x : Vec F S1024x1024 .f32} {p : Prog (TpuEff nD τ sig (Elt F) Λ₀ .tc) α} {k : α → Prog (TpuEff nD τ sig (Elt F) Λ₀ .tc) β}
    {Q : α → Vec F S1024x1024 .f32 → Prop} {Q' : β → Vec F S1024x1024 .f32 → Prop} (h : Ok c E b I R x p Q) (hk : ∀ v x', Q v x' → Ok c E b I R x' (k v) Q') :
    Ok c E b I R x (p >>= k) Q' := by
  intro K hK
  rw [wp_bind]
  exact h _ fun v x' hv => hk v x' hv K hK

theorem Ok.mono {R : sProp 𝕄} {α : Type} {x : Vec F S1024x1024 .f32} {p : Prog (TpuEff nD τ sig (Elt F) Λ₀ .tc) α}
    {Q Q' : α → Vec F S1024x1024 .f32 → Prop} (h : Ok c E b I R x p Q) (hq : ∀ v x', Q v x' → Q' v x') : Ok c E b I R x p Q' :=
  fun K hK => h K fun v x' hv => hK v x' (hq v x' hv)

/-- A part that leaves the logits' block alone, and what follows it. -/
theorem Ok.seq {R : sProp 𝕄} {α β : Type} {x : Vec F S1024x1024 .f32} {p : Prog (TpuEff nD τ sig (Elt F) Λ₀ .tc) α} {k : α → Prog (TpuEff nD τ sig (Elt F) Λ₀ .tc) β}
    {x' : Vec F S1024x1024 .f32} {Q' : β → Vec F S1024x1024 .f32 → Prop} (h : Ok c E b I R x p fun _ y => y = x') (hk : ∀ v, Ok c E b I R x' (k v) Q') :
    Ok c E b I R x (p >>= k) Q' :=
  h.bind fun v y hy => hy ▸ hk v

/-- A load from a buffer held at some contents: anything is read. -/
theorem Ok.lAny {R : sProp 𝕄} {sp : CoreSpace} {s : Shape} {e : EltTy} {m : Memref sig .tc sp s e} {β : Type} {x : Vec F S1024x1024 .f32} {r : LoadRect s} {hl : m.view.LoadsAt r}
    {k : (r.shape.Idx → Elt F e) → Prog (TpuEff nD τ sig (Elt F) Λ₀ .tc) β} {Q : β → Vec F S1024x1024 .f32 → Prop}
    (h : Takes (Inv c b I R x) (any (F := F) c m) (any (F := F) c m) (Inv c b I R x)) (hk : ∀ v, Ok c E b I R x (k v) Q) :
    Ok c E b I R x (Prog.lift (.load m r hl) >>= k) Q := by
  intro K hK
  rw [wp_bind]
  refine BIBase.Entails.trans h ?_
  unfold any owns Prog.lift
  iintro ⟨⟨%y, %f, %hf, H⟩, Hb⟩
  iapply (wp_load (defs := defs₀ (F := F)) Variants.none (c : Thread nD τ) none E (hl := hl) (k := .ret) (f := f) (m.view.setOn_subset_set r.set)) $$ H
  iintro H
  rw [wp_ret]; imodintro
  iapply (hk _ K hK)
  iapply Hb
  iexists y; iexists f
  isplitr; · ipureintro; exact hf
  iexact H

/-- A load from a buffer held at named contents. -/
theorem Ok.lIn {R : sProp 𝕄} {sp : CoreSpace} {s : Shape} {e : EltTy} {m : Memref sig .tc sp s e} {β : Type} {x : Vec F S1024x1024 .f32} {y : Vec F s e} {r : LoadRect s} {hl : m.view.LoadsAt r}
    {k : (r.shape.Idx → Elt F e) → Prog (TpuEff nD τ sig (Elt F) Λ₀ .tc) β} {Q : β → Vec F S1024x1024 .f32 → Prop}
    (h : Takes (Inv c b I R x) (owns (c : Thread nD τ) m fullShare y) (owns (c : Thread nD τ) m fullShare y) (Inv c b I R x)) (hk : Ok c E b I R x (k (fun j => y (r.idx j))) Q) :
    Ok c E b I R x (Prog.lift (.load m r hl) >>= k) Q := by
  intro K hK
  rw [wp_bind]
  refine BIBase.Entails.trans h ?_
  unfold owns Prog.lift
  iintro ⟨⟨%f, %hf, H⟩, Hb⟩
  subst hf
  iapply (wp_load (defs := defs₀ (F := F)) Variants.none (c : Thread nD τ) none E (hl := hl) (k := .ret) (f := f) (m.view.setOn_subset_set r.set)) $$ H
  iintro H
  rw [wp_ret]; imodintro
  iapply (hk K hK)
  iapply Hb
  iexists f
  isplitr; · ipureintro; rfl
  iexact H

/-- A word read from a scalar buffer: anything. -/
theorem Ok.lS {R : sProp 𝕄} {s : Shape} {e : EltTy} {m : Memref sig .tc .smem s e} {β : Type} {x : Vec F S1024x1024 .f32} {y : Vec F s e} {r : Rect s} {h1 : r.shape.numel = 1} {hp : e.packing = 1}
    {k : Elt F e → Prog (TpuEff nD τ sig (Elt F) Λ₀ .tc) β} {Q : β → Vec F S1024x1024 .f32 → Prop}
    (h : Takes (Inv c b I R x) (owns (c : Thread nD τ) m fullShare y) (owns (c : Thread nD τ) m fullShare y) (Inv c b I R x)) (hk : ∀ v, Ok c E b I R x (k v) Q) :
    Ok c E b I R x (smemLoad m r h1 hp >>= k) Q := by
  intro K hK
  rw [wp_bind]
  refine BIBase.Entails.trans h ?_
  unfold owns smemLoad smemLoadElt
  iintro ⟨⟨%f, %hf, H⟩, Hb⟩
  subst hf
  iapply (wp_load (defs := defs₀ (F := F)) Variants.none (c : Thread nD τ) none E (f := f) (m.view.setOn_subset_set _)) $$ H
  iintro H
  rw [wp_ret]; imodintro
  iapply (hk _ K hK)
  iapply Hb
  iexists f
  isplitr; · ipureintro; rfl
  iexact H

/-- A store into a buffer held at some contents. -/
theorem Ok.sAny {R : sProp 𝕄} {sp : CoreSpace} {s : Shape} {e : EltTy} {m : Memref sig .tc sp s e} {β : Type} {x : Vec F S1024x1024 .f32} {r : Rect s} {w : r.shape.Idx → Elt F e}
    {hx : (m.access r).Stores Finset.univ} {hm : Finset.univ = Finset.univ ∨ ∀ a, r.stride a = 1}
    {k : PUnit → Prog (TpuEff nD τ sig (Elt F) Λ₀ .tc) β} {Q : β → Vec F S1024x1024 .f32 → Prop}
    (h : Takes (Inv c b I R x) (any (F := F) c m) (any (F := F) c m) (Inv c b I R x)) (hk : Ok c E b I R x (k ⟨⟩) Q) :
    Ok c E b I R x (Prog.lift (.store m r w Finset.univ hx hm) >>= k) Q := by
  intro K hK
  rw [wp_bind]
  refine BIBase.Entails.trans h ?_
  unfold any owns Prog.lift
  iintro ⟨⟨%y, %f, %hf, H⟩, Hb⟩
  iapply (wp_store_writes₀ (defs := defs₀ (F := F)) Variants.none (c : Thread nD τ) none E (w := w) (hx := hx) (hm := hm) (k := .ret) (f := f) (m.view.set_slice_subset r)) $$ H
  iintro H
  rw [wp_ret]; imodintro
  iapply (hk K hK)
  iapply Hb
  iexists (m.view.read (Elt F) (m.view.writes (Elt F) f [⟨r, w⟩])); iexists (m.view.writes (Elt F) f [⟨r, w⟩])
  isplitr; · ipureintro; rfl
  iexact H

/-- A store into the logits' block. -/
theorem Ok.sU {R : sProp 𝕄} {β : Type} {x : Vec F S1024x1024 .f32} {off size : Fin S1024x1024.rank → ℕ} {inb : ∀ a, off a + size a ≤ S1024x1024.size a} {w : (Rect.unit off size inb).shape.Idx → Elt F .f32}
    {hx : (b.a16.access (Rect.unit off size inb)).Stores Finset.univ} {hm : Finset.univ = Finset.univ ∨ ∀ a, (Rect.unit off size inb).stride a = 1}
    {k : PUnit → Prog (TpuEff nD τ sig (Elt F) Λ₀ .tc) β} {Q : β → Vec F S1024x1024 .f32 → Prop}
    (hk : Ok c E b I R (VecWindow.put (s := S1024x1024) x off size w) (k ⟨⟩) Q) :
    Ok c E b I R x (Prog.lift (.store b.a16 (Rect.unit off size inb) w Finset.univ hx hm) >>= k) Q := by
  intro K hK
  rw [wp_bind]
  refine BIBase.Entails.trans (t16 c b I R x (VecWindow.put (s := S1024x1024) x off size w)) ?_
  unfold owns Prog.lift
  iintro ⟨⟨%f, %hf, H⟩, Hb⟩
  subst hf
  iapply (wp_store_writes₀ (defs := defs₀ (F := F)) Variants.none (c : Thread nD τ) none E (w := w) (hx := hx) (hm := hm) (k := .ret) (f := f) (b.a16.view.set_slice_subset _)) $$ H
  iintro H
  rw [wp_ret]; imodintro
  iapply (hk K hK)
  iapply Hb
  iexists _
  isplitr; · ipureintro; exact View.read_writes_cons_put b.a16.view f inb w [] rfl
  iexact H

end Cert.StatsIdeal.Body

end
-- ==== Proof.StatsBody.lean ====
module

public import proofs.«01_k».proof.Proof.StatsBase
public import proofs.«01_k».proof.Proof.Gen.StatsIdeal.Frame
public import proofs.«01_k».proof.Proof.Gen.StatsIdeal.Launch
public import proofs.«01_k».proof.Proof.Gen.StatsIdeal.Skeleton
public import proofs.«01_k».proof.Proof.Gen.StatsIdeal.Points
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.VecWindow
public import Idealize.ShloMosaic.Lib.Pipeline.ValueKit

@[expose] public section

set_option maxRecDepth 16384

/-! # The parts of the statistics body, each run over what the body holds -/

noncomputable section

namespace Cert.StatsIdeal.Body

open Cert.StatsIdeal Cert.StatsIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

variable {c : Dev nD} {E : Set ℕ} {b : Bufs} {I : Ins F} (x : Vec F S1024x1024 .f32)

/-- A rectangle of an array. -/
abbrev ldv {s : Shape} {e : EltTy} (y : Vec F s e) (r : LoadRect s) : r.shape.Idx → Elt F e := fun j => y (r.idx j)

theorem p1 (R : sProp 𝕄) (x : Vec F S1024x1024 .f32) (i : grid0.Coords)  : Ok c E b I R x (b.on (k0_part1 (F := F) i) ) fun _ y => y = x := by
  rw [k0_part1_eq_skeleton]; unfold k0_part1_skel
  refine Ok.lAny (t28 c b I R _) fun _ => ?_
  refine Ok.sAny (t28 c b I R _) ?_
  refine Ok.lAny (t32 c b I R _) fun _ => ?_
  refine Ok.sAny (t32 c b I R _) ?_
  refine Ok.lAny (t29 c b I R _) fun _ => ?_
  refine Ok.sAny (t29 c b I R _) ?_
  refine Ok.lAny (t30 c b I R _) fun _ => ?_
  refine Ok.sAny (t30 c b I R _) ?_
  refine Ok.lAny (t31 c b I R _) fun _ => ?_
  refine Ok.sAny (t31 c b I R _) ?_
  refine Ok.lAny (t33 c b I R _) fun _ => ?_
  refine Ok.sAny (t33 c b I R _) ?_
  refine Ok.lAny (t34 c b I R _) fun _ => ?_
  refine Ok.sAny (t34 c b I R _) ?_
  refine Ok.lIn (t6 c b I R _) ?_
  exact Ok.ret rfl

theorem p2 (R : sProp 𝕄) (x : Vec F S1024x1024 .f32) (i : grid0.Coords) (v38 : FVec F S1024x128 .f32) : Ok c E b I R x (b.on (k0_part2 (F := F) i) v38) fun _ y => y = x := by
  rw [k0_part2_eq_skeleton]; unfold k0_part2_skel
  refine Ok.lAny (t35 c b I R _) fun _ => ?_
  refine Ok.sAny (t35 c b I R _) ?_
  refine Ok.lIn (t7 c b I R _) ?_
  refine Ok.lAny (t36 c b I R _) fun _ => ?_
  refine Ok.sAny (t36 c b I R _) ?_
  refine Ok.lIn (t8 c b I R _) ?_
  exact Ok.ret rfl

/-- The logits' block after part 3. -/
def u3 (I : Ins F) (x : Vec F S1024x1024 .f32) : Vec F S1024x1024 .f32 :=
  VecWindow.put (s := S1024x1024) x ![0, 0] S1024x256.size (k0_pay22 (ldv I.x4 (Rect.unit (s := S1024x2560) ![0, 0] S1024x2560.size inb_S1024x2560_S1024x2560_0_0).toLoadRect) (ldv I.x14 (Rect.unit (s := S1024x2560) ![0, 0] S256x2560.size inb_S1024x2560_S256x2560_0_0).toLoadRect) (ldv I.x12 (Rect.unit (s := S1x1024) ![0, 0] S1x256.size inb_S1x1024_S1x256_0_0).toLoadRect))

theorem p3 (R : sProp 𝕄) (x : Vec F S1024x1024 .f32) (i : grid0.Coords) (arg0 : BitVec 32) : Ok c E b I R x (b.on (k0_part3 (F := F) i) arg0) fun _ y => y = u3 I x := by
  rw [k0_part3_eq_skeleton]; unfold k0_part3_skel
  refine Ok.lAny (t37 c b I R _) fun _ => ?_
  refine Ok.lAny (t37 c b I R _) fun _ => ?_
  refine Ok.lIn (t4 c b I R _) ?_
  refine Ok.lIn (t14 c b I R _) ?_
  refine Ok.lIn (t12 c b I R _) ?_
  refine Ok.lIn (t16 c b I R _ _) ?_
  refine Ok.sU ?_
  refine Ok.lAny (t35 c b I R _) fun _ => ?_
  refine Ok.lAny (t28 c b I R _) fun _ => ?_
  refine Ok.lAny (t29 c b I R _) fun _ => ?_
  refine Ok.lAny (t30 c b I R _) fun _ => ?_
  exact Ok.ret rfl

theorem p4 (R : sProp 𝕄) (x : Vec F S1024x1024 .f32) (i : grid0.Coords) (v17 : IVec S1024x128 1) (v21 : IVec S1024x128 1) (v30 : FVec F S1024x128 .f32) (v31 : FVec F S1024x128 .f32) (v32 : Vec F S1024x128 .f32) (v35 : FVec F S1024x128 .f32) (v40 : FVec F S1024x128 .f32) (v42 : FVec F S1024x128 .f32) : Ok c E b I R x (b.on (k0_part4 (F := F) i) v17 v21 v30 v31 v32 v35 v40 v42) fun _ y => y = x := by
  rw [k0_part4_eq_skeleton]; unfold k0_part4_skel
  refine Ok.lAny (t28 c b I R _) fun _ => ?_
  refine Ok.sAny (t28 c b I R _) ?_
  refine Ok.lAny (t29 c b I R _) fun _ => ?_
  refine Ok.sAny (t29 c b I R _) ?_
  refine Ok.lAny (t30 c b I R _) fun _ => ?_
  refine Ok.sAny (t30 c b I R _) ?_
  refine Ok.lAny (t31 c b I R _) fun _ => ?_
  refine Ok.lAny (t31 c b I R _) fun _ => ?_
  refine Ok.sAny (t31 c b I R _) ?_
  refine Ok.lIn (t5 c b I R _) ?_
  refine Ok.lIn (t15 c b I R _) ?_
  refine Ok.lIn (t13 c b I R _) ?_
  exact Ok.ret rfl

theorem p5 (R : sProp 𝕄) (x : Vec F S1024x1024 .f32) (i : grid0.Coords) (arg0 : BitVec 32) (v17 : IVec S1024x128 1) (v21 : IVec S1024x128 1) (v76 : FVec F S1024x256 .f32) (v79 : FVec F S1024x256 .f32) : Ok c E b I R x (b.on (k0_part5 (F := F) i) arg0 v17 v21 v76 v79) fun _ y => y = x := by
  rw [k0_part5_eq_skeleton]; unfold k0_part5_skel
  refine Ok.lAny (t36 c b I R _) fun _ => ?_
  refine Ok.lAny (t32 c b I R _) fun _ => ?_
  refine Ok.lAny (t33 c b I R _) fun _ => ?_
  refine Ok.lAny (t32 c b I R _) fun _ => ?_
  refine Ok.sAny (t32 c b I R _) ?_
  refine Ok.lAny (t33 c b I R _) fun _ => ?_
  refine Ok.sAny (t33 c b I R _) ?_
  refine Ok.lAny (t34 c b I R _) fun _ => ?_
  refine Ok.lAny (t34 c b I R _) fun _ => ?_
  refine Ok.sAny (t34 c b I R _) ?_
  exact Ok.ret rfl

/-- The logits' block after part 6. -/
def u6 (I : Ins F) (x : Vec F S1024x1024 .f32) : Vec F S1024x1024 .f32 :=
  VecWindow.put (s := S1024x1024) x ![0, 256] S1024x256.size (k0_pay47 (ldv I.x4 (Rect.unit (s := S1024x2560) ![0, 0] S1024x2560.size inb_S1024x2560_S1024x2560_0_0).toLoadRect) (ldv I.x14 (Rect.unit (s := S1024x2560) ![256, 0] S256x2560.size inb_S1024x2560_S256x2560_256_0).toLoadRect) (ldv I.x12 (Rect.unit (s := S1x1024) ![0, 256] S1x256.size inb_S1x1024_S1x256_0_256).toLoadRect))

theorem p6 (R : sProp 𝕄) (x : Vec F S1024x1024 .f32) (i : grid0.Coords) (v116 : IVec S1024x128 32) (v118 : BitVec 32) : Ok c E b I R x (b.on (k0_part6 (F := F) i) v116 v118) fun _ y => y = u6 I x := by
  rw [k0_part6_eq_skeleton]; unfold k0_part6_skel
  refine Ok.lAny (t37 c b I R _) fun _ => ?_
  refine Ok.lAny (t37 c b I R _) fun _ => ?_
  refine Ok.lIn (t4 c b I R _) ?_
  refine Ok.lIn (t14 c b I R _) ?_
  refine Ok.lIn (t12 c b I R _) ?_
  refine Ok.lIn (t16 c b I R _ _) ?_
  refine Ok.sU ?_
  refine Ok.lAny (t35 c b I R _) fun _ => ?_
  refine Ok.lAny (t28 c b I R _) fun _ => ?_
  refine Ok.lAny (t29 c b I R _) fun _ => ?_
  refine Ok.lAny (t30 c b I R _) fun _ => ?_
  exact Ok.ret rfl

theorem p7 (R : sProp 𝕄) (x : Vec F S1024x1024 .f32) (i : grid0.Coords) (v124 : IVec S1024x128 1) (v128 : IVec S1024x128 1) (v137 : FVec F S1024x128 .f32) (v138 : FVec F S1024x128 .f32) (v139 : Vec F S1024x128 .f32) (v142 : FVec F S1024x128 .f32) (v149 : FVec F S1024x128 .f32) (v153 : FVec F S1024x128 .f32) (v154 : FVec F S1024x128 .f32) : Ok c E b I R x (b.on (k0_part7 (F := F) i) v124 v128 v137 v138 v139 v142 v149 v153 v154) fun _ y => y = x := by
  rw [k0_part7_eq_skeleton]; unfold k0_part7_skel
  refine Ok.lAny (t28 c b I R _) fun _ => ?_
  refine Ok.sAny (t28 c b I R _) ?_
  refine Ok.lAny (t29 c b I R _) fun _ => ?_
  refine Ok.sAny (t29 c b I R _) ?_
  refine Ok.lAny (t30 c b I R _) fun _ => ?_
  refine Ok.sAny (t30 c b I R _) ?_
  refine Ok.lAny (t31 c b I R _) fun _ => ?_
  refine Ok.lAny (t31 c b I R _) fun _ => ?_
  refine Ok.sAny (t31 c b I R _) ?_
  refine Ok.lIn (t5 c b I R _) ?_
  refine Ok.lIn (t15 c b I R _) ?_
  refine Ok.lIn (t13 c b I R _) ?_
  exact Ok.ret rfl

theorem p8 (R : sProp 𝕄) (x : Vec F S1024x1024 .f32) (i : grid0.Coords) (arg0 : BitVec 32) (v124 : IVec S1024x128 1) (v128 : IVec S1024x128 1) (v188 : FVec F S1024x128 .f32) (v189 : FVec F S1024x128 .f32) : Ok c E b I R x (b.on (k0_part8 (F := F) i) arg0 v124 v128 v188 v189) fun _ y => y = x := by
  rw [k0_part8_eq_skeleton]; unfold k0_part8_skel
  refine Ok.lAny (t36 c b I R _) fun _ => ?_
  refine Ok.lAny (t32 c b I R _) fun _ => ?_
  refine Ok.lAny (t33 c b I R _) fun _ => ?_
  refine Ok.lAny (t32 c b I R _) fun _ => ?_
  refine Ok.sAny (t32 c b I R _) ?_
  refine Ok.lAny (t33 c b I R _) fun _ => ?_
  refine Ok.sAny (t33 c b I R _) ?_
  refine Ok.lAny (t34 c b I R _) fun _ => ?_
  refine Ok.lAny (t34 c b I R _) fun _ => ?_
  refine Ok.sAny (t34 c b I R _) ?_
  refine Ok.lAny (t37 c b I R _) fun _ => ?_
  exact Ok.ret rfl

/-- The logits' block after part 9. -/
def u9 (I : Ins F) (x : Vec F S1024x1024 .f32) : Vec F S1024x1024 .f32 :=
  VecWindow.put (s := S1024x1024) x ![0, 512] S1024x256.size (k0_pay71 (ldv I.x4 (Rect.unit (s := S1024x2560) ![0, 0] S1024x2560.size inb_S1024x2560_S1024x2560_0_0).toLoadRect) (ldv I.x14 (Rect.unit (s := S1024x2560) ![512, 0] S256x2560.size inb_S1024x2560_S256x2560_512_0).toLoadRect) (ldv I.x12 (Rect.unit (s := S1x1024) ![0, 512] S1x256.size inb_S1x1024_S1x256_0_512).toLoadRect))

theorem p9 (R : sProp 𝕄) (x : Vec F S1024x1024 .f32) (i : grid0.Coords) (v227 : IVec S1024x128 32) (v228 : Vec F S1024x128 .i32) : Ok c E b I R x (b.on (k0_part9 (F := F) i) v227 v228) fun _ y => y = u9 I x := by
  rw [k0_part9_eq_skeleton]; unfold k0_part9_skel
  refine Ok.lAny (t37 c b I R _) fun _ => ?_
  refine Ok.lIn (t4 c b I R _) ?_
  refine Ok.lIn (t14 c b I R _) ?_
  refine Ok.lIn (t12 c b I R _) ?_
  refine Ok.lIn (t16 c b I R _ _) ?_
  refine Ok.sU ?_
  refine Ok.lAny (t35 c b I R _) fun _ => ?_
  refine Ok.lAny (t28 c b I R _) fun _ => ?_
  refine Ok.lAny (t29 c b I R _) fun _ => ?_
  refine Ok.lAny (t30 c b I R _) fun _ => ?_
  exact Ok.ret rfl

theorem p10 (R : sProp 𝕄) (x : Vec F S1024x1024 .f32) (i : grid0.Coords) (v231 : IVec S1024x128 1) (v235 : IVec S1024x128 1) (v244 : FVec F S1024x128 .f32) (v245 : FVec F S1024x128 .f32) (v249 : FVec F S1024x128 .f32) (v262 : FVec F S1024x128 .f32) (v265 : FVec F S1024x128 .f32) (v266 : FVec F S1024x128 .f32) : Ok c E b I R x (b.on (k0_part10 (F := F) i) v231 v235 v244 v245 v249 v262 v265 v266) fun _ y => y = x := by
  rw [k0_part10_eq_skeleton]; unfold k0_part10_skel
  refine Ok.lAny (t28 c b I R _) fun _ => ?_
  refine Ok.sAny (t28 c b I R _) ?_
  refine Ok.lAny (t29 c b I R _) fun _ => ?_
  refine Ok.sAny (t29 c b I R _) ?_
  refine Ok.lAny (t30 c b I R _) fun _ => ?_
  refine Ok.sAny (t30 c b I R _) ?_
  refine Ok.lAny (t31 c b I R _) fun _ => ?_
  refine Ok.lAny (t31 c b I R _) fun _ => ?_
  refine Ok.sAny (t31 c b I R _) ?_
  refine Ok.lIn (t5 c b I R _) ?_
  refine Ok.lIn (t15 c b I R _) ?_
  refine Ok.lIn (t13 c b I R _) ?_
  refine Ok.lAny (t36 c b I R _) fun _ => ?_
  refine Ok.lAny (t32 c b I R _) fun _ => ?_
  exact Ok.ret rfl

theorem p11 (R : sProp 𝕄) (x : Vec F S1024x1024 .f32) (i : grid0.Coords) (arg0 : BitVec 32) (v231 : IVec S1024x128 1) (v235 : IVec S1024x128 1) (v295 : FVec F S1024x128 .f32) (v296 : FVec F S1024x128 .f32) (v297 : Vec F S1024x128 .f32) (v298 : Vec F S1024x128 .f32) (v299 : FVec F S1024x128 .f32) : Ok c E b I R x (b.on (k0_part11 (F := F) i) arg0 v231 v235 v295 v296 v297 v298 v299) fun _ y => y = x := by
  rw [k0_part11_eq_skeleton]; unfold k0_part11_skel
  refine Ok.lAny (t33 c b I R _) fun _ => ?_
  refine Ok.lAny (t32 c b I R _) fun _ => ?_
  refine Ok.sAny (t32 c b I R _) ?_
  refine Ok.lAny (t33 c b I R _) fun _ => ?_
  refine Ok.sAny (t33 c b I R _) ?_
  refine Ok.lAny (t34 c b I R _) fun _ => ?_
  refine Ok.lAny (t34 c b I R _) fun _ => ?_
  refine Ok.sAny (t34 c b I R _) ?_
  refine Ok.lAny (t37 c b I R _) fun _ => ?_
  exact Ok.ret rfl

/-- The logits' block after part 12. -/
def u12 (I : Ins F) (x : Vec F S1024x1024 .f32) : Vec F S1024x1024 .f32 :=
  VecWindow.put (s := S1024x1024) x ![0, 768] S1024x256.size (k0_pay95 (ldv I.x4 (Rect.unit (s := S1024x2560) ![0, 0] S1024x2560.size inb_S1024x2560_S1024x2560_0_0).toLoadRect) (ldv I.x14 (Rect.unit (s := S1024x2560) ![768, 0] S256x2560.size inb_S1024x2560_S256x2560_768_0).toLoadRect) (ldv I.x12 (Rect.unit (s := S1x1024) ![0, 768] S1x256.size inb_S1x1024_S1x256_0_768).toLoadRect))

theorem p12 (R : sProp 𝕄) (x : Vec F S1024x1024 .f32) (i : grid0.Coords) (v334 : IVec S1024x128 32) : Ok c E b I R x (b.on (k0_part12 (F := F) i) v334) fun _ y => y = u12 I x := by
  rw [k0_part12_eq_skeleton]; unfold k0_part12_skel
  refine Ok.lAny (t37 c b I R _) fun _ => ?_
  refine Ok.lIn (t4 c b I R _) ?_
  refine Ok.lIn (t14 c b I R _) ?_
  refine Ok.lIn (t12 c b I R _) ?_
  refine Ok.lIn (t16 c b I R _ _) ?_
  refine Ok.sU ?_
  refine Ok.lAny (t35 c b I R _) fun _ => ?_
  refine Ok.lAny (t28 c b I R _) fun _ => ?_
  refine Ok.lAny (t29 c b I R _) fun _ => ?_
  refine Ok.lAny (t30 c b I R _) fun _ => ?_
  refine Ok.lAny (t28 c b I R _) fun _ => ?_
  exact Ok.ret rfl

theorem p13 (R : sProp 𝕄) (x : Vec F S1024x1024 .f32) (i : grid0.Coords) (v338 : IVec S1024x128 1) (v342 : IVec S1024x128 1) (v351 : FVec F S1024x128 .f32) (v352 : FVec F S1024x128 .f32) (v356 : FVec F S1024x128 .f32) (v373 : FVec F S1024x128 .f32) (v375 : FVec F S1024x128 .f32) (v376 : Vec F S1024x128 .f32) : Ok c E b I R x (b.on (k0_part13 (F := F) i) v338 v342 v351 v352 v356 v373 v375 v376) fun _ y => y = x := by
  rw [k0_part13_eq_skeleton]; unfold k0_part13_skel
  refine Ok.sAny (t28 c b I R _) ?_
  refine Ok.lAny (t29 c b I R _) fun _ => ?_
  refine Ok.sAny (t29 c b I R _) ?_
  refine Ok.lAny (t30 c b I R _) fun _ => ?_
  refine Ok.sAny (t30 c b I R _) ?_
  refine Ok.lAny (t31 c b I R _) fun _ => ?_
  refine Ok.lAny (t31 c b I R _) fun _ => ?_
  refine Ok.sAny (t31 c b I R _) ?_
  refine Ok.lIn (t5 c b I R _) ?_
  refine Ok.lIn (t15 c b I R _) ?_
  refine Ok.lIn (t13 c b I R _) ?_
  refine Ok.lAny (t36 c b I R _) fun _ => ?_
  refine Ok.lAny (t32 c b I R _) fun _ => ?_
  exact Ok.ret rfl

/-- The logits' block after part 14. -/
def u14 (I : Ins F) (x : Vec F S1024x1024 .f32) : Vec F S1024x1024 .f32 :=
  VecWindow.put (s := S1024x1024) x ![0, 0] S1024x256.size (k0_pay116 (ldv I.x4 (Rect.unit (s := S1024x2560) ![0, 0] S1024x2560.size inb_S1024x2560_S1024x2560_0_0).toLoadRect) (ldv I.x14 (Rect.unit (s := S1024x2560) ![0, 0] S256x2560.size inb_S1024x2560_S256x2560_0_0).toLoadRect) (ldv I.x12 (Rect.unit (s := S1x1024) ![0, 0] S1x256.size inb_S1x1024_S1x256_0_0).toLoadRect))

theorem p14 (R : sProp 𝕄) (x : Vec F S1024x1024 .f32) (i : grid0.Coords) (arg0 : BitVec 32) : Ok c E b I R x (b.on (k0_part14 (F := F) i) arg0) fun _ y => y = u14 I x := by
  rw [k0_part14_eq_skeleton]; unfold k0_part14_skel
  refine Ok.lAny (t37 c b I R _) fun _ => ?_
  refine Ok.lAny (t37 c b I R _) fun _ => ?_
  refine Ok.lIn (t4 c b I R _) ?_
  refine Ok.lIn (t14 c b I R _) ?_
  refine Ok.lIn (t12 c b I R _) ?_
  refine Ok.lIn (t16 c b I R _ _) ?_
  refine Ok.sU ?_
  refine Ok.lAny (t35 c b I R _) fun _ => ?_
  refine Ok.lAny (t28 c b I R _) fun _ => ?_
  refine Ok.lAny (t29 c b I R _) fun _ => ?_
  refine Ok.lAny (t30 c b I R _) fun _ => ?_
  exact Ok.ret rfl

theorem p15 (R : sProp 𝕄) (x : Vec F S1024x1024 .f32) (i : grid0.Coords) (v17 : IVec S1024x128 1) (v21 : IVec S1024x128 1) (v30 : FVec F S1024x128 .f32) (v31 : FVec F S1024x128 .f32) (v32 : Vec F S1024x128 .f32) (v35 : FVec F S1024x128 .f32) (v40 : FVec F S1024x128 .f32) (v42 : FVec F S1024x128 .f32) : Ok c E b I R x (b.on (k0_part15 (F := F) i) v17 v21 v30 v31 v32 v35 v40 v42) fun _ y => y = x := by
  rw [k0_part15_eq_skeleton]; unfold k0_part15_skel
  refine Ok.lAny (t28 c b I R _) fun _ => ?_
  refine Ok.sAny (t28 c b I R _) ?_
  refine Ok.lAny (t29 c b I R _) fun _ => ?_
  refine Ok.sAny (t29 c b I R _) ?_
  refine Ok.lAny (t30 c b I R _) fun _ => ?_
  refine Ok.sAny (t30 c b I R _) ?_
  refine Ok.lAny (t31 c b I R _) fun _ => ?_
  refine Ok.lAny (t31 c b I R _) fun _ => ?_
  refine Ok.sAny (t31 c b I R _) ?_
  refine Ok.lIn (t5 c b I R _) ?_
  refine Ok.lIn (t15 c b I R _) ?_
  refine Ok.lIn (t13 c b I R _) ?_
  exact Ok.ret rfl

theorem p16 (R : sProp 𝕄) (x : Vec F S1024x1024 .f32) (i : grid0.Coords) (arg0 : BitVec 32) (v17 : IVec S1024x128 1) (v21 : IVec S1024x128 1) (v76 : FVec F S1024x256 .f32) (v79 : FVec F S1024x256 .f32) : Ok c E b I R x (b.on (k0_part16 (F := F) i) arg0 v17 v21 v76 v79) fun _ y => y = x := by
  rw [k0_part16_eq_skeleton]; unfold k0_part16_skel
  refine Ok.lAny (t36 c b I R _) fun _ => ?_
  refine Ok.lAny (t32 c b I R _) fun _ => ?_
  refine Ok.lAny (t33 c b I R _) fun _ => ?_
  refine Ok.lAny (t32 c b I R _) fun _ => ?_
  refine Ok.sAny (t32 c b I R _) ?_
  refine Ok.lAny (t33 c b I R _) fun _ => ?_
  refine Ok.sAny (t33 c b I R _) ?_
  refine Ok.lAny (t34 c b I R _) fun _ => ?_
  refine Ok.lAny (t34 c b I R _) fun _ => ?_
  refine Ok.sAny (t34 c b I R _) ?_
  exact Ok.ret rfl

/-- The logits' block after part 17. -/
def u17 (I : Ins F) (x : Vec F S1024x1024 .f32) : Vec F S1024x1024 .f32 :=
  VecWindow.put (s := S1024x1024) x ![0, 256] S1024x128.size (k0_pay139 (ldv I.x4 (Rect.unit (s := S1024x2560) ![0, 0] S1024x2560.size inb_S1024x2560_S1024x2560_0_0).toLoadRect) (ldv I.x14 (Rect.unit (s := S1024x2560) ![256, 0] S128x2560.size inb_S1024x2560_S128x2560_256_0).toLoadRect) (ldv I.x12 (Rect.unit (s := S1x1024) ![0, 256] S1x128.size inb_S1x1024_S1x128_0_256).toLoadRect))

theorem p17 (R : sProp 𝕄) (x : Vec F S1024x1024 .f32) (i : grid0.Coords) (v116 : IVec S1024x128 32) (v118 : BitVec 32) : Ok c E b I R x (b.on (k0_part17 (F := F) i) v116 v118) fun _ y => y = u17 I x := by
  rw [k0_part17_eq_skeleton]; unfold k0_part17_skel
  refine Ok.lAny (t37 c b I R _) fun _ => ?_
  refine Ok.lIn (t4 c b I R _) ?_
  refine Ok.lIn (t14 c b I R _) ?_
  refine Ok.lIn (t12 c b I R _) ?_
  refine Ok.lIn (t16 c b I R _ _) ?_
  refine Ok.sU ?_
  refine Ok.lAny (t35 c b I R _) fun _ => ?_
  refine Ok.lAny (t28 c b I R _) fun _ => ?_
  refine Ok.lAny (t29 c b I R _) fun _ => ?_
  refine Ok.lAny (t30 c b I R _) fun _ => ?_
  refine Ok.lAny (t28 c b I R _) fun _ => ?_
  refine Ok.sAny (t28 c b I R _) ?_
  refine Ok.lAny (t29 c b I R _) fun _ => ?_
  exact Ok.ret rfl

theorem p18 (R : sProp 𝕄) (x : Vec F S1024x1024 .f32) (i : grid0.Coords) (v124 : IVec S1024x128 1) (v131 : FVec F S1024x128 .f32) (v146 : FVec F S1024x128 .f32) (v148 : FVec F S1024x128 .f32) (v152 : Vec F S1024x128 .f32) : Ok c E b I R x (b.on (k0_part18 (F := F) i) v124 v131 v146 v148 v152) fun _ y => y = x := by
  rw [k0_part18_eq_skeleton]; unfold k0_part18_skel
  refine Ok.sAny (t29 c b I R _) ?_
  refine Ok.lAny (t30 c b I R _) fun _ => ?_
  refine Ok.sAny (t30 c b I R _) ?_
  refine Ok.lAny (t31 c b I R _) fun _ => ?_
  refine Ok.lAny (t31 c b I R _) fun _ => ?_
  refine Ok.sAny (t31 c b I R _) ?_
  refine Ok.lIn (t5 c b I R _) ?_
  refine Ok.lIn (t15 c b I R _) ?_
  refine Ok.lIn (t13 c b I R _) ?_
  refine Ok.lAny (t36 c b I R _) fun _ => ?_
  refine Ok.lAny (t32 c b I R _) fun _ => ?_
  refine Ok.lAny (t33 c b I R _) fun _ => ?_
  refine Ok.lAny (t32 c b I R _) fun _ => ?_
  refine Ok.sAny (t32 c b I R _) ?_
  exact Ok.ret rfl

theorem p19 (R : sProp 𝕄) (x : Vec F S1024x1024 .f32) (i : grid0.Coords) (v124 : IVec S1024x128 1) (v171 : FVec F S1024x128 .f32) (v183 : FVec F S1024x128 .f32) : Ok c E b I R x (b.on (k0_part19 (F := F) i) v124 v171 v183) fun _ y => y = x := by
  rw [k0_part19_eq_skeleton]; unfold k0_part19_skel
  refine Ok.lAny (t33 c b I R _) fun _ => ?_
  refine Ok.sAny (t33 c b I R _) ?_
  refine Ok.lAny (t34 c b I R _) fun _ => ?_
  refine Ok.lAny (t34 c b I R _) fun _ => ?_
  refine Ok.sAny (t34 c b I R _) ?_
  refine Ok.lAny (t35 c b I R _) fun _ => ?_
  refine Ok.lAny (t28 c b I R _) fun _ => ?_
  refine Ok.lAny (t29 c b I R _) fun _ => ?_
  refine Ok.lAny (t30 c b I R _) fun _ => ?_
  refine Ok.lAny (t31 c b I R _) fun _ => ?_
  exact Ok.ret rfl

theorem p20 (R : sProp 𝕄) (x : Vec F S1024x1024 .f32) (i : grid0.Coords) (v197 : Vec F S1024x128 .f32) (v213 : FVec F S1024x1 .f32) (v220 : FVec F S1024x128 .f32) (v222 : FVec F S1024 .f32) : Ok c E b I R x (b.on (k0_part20 (F := F) i) v197 v213 v220 v222) fun _ y => y = x := by
  rw [k0_part20_eq_skeleton]; unfold k0_part20_skel
  refine Ok.lAny (t36 c b I R _) fun _ => ?_
  refine Ok.lAny (t32 c b I R _) fun _ => ?_
  refine Ok.lAny (t33 c b I R _) fun _ => ?_
  refine Ok.lAny (t34 c b I R _) fun _ => ?_
  exact Ok.ret rfl

theorem p21 (R : sProp 𝕄) (x : Vec F S1024x1024 .f32) (i : grid0.Coords) (v261 : IVec S1x128 32) (v262 : FVec F S1x128 .f32) (v263 : IVec S1x128 32) (v264 : IVec S1x128 32) : Ok c E b I R x (b.on (k0_part21 (F := F) i) v261 v262 v263 v264) fun _ y => y = x := by
  rw [k0_part21_eq_skeleton]; unfold k0_part21_skel
  refine Ok.lS (t3 c b I R _) fun _ => ?_
  refine Ok.lS (t2 c b I R _) fun _ => ?_
  refine Ok.lS (t3 c b I R _) fun _ => ?_
  refine Ok.lS (t2 c b I R _) fun _ => ?_
  refine Ok.lS (t3 c b I R _) fun _ => ?_
  refine Ok.lS (t2 c b I R _) fun _ => ?_
  refine Ok.lS (t3 c b I R _) fun _ => ?_
  refine Ok.lS (t2 c b I R _) fun _ => ?_
  refine Ok.lS (t3 c b I R _) fun _ => ?_
  exact Ok.ret rfl

theorem p22 (R : sProp 𝕄) (x : Vec F S1024x1024 .f32) (i : grid0.Coords) (v261 : IVec S1x128 32) (v298 : FVec F S1x128 .f32) (v303 : IVec S1x128 32) (v305 : IVec S1x128 1) (v307 : FVec F S1x128 .f32) : Ok c E b I R x (b.on (k0_part22 (F := F) i) v261 v298 v303 v305 v307) fun _ y => y = x := by
  rw [k0_part22_eq_skeleton]; unfold k0_part22_skel
  refine Ok.lS (t2 c b I R _) fun _ => ?_
  refine Ok.lS (t3 c b I R _) fun _ => ?_
  refine Ok.lS (t2 c b I R _) fun _ => ?_
  refine Ok.lS (t3 c b I R _) fun _ => ?_
  refine Ok.lS (t2 c b I R _) fun _ => ?_
  refine Ok.lS (t3 c b I R _) fun _ => ?_
  refine Ok.lS (t2 c b I R _) fun _ => ?_
  refine Ok.lS (t3 c b I R _) fun _ => ?_
  exact Ok.ret rfl

theorem p23 (R : sProp 𝕄) (x : Vec F S1024x1024 .f32) (i : grid0.Coords) (v261 : IVec S1x128 32) (v343 : IVec S1x128 32) (v348 : FVec F S1x128 .f32) (v350 : IVec S1x128 1) : Ok c E b I R x (b.on (k0_part23 (F := F) i) v261 v343 v348 v350) fun _ y => y = x := by
  rw [k0_part23_eq_skeleton]; unfold k0_part23_skel
  refine Ok.lS (t2 c b I R _) fun _ => ?_
  refine Ok.lS (t3 c b I R _) fun _ => ?_
  refine Ok.lS (t2 c b I R _) fun _ => ?_
  refine Ok.lS (t3 c b I R _) fun _ => ?_
  refine Ok.lS (t2 c b I R _) fun _ => ?_
  refine Ok.lS (t3 c b I R _) fun _ => ?_
  refine Ok.lS (t2 c b I R _) fun _ => ?_
  refine Ok.lS (t3 c b I R _) fun _ => ?_
  refine Ok.lS (t2 c b I R _) fun _ => ?_
  exact Ok.ret rfl

theorem p24 (R : sProp 𝕄) (x : Vec F S1024x1024 .f32) (i : grid0.Coords) (v261 : IVec S1x128 32) (v388 : FVec F S1x128 .f32) (v393 : IVec S1x128 32) : Ok c E b I R x (b.on (k0_part24 (F := F) i) v261 v388 v393) fun _ y => y = x := by
  rw [k0_part24_eq_skeleton]; unfold k0_part24_skel
  refine Ok.lS (t3 c b I R _) fun _ => ?_
  refine Ok.lS (t2 c b I R _) fun _ => ?_
  refine Ok.lS (t3 c b I R _) fun _ => ?_
  refine Ok.lS (t2 c b I R _) fun _ => ?_
  refine Ok.lS (t3 c b I R _) fun _ => ?_
  refine Ok.lS (t2 c b I R _) fun _ => ?_
  refine Ok.lS (t2 c b I R _) fun _ => ?_
  refine Ok.lS (t2 c b I R _) fun _ => ?_
  refine Ok.lS (t2 c b I R _) fun _ => ?_
  exact Ok.ret rfl

theorem p25 (R : sProp 𝕄) (x : Vec F S1024x1024 .f32) (i : grid0.Coords) (v423 : IVec S1x128 32) (v425 : IVec S1x128 1) : Ok c E b I R x (b.on (k0_part25 (F := F) i) v423 v425) fun _ y => y = x := by
  rw [k0_part25_eq_skeleton]; unfold k0_part25_skel
  refine Ok.lS (t2 c b I R _) fun _ => ?_
  refine Ok.lS (t2 c b I R _) fun _ => ?_
  refine Ok.lS (t2 c b I R _) fun _ => ?_
  refine Ok.lS (t2 c b I R _) fun _ => ?_
  refine Ok.lS (t2 c b I R _) fun _ => ?_
  refine Ok.lS (t2 c b I R _) fun _ => ?_
  refine Ok.lS (t2 c b I R _) fun _ => ?_
  refine Ok.lS (t2 c b I R _) fun _ => ?_
  refine Ok.lS (t2 c b I R _) fun _ => ?_
  refine Ok.lS (t2 c b I R _) fun _ => ?_
  refine Ok.lS (t2 c b I R _) fun _ => ?_
  refine Ok.lS (t2 c b I R _) fun _ => ?_
  exact Ok.ret rfl

theorem p26 (R : sProp 𝕄) (x : Vec F S1024x1024 .f32) (i : grid0.Coords) (v423 : IVec S1x128 32) (v425 : IVec S1x128 1) (v429 : IVec S1x128 1) (v433 : IVec S1x128 1) (v437 : IVec S1x128 1) (v441 : IVec S1x128 1) : Ok c E b I R x (b.on (k0_part26 (F := F) i) v423 v425 v429 v433 v437 v441) fun _ y => y = x := by
  rw [k0_part26_eq_skeleton]; unfold k0_part26_skel
  refine Ok.lS (t2 c b I R _) fun _ => ?_
  refine Ok.lS (t3 c b I R _) fun _ => ?_
  refine Ok.lS (t3 c b I R _) fun _ => ?_
  refine Ok.lS (t3 c b I R _) fun _ => ?_
  refine Ok.lS (t3 c b I R _) fun _ => ?_
  exact Ok.ret rfl

theorem p27 (R : sProp 𝕄) (x : Vec F S1024x1024 .f32) (i : grid0.Coords) (v445 : IVec S1x128 1) (v449 : IVec S1x128 1) (v453 : IVec S1x128 1) (v457 : IVec S1x128 1) (v461 : IVec S1x128 1) (v518 : FVec F S1x128 .f32) (v522 : FVec F S1x128 .f32) (v526 : FVec F S1x128 .f32) : Ok c E b I R x (b.on (k0_part27 (F := F) i) v445 v449 v453 v457 v461 v518 v522 v526) fun _ y => y = x := by
  rw [k0_part27_eq_skeleton]; unfold k0_part27_skel
  refine Ok.lS (t3 c b I R _) fun _ => ?_
  refine Ok.lS (t3 c b I R _) fun _ => ?_
  refine Ok.lS (t3 c b I R _) fun _ => ?_
  refine Ok.lS (t3 c b I R _) fun _ => ?_
  exact Ok.ret rfl

theorem p28 (R : sProp 𝕄) (x : Vec F S1024x1024 .f32) (i : grid0.Coords) (v461 : IVec S1x128 1) (v465 : IVec S1x128 1) (v469 : IVec S1x128 1) (v473 : IVec S1x128 1) (v477 : IVec S1x128 1) (v563 : FVec F S1x128 .f32) (v567 : FVec F S1x128 .f32) : Ok c E b I R x (b.on (k0_part28 (F := F) i) v461 v465 v469 v473 v477 v563 v567) fun _ y => y = x := by
  rw [k0_part28_eq_skeleton]; unfold k0_part28_skel
  refine Ok.lS (t3 c b I R _) fun _ => ?_
  refine Ok.lS (t3 c b I R _) fun _ => ?_
  refine Ok.lS (t3 c b I R _) fun _ => ?_
  refine Ok.lS (t3 c b I R _) fun _ => ?_
  refine Ok.lS (t3 c b I R _) fun _ => ?_
  exact Ok.ret rfl

theorem p29 (R : sProp 𝕄) (x : Vec F S1024x1024 .f32) (i : grid0.Coords) (v261 : IVec S1x128 32) (v418 : FVec F S1x128 .f32) (v429 : IVec S1x128 1) (v481 : IVec S1x128 1) (v485 : IVec S1x128 1) (v489 : IVec S1x128 1) (v603 : FVec F S1x128 .f32) (v608 : FVec F S1x128 .f32) (cst_248 : F .f32) (cst_249 : F .f32) : Ok c E b I R x (b.on (k0_part29 (F := F) i) v261 v418 v429 v481 v485 v489 v603 v608 cst_248 cst_249) fun _ y => y = x := by
  rw [k0_part29_eq_skeleton]; unfold k0_part29_skel
  refine Ok.lS (t3 c b I R _) fun _ => ?_
  refine Ok.lS (t3 c b I R _) fun _ => ?_
  refine Ok.lS (t3 c b I R _) fun _ => ?_
  exact Ok.ret rfl

theorem p30 (R : sProp 𝕄) (x : Vec F S1024x1024 .f32) (i : grid0.Coords) (v261 : IVec S1x128 32) (v433 : IVec S1x128 1) (v437 : IVec S1x128 1) (v441 : IVec S1x128 1) (v445 : IVec S1x128 1) (v640 : FVec F S1x128 .f32) (v652 : FVec F S1x128 .f32) : Ok c E b I R x (b.on (k0_part30 (F := F) i) v261 v433 v437 v441 v445 v640 v652) fun _ y => y = x := by
  rw [k0_part30_eq_skeleton]; unfold k0_part30_skel
  exact Ok.ret rfl

theorem p31 (R : sProp 𝕄) (x : Vec F S1024x1024 .f32) (i : grid0.Coords) (v261 : IVec S1x128 32) (v449 : IVec S1x128 1) (v453 : IVec S1x128 1) (v457 : IVec S1x128 1) (v461 : IVec S1x128 1) (v640 : FVec F S1x128 .f32) (v696 : FVec F S1x128 .f32) : Ok c E b I R x (b.on (k0_part31 (F := F) i) v261 v449 v453 v457 v461 v640 v696) fun _ y => y = x := by
  rw [k0_part31_eq_skeleton]; unfold k0_part31_skel
  exact Ok.ret rfl

theorem p32 (R : sProp 𝕄) (x : Vec F S1024x1024 .f32) (i : grid0.Coords) (v261 : IVec S1x128 32) (v465 : IVec S1x128 1) (v469 : IVec S1x128 1) (v473 : IVec S1x128 1) (v477 : IVec S1x128 1) (v640 : FVec F S1x128 .f32) (v740 : FVec F S1x128 .f32) : Ok c E b I R x (b.on (k0_part32 (F := F) i) v261 v465 v469 v473 v477 v640 v740) fun _ y => y = x := by
  rw [k0_part32_eq_skeleton]; unfold k0_part32_skel
  exact Ok.ret rfl

theorem p33 (R : sProp 𝕄) (x : Vec F S1024x1024 .f32) (i : grid0.Coords) (v261 : IVec S1x128 32) (v481 : IVec S1x128 1) (v485 : IVec S1x128 1) (v489 : IVec S1x128 1) (v630 : FVec F S1x128 .f32) (v639 : FVec F S1x128 .f32) (v640 : FVec F S1x128 .f32) (v784 : FVec F S1x128 .f32) : Ok c E b I R x (b.on (k0_part33 (F := F) i) v261 v481 v485 v489 v630 v639 v640 v784) fun _ y => y = x := by
  rw [k0_part33_eq_skeleton]; unfold k0_part33_skel
  exact Ok.ret rfl

theorem p34 (R : sProp 𝕄) (x : Vec F S1024x1024 .f32) (i : grid0.Coords) (v827 : IVec S1x128 32) (v828 : IVec S1x128 32) : Ok c E b I R x (b.on (k0_part34 (F := F) i) v827 v828) fun _ y => y = x := by
  rw [k0_part34_eq_skeleton]; unfold k0_part34_skel
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  exact Ok.ret rfl

theorem p35 (R : sProp 𝕄) (x : Vec F S1024x1024 .f32) (i : grid0.Coords) (v827 : IVec S1x128 32) (v864 : IVec S1x128 32) (v869 : IVec S1x128 32) (v870 : IVec S1x128 32) : Ok c E b I R x (b.on (k0_part35 (F := F) i) v827 v864 v869 v870) fun _ y => y = x := by
  rw [k0_part35_eq_skeleton]; unfold k0_part35_skel
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  exact Ok.ret rfl

theorem p36 (R : sProp 𝕄) (x : Vec F S1024x1024 .f32) (i : grid0.Coords) (v827 : IVec S1x128 32) (v904 : IVec S1x128 32) (v909 : IVec S1x128 32) (v911 : IVec S1x128 1) (v913 : IVec S1x128 32) : Ok c E b I R x (b.on (k0_part36 (F := F) i) v827 v904 v909 v911 v913) fun _ y => y = x := by
  rw [k0_part36_eq_skeleton]; unfold k0_part36_skel
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  exact Ok.ret rfl

theorem p37 (R : sProp 𝕄) (x : Vec F S1024x1024 .f32) (i : grid0.Coords) (v826 : FVec F S1x128 .f32) (v827 : IVec S1x128 32) (v949 : IVec S1x128 32) (v954 : IVec S1x128 32) (v956 : IVec S1x128 1) : Ok c E b I R x (b.on (k0_part37 (F := F) i) v826 v827 v949 v954 v956) fun _ y => y = x := by
  rw [k0_part37_eq_skeleton]; unfold k0_part37_skel
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  refine Ok.lS (t1 c b I R _) fun _ => ?_
  exact Ok.ret rfl

theorem p38 (R : sProp 𝕄) (x : Vec F S1024x1024 .f32) (i : grid0.Coords)  : Ok c E b I R x (b.on (k0_part38 (F := F) i) ) fun _ y => y = x := by
  rw [k0_part38_eq_skeleton]; unfold k0_part38_skel
  refine Ok.lIn (t10 c b I R _) ?_
  refine Ok.lIn (t9 c b I R _) ?_
  exact Ok.ret rfl

theorem p39 (R : sProp 𝕄) (x : Vec F S1024x1024 .f32) (i : grid0.Coords) (v228 : FVec F S1024x128 .f32) (v1043 : FVec F S1x1024 .f32) (v1047 : FVec F S128x128 .f32) (v1051 : FVec F S128x128 .f32) (v1055 : FVec F S128x128 .f32) : Ok c E b I R x (b.on (k0_part39 (F := F) i) v228 v1043 v1047 v1051 v1055) fun _ y => y = x := by
  rw [k0_part39_eq_skeleton]; unfold k0_part39_skel
  refine Ok.lIn (t11 c b I R _) ?_
  exact Ok.ret rfl

theorem p40 (R : sProp 𝕄) (x : Vec F S1024x1024 .f32) (i : grid0.Coords) (v228 : FVec F S1024x128 .f32) (v233 : FVec F S1024x128 .f32) (v260 : FVec F S1024x128 .f32) (v826 : FVec F S1x128 .f32) (v995 : IVec S1024x128 1) (v1001 : FVec F S1024x1 .f32) (v1008 : FVec F S1x1 .f32) (v1041 : FVec F S1024x128 .f32) (v1113 : FVec F S1024x128 .f32) : Ok c E b I R x (b.on (k0_part40 (F := F) i) v228 v233 v260 v826 v995 v1001 v1008 v1041 v1113) fun _ y => y = x := by
  rw [k0_part40_eq_skeleton]; unfold k0_part40_skel
  refine Ok.lAny (t21 c b I R _) fun _ => ?_
  refine Ok.sAny (t21 c b I R _) ?_
  refine Ok.lAny (t22 c b I R _) fun _ => ?_
  refine Ok.sAny (t22 c b I R _) ?_
  refine Ok.lAny (t23 c b I R _) fun _ => ?_
  refine Ok.sAny (t23 c b I R _) ?_
  exact Ok.ret rfl

theorem p41 (R : sProp 𝕄) (x : Vec F S1024x1024 .f32) (i : grid0.Coords) (v228 : FVec F S1024x128 .f32) (v260 : FVec F S1024x128 .f32) (v1153 : FVec F S1024x128 .f32) : Ok c E b I R x (b.on (k0_part41 (F := F) i) v228 v260 v1153) fun _ y => y = x := by
  rw [k0_part41_eq_skeleton]; unfold k0_part41_skel
  refine Ok.lAny (t24 c b I R _) fun _ => ?_
  refine Ok.sAny (t24 c b I R _) ?_
  refine Ok.lAny (t17 c b I R _) fun _ => ?_
  refine Ok.sAny (t17 c b I R _) ?_
  exact Ok.ret rfl

theorem p42 (R : sProp 𝕄) (x : Vec F S1024x1024 .f32) (i : grid0.Coords) (v233 : FVec F S1024x128 .f32) (v1132 : FVec F S1024x128 .f32) (v1185 : FVec F S1x128 .f32) (v1188 : FVec F S1x128 .f32) (v1191 : FVec F S1x128 .f32) (v1194 : FVec F S1x128 .f32) (v1197 : FVec F S1x128 .f32) (v1200 : FVec F S1x128 .f32) (v1203 : FVec F S1x128 .f32) (v1206 : FVec F S1x128 .f32) : Ok c E b I R x (b.on (k0_part42 (F := F) i) v233 v1132 v1185 v1188 v1191 v1194 v1197 v1200 v1203 v1206) fun _ y => y = x := by
  rw [k0_part42_eq_skeleton]; unfold k0_part42_skel
  refine Ok.lAny (t18 c b I R _) fun _ => ?_
  refine Ok.sAny (t18 c b I R _) ?_
  refine Ok.lAny (t19 c b I R _) fun _ => ?_
  refine Ok.sAny (t19 c b I R _) ?_
  exact Ok.ret rfl

/-- The logits' block after a block before the last. -/
def uMid (I : Ins F) (x : Vec F S1024x1024 .f32) : Vec F S1024x1024 .f32 := u12 I (u9 I (u6 I (u3 I x)))

/-- The logits' block after the last. -/
def uLast (I : Ins F) (x : Vec F S1024x1024 .f32) : Vec F S1024x1024 .f32 := u17 I (u14 I x)

/-- What the first point clears. -/
noncomputable def initP (b : Bufs) (i : grid0.Coords) : Prog (TpuEff nD τ sig (Elt F) Λ₀ .tc) PUnit := do
  let arg0 : BitVec 32 := BitVec.ofNat 32 (i 0).val
  let v38 : FVec F S1024x128 .f32 ← b.on (k0_part1 i)
  let v85 : IVec S1024x128 32 ← b.on (k0_part2 i) v38
  let v86 : Vec F S1024x128 .i32 ← Prog.lift (.load b.a37 (Rect.unit (s := S1024x128) ![0, 0] S1024x128.size inb_S1024x128_S1024x128_0_0).toLoadRect (View.loadsAt_vmem h_S1024x128))
  Prog.lift (.store b.a37 (Rect.unit (s := S1024x128) ![0, 0] S1024x128.size inb_S1024x128_S1024x128_0_0) (k0_pay1 v85) Finset.univ (View.stores_vmem_bits_univ h_S1024x128 rfl) (.inl rfl))
  pure ⟨⟩

theorem initP_ok (R : sProp 𝕄) (x : Vec F S1024x1024 .f32) (i : grid0.Coords) : Ok c E b I R x (initP (F := F) b i) fun _ y => y = x := by
  unfold initP
  refine Ok.seq (p1 R _ i ) fun _ => ?_
  refine Ok.seq (p2 R _ i _) fun _ => ?_
  refine Ok.lAny (t37 c b I R _) fun _ => ?_
  refine Ok.sAny (t37 c b I R _) ?_
  exact Ok.ret rfl

/-- A block before the last. -/
noncomputable def midP (b : Bufs) (i : grid0.Coords) : Prog (TpuEff nD τ sig (Elt F) Λ₀ .tc) PUnit := do
  let arg0 : BitVec 32 := BitVec.ofNat 32 (i 0).val
  let ⟨v17, v21, v30, v31, v32, v35, v40, v42⟩ : Σ' (v17 : IVec S1024x128 1) (v21 : IVec S1024x128 1) (v30 : FVec F S1024x128 .f32) (v31 : FVec F S1024x128 .f32) (v32 : Vec F S1024x128 .f32) (v35 : FVec F S1024x128 .f32) (v40 : FVec F S1024x128 .f32), FVec F S1024x128 .f32 ← b.on (k0_part3 i) arg0
  let ⟨v76, v79⟩ : Σ' (v76 : FVec F S1024x256 .f32), FVec F S1024x256 .f32 ← b.on (k0_part4 i) v17 v21 v30 v31 v32 v35 v40 v42
  let ⟨v116, v118⟩ : Σ' (v116 : IVec S1024x128 32), BitVec 32 ← b.on (k0_part5 i) arg0 v17 v21 v76 v79
  let ⟨v124, v128, v137, v138, v139, v142, v149, v153, v154⟩ : Σ' (v124 : IVec S1024x128 1) (v128 : IVec S1024x128 1) (v137 : FVec F S1024x128 .f32) (v138 : FVec F S1024x128 .f32) (v139 : Vec F S1024x128 .f32) (v142 : FVec F S1024x128 .f32) (v149 : FVec F S1024x128 .f32) (v153 : FVec F S1024x128 .f32), FVec F S1024x128 .f32 ← b.on (k0_part6 i) v116 v118
  let ⟨v188, v189⟩ : Σ' (v188 : FVec F S1024x128 .f32), FVec F S1024x128 .f32 ← b.on (k0_part7 i) v124 v128 v137 v138 v139 v142 v149 v153 v154
  let ⟨v227, v228⟩ : Σ' (v227 : IVec S1024x128 32), Vec F S1024x128 .i32 ← b.on (k0_part8 i) arg0 v124 v128 v188 v189
  let ⟨v231, v235, v244, v245, v249, v262, v265, v266⟩ : Σ' (v231 : IVec S1024x128 1) (v235 : IVec S1024x128 1) (v244 : FVec F S1024x128 .f32) (v245 : FVec F S1024x128 .f32) (v249 : FVec F S1024x128 .f32) (v262 : FVec F S1024x128 .f32) (v265 : FVec F S1024x128 .f32), FVec F S1024x128 .f32 ← b.on (k0_part9 i) v227 v228
  let ⟨v295, v296, v297, v298, v299⟩ : Σ' (v295 : FVec F S1024x128 .f32) (v296 : FVec F S1024x128 .f32) (v297 : Vec F S1024x128 .f32) (v298 : Vec F S1024x128 .f32), FVec F S1024x128 .f32 ← b.on (k0_part10 i) v231 v235 v244 v245 v249 v262 v265 v266
  let ⟨v334, v338⟩ : Σ' (v334 : IVec S1024x128 32), IVec S1024x128 1 ← b.on (k0_part11 i) arg0 v231 v235 v295 v296 v297 v298 v299
  let ⟨v342, v351, v352, v356, v373, v375, v376⟩ : Σ' (v342 : IVec S1024x128 1) (v351 : FVec F S1024x128 .f32) (v352 : FVec F S1024x128 .f32) (v356 : FVec F S1024x128 .f32) (v373 : FVec F S1024x128 .f32) (v375 : FVec F S1024x128 .f32), Vec F S1024x128 .f32 ← b.on (k0_part12 i) v334
  let ⟨v402, v403, v404, v407, v410⟩ : Σ' (v402 : FVec F S1024x128 .f32) (v403 : FVec F S1024x128 .f32) (v404 : Vec F S1024x128 .f32) (v407 : FVec F S1024x128 .f32), FVec F S1024x128 .f32 ← b.on (k0_part13 i) v338 v342 v351 v352 v356 v373 v375 v376
  let v411 : Vec F S1024x128 .f32 ← Prog.lift (.load b.a33 (Rect.unit (s := S1024x128) ![0, 0] S1024x128.size inb_S1024x128_S1024x128_0_0).toLoadRect (View.loadsAt_vmem h_S1024x128))
  let v421 : Vec F S1024x128 .f32 ← Prog.lift (.load b.a32 (Rect.unit (s := S1024x128) ![0, 0] S1024x128.size inb_S1024x128_S1024x128_0_0).toLoadRect (View.loadsAt_vmem h_S1024x128))
  Prog.lift (.store b.a32 (Rect.unit (s := S1024x128) ![0, 0] S1024x128.size inb_S1024x128_S1024x128_0_0) (k0_pay2 v407) Finset.univ (View.stores_vmem_bits_univ h_S1024x128 rfl) (.inl rfl))
  let v424 : Vec F S1024x128 .f32 ← Prog.lift (.load b.a33 (Rect.unit (s := S1024x128) ![0, 0] S1024x128.size inb_S1024x128_S1024x128_0_0).toLoadRect (View.loadsAt_vmem h_S1024x128))
  Prog.lift (.store b.a33 (Rect.unit (s := S1024x128) ![0, 0] S1024x128.size inb_S1024x128_S1024x128_0_0) (k0_pay3 v402 v403 v404 v407 v410 v411) Finset.univ (View.stores_vmem_bits_univ h_S1024x128 rfl) (.inl rfl))
  let v427 : Vec F S1024x128 .f32 ← Prog.lift (.load b.a34 (Rect.unit (s := S1024x128) ![0, 0] S1024x128.size inb_S1024x128_S1024x128_0_0).toLoadRect (View.loadsAt_vmem h_S1024x128))
  let v434 : Vec F S1024x128 .f32 ← Prog.lift (.load b.a34 (Rect.unit (s := S1024x128) ![0, 0] S1024x128.size inb_S1024x128_S1024x128_0_0).toLoadRect (View.loadsAt_vmem h_S1024x128))
  Prog.lift (.store b.a34 (Rect.unit (s := S1024x128) ![0, 0] S1024x128.size inb_S1024x128_S1024x128_0_0) (k0_pay4 v338 v342 v402 v403 v427) Finset.univ (View.stores_vmem_bits_univ h_S1024x128 rfl) (.inl rfl))
  pure ⟨⟩

theorem midP_ok (R : sProp 𝕄) (x : Vec F S1024x1024 .f32) (i : grid0.Coords) : Ok c E b I R x (midP (F := F) b i) fun _ y => y = uMid I x := by
  unfold midP
  refine Ok.seq (p3 R _ i _) fun ⟨_, _, _, _, _, _, _, _⟩ => ?_
  refine Ok.seq (p4 R _ i _ _ _ _ _ _ _ _) fun ⟨_, _⟩ => ?_
  refine Ok.seq (p5 R _ i _ _ _ _ _) fun ⟨_, _⟩ => ?_
  refine Ok.seq (p6 R _ i _ _) fun ⟨_, _, _, _, _, _, _, _, _⟩ => ?_
  refine Ok.seq (p7 R _ i _ _ _ _ _ _ _ _ _) fun ⟨_, _⟩ => ?_
  refine Ok.seq (p8 R _ i _ _ _ _ _) fun ⟨_, _⟩ => ?_
  refine Ok.seq (p9 R _ i _ _) fun ⟨_, _, _, _, _, _, _, _⟩ => ?_
  refine Ok.seq (p10 R _ i _ _ _ _ _ _ _ _) fun ⟨_, _, _, _, _⟩ => ?_
  refine Ok.seq (p11 R _ i _ _ _ _ _ _ _ _) fun ⟨_, _⟩ => ?_
  refine Ok.seq (p12 R _ i _) fun ⟨_, _, _, _, _, _, _⟩ => ?_
  refine Ok.seq (p13 R _ i _ _ _ _ _ _ _ _) fun ⟨_, _, _, _, _⟩ => ?_
  refine Ok.lAny (t33 c b I R _) fun _ => ?_
  refine Ok.lAny (t32 c b I R _) fun _ => ?_
  refine Ok.sAny (t32 c b I R _) ?_
  refine Ok.lAny (t33 c b I R _) fun _ => ?_
  refine Ok.sAny (t33 c b I R _) ?_
  refine Ok.lAny (t34 c b I R _) fun _ => ?_
  refine Ok.lAny (t34 c b I R _) fun _ => ?_
  refine Ok.sAny (t34 c b I R _) ?_
  exact Ok.ret rfl

/-- The last block. -/
noncomputable def lastP (b : Bufs) (i : grid0.Coords) : Prog (TpuEff nD τ sig (Elt F) Λ₀ .tc) PUnit := do
  let arg0 : BitVec 32 := BitVec.ofNat 32 (i 0).val
  let ⟨v17, v21, v30, v31, v32, v35, v40, v42⟩ : Σ' (v17 : IVec S1024x128 1) (v21 : IVec S1024x128 1) (v30 : FVec F S1024x128 .f32) (v31 : FVec F S1024x128 .f32) (v32 : Vec F S1024x128 .f32) (v35 : FVec F S1024x128 .f32) (v40 : FVec F S1024x128 .f32), FVec F S1024x128 .f32 ← b.on (k0_part14 i) arg0
  let ⟨v76, v79⟩ : Σ' (v76 : FVec F S1024x256 .f32), FVec F S1024x256 .f32 ← b.on (k0_part15 i) v17 v21 v30 v31 v32 v35 v40 v42
  let ⟨v116, v118⟩ : Σ' (v116 : IVec S1024x128 32), BitVec 32 ← b.on (k0_part16 i) arg0 v17 v21 v76 v79
  let ⟨v124, v131, v146, v148, v152⟩ : Σ' (v124 : IVec S1024x128 1) (v131 : FVec F S1024x128 .f32) (v146 : FVec F S1024x128 .f32) (v148 : FVec F S1024x128 .f32), Vec F S1024x128 .f32 ← b.on (k0_part17 i) v116 v118
  let ⟨v171, v183⟩ : Σ' (v171 : FVec F S1024x128 .f32), FVec F S1024x128 .f32 ← b.on (k0_part18 i) v124 v131 v146 v148 v152
  let ⟨v197, v200, v208, v213, v220, v222⟩ : Σ' (v197 : Vec F S1024x128 .f32) (v200 : FVec F S1024x1 .f32) (v208 : FVec F S1024x1 .f32) (v213 : FVec F S1024x1 .f32) (v220 : FVec F S1024x128 .f32), FVec F S1024 .f32 ← b.on (k0_part19 i) v124 v171 v183
  let ⟨v228, v233, v260, v261, v262, v263, v264⟩ : Σ' (v228 : FVec F S1024x128 .f32) (v233 : FVec F S1024x128 .f32) (v260 : FVec F S1024x128 .f32) (v261 : IVec S1x128 32) (v262 : FVec F S1x128 .f32) (v263 : IVec S1x128 32), IVec S1x128 32 ← b.on (k0_part20 i) v197 v213 v220 v222
  let ⟨v298, v303, v305, v307⟩ : Σ' (v298 : FVec F S1x128 .f32) (v303 : IVec S1x128 32) (v305 : IVec S1x128 1), FVec F S1x128 .f32 ← b.on (k0_part21 i) v261 v262 v263 v264
  let ⟨v343, v348, v350⟩ : Σ' (v343 : IVec S1x128 32) (v348 : FVec F S1x128 .f32), IVec S1x128 1 ← b.on (k0_part22 i) v261 v298 v303 v305 v307
  let ⟨v388, v393⟩ : Σ' (v388 : FVec F S1x128 .f32), IVec S1x128 32 ← b.on (k0_part23 i) v261 v343 v348 v350
  let ⟨v418, v423, v425, v429, v433, v437⟩ : Σ' (v418 : FVec F S1x128 .f32) (v423 : IVec S1x128 32) (v425 : IVec S1x128 1) (v429 : IVec S1x128 1) (v433 : IVec S1x128 1), IVec S1x128 1 ← b.on (k0_part24 i) v261 v388 v393
  let ⟨v441, v445, v449, v453, v457, v461, v465, v469, v473, v477, v481, v485⟩ : Σ' (v441 : IVec S1x128 1) (v445 : IVec S1x128 1) (v449 : IVec S1x128 1) (v453 : IVec S1x128 1) (v457 : IVec S1x128 1) (v461 : IVec S1x128 1) (v465 : IVec S1x128 1) (v469 : IVec S1x128 1) (v473 : IVec S1x128 1) (v477 : IVec S1x128 1) (v481 : IVec S1x128 1), IVec S1x128 1 ← b.on (k0_part25 i) v423 v425
  let ⟨v489, v518, v522, v526⟩ : Σ' (v489 : IVec S1x128 1) (v518 : FVec F S1x128 .f32) (v522 : FVec F S1x128 .f32), FVec F S1x128 .f32 ← b.on (k0_part26 i) v423 v425 v429 v433 v437 v441
  let ⟨v563, v567⟩ : Σ' (v563 : FVec F S1x128 .f32), FVec F S1x128 .f32 ← b.on (k0_part27 i) v445 v449 v453 v457 v461 v518 v522 v526
  let ⟨v603, v608, cst_248, cst_249⟩ : Σ' (v603 : FVec F S1x128 .f32) (v608 : FVec F S1x128 .f32) (cst_248 : F .f32), F .f32 ← b.on (k0_part28 i) v461 v465 v469 v473 v477 v563 v567
  let ⟨v630, v639, v640, v652⟩ : Σ' (v630 : FVec F S1x128 .f32) (v639 : FVec F S1x128 .f32) (v640 : FVec F S1x128 .f32), FVec F S1x128 .f32 ← b.on (k0_part29 i) v261 v418 v429 v481 v485 v489 v603 v608 cst_248 cst_249
  let v696 : FVec F S1x128 .f32 ← b.on (k0_part30 i) v261 v433 v437 v441 v445 v640 v652
  let v740 : FVec F S1x128 .f32 ← b.on (k0_part31 i) v261 v449 v453 v457 v461 v640 v696
  let v784 : FVec F S1x128 .f32 ← b.on (k0_part32 i) v261 v465 v469 v473 v477 v640 v740
  let ⟨v826, v827, v828⟩ : Σ' (v826 : FVec F S1x128 .f32) (v827 : IVec S1x128 32), IVec S1x128 32 ← b.on (k0_part33 i) v261 v481 v485 v489 v630 v639 v640 v784
  let ⟨v864, v869, v870⟩ : Σ' (v864 : IVec S1x128 32) (v869 : IVec S1x128 32), IVec S1x128 32 ← b.on (k0_part34 i) v827 v828
  let ⟨v904, v909, v911, v913⟩ : Σ' (v904 : IVec S1x128 32) (v909 : IVec S1x128 32) (v911 : IVec S1x128 1), IVec S1x128 32 ← b.on (k0_part35 i) v827 v864 v869 v870
  let ⟨v949, v954, v956⟩ : Σ' (v949 : IVec S1x128 32) (v954 : IVec S1x128 32), IVec S1x128 1 ← b.on (k0_part36 i) v827 v904 v909 v911 v913
  let ⟨v995, v1001⟩ : Σ' (v995 : IVec S1024x128 1), FVec F S1024x1 .f32 ← b.on (k0_part37 i) v826 v827 v949 v954 v956
  let ⟨v1008, v1041, v1043, v1047, v1051, v1055⟩ : Σ' (v1008 : FVec F S1x1 .f32) (v1041 : FVec F S1024x128 .f32) (v1043 : FVec F S1x1024 .f32) (v1047 : FVec F S128x128 .f32) (v1051 : FVec F S128x128 .f32), FVec F S128x128 .f32 ← b.on (k0_part38 i)
  let ⟨v1111, v1113⟩ : Σ' (v1111 : FVec F S1024x128 .f32), FVec F S1024x128 .f32 ← b.on (k0_part39 i) v228 v1043 v1047 v1051 v1055
  let ⟨v1132, v1153⟩ : Σ' (v1132 : FVec F S1024x128 .f32), FVec F S1024x128 .f32 ← b.on (k0_part40 i) v228 v233 v260 v826 v995 v1001 v1008 v1041 v1113
  let ⟨v1185, v1188, v1191, v1194, v1197, v1200, v1203, v1206⟩ : Σ' (v1185 : FVec F S1x128 .f32) (v1188 : FVec F S1x128 .f32) (v1191 : FVec F S1x128 .f32) (v1194 : FVec F S1x128 .f32) (v1197 : FVec F S1x128 .f32) (v1200 : FVec F S1x128 .f32) (v1203 : FVec F S1x128 .f32), FVec F S1x128 .f32 ← b.on (k0_part41 i) v228 v260 v1153
  let v1259 : FVec F S1x1024 .f32 ← b.on (k0_part42 i) v233 v1132 v1185 v1188 v1191 v1194 v1197 v1200 v1203 v1206
  let v1260 : Vec F S1x1024 .f32 ← Prog.lift (.load b.a20 (Rect.unit (s := S1x1024) ![0, 0] S1x1024.size inb_S1x1024_S1x1024_0_0).toLoadRect (View.loadsAt_vmem h_S1x1024))
  Prog.lift (.store b.a20 (Rect.unit (s := S1x1024) ![0, 0] S1x1024.size inb_S1x1024_S1x1024_0_0) v1259 Finset.univ (View.stores_vmem_bits_univ h_S1x1024 rfl) (.inl rfl))
  let v1263 : Vec F S1024x128 .f32 ← Prog.lift (.load b.a25 (Rect.unit (s := S1024x128) ![0, 0] S1024x128.size inb_S1024x128_S1024x128_0_0).toLoadRect (View.loadsAt_vmem h_S1024x128))
  Prog.lift (.store b.a25 (Rect.unit (s := S1024x128) ![0, 0] S1024x128.size inb_S1024x128_S1024x128_0_0) (k0_pay5 v200) Finset.univ (View.stores_vmem_bits_univ h_S1024x128 rfl) (.inl rfl))
  let v1267 : Vec F S1024x128 .f32 ← Prog.lift (.load b.a27 (Rect.unit (s := S1024x128) ![0, 0] S1024x128.size inb_S1024x128_S1024x128_0_0).toLoadRect (View.loadsAt_vmem h_S1024x128))
  Prog.lift (.store b.a27 (Rect.unit (s := S1024x128) ![0, 0] S1024x128.size inb_S1024x128_S1024x128_0_0) (k0_pay6 v1111 v1132) Finset.univ (View.stores_vmem_bits_univ h_S1024x128 rfl) (.inl rfl))
  let v1272 : Vec F S1024x128 .f32 ← Prog.lift (.load b.a26 (Rect.unit (s := S1024x128) ![0, 0] S1024x128.size inb_S1024x128_S1024x128_0_0).toLoadRect (View.loadsAt_vmem h_S1024x128))
  Prog.lift (.store b.a26 (Rect.unit (s := S1024x128) ![0, 0] S1024x128.size inb_S1024x128_S1024x128_0_0) (k0_pay7 v208 v1111 v1132) Finset.univ (View.stores_vmem_bits_univ h_S1024x128 rfl) (.inl rfl))
  pure ⟨⟩

theorem lastP_ok (R : sProp 𝕄) (x : Vec F S1024x1024 .f32) (i : grid0.Coords) : Ok c E b I R x (lastP (F := F) b i) fun _ y => y = uLast I x := by
  unfold lastP
  refine Ok.seq (p14 R _ i _) fun ⟨_, _, _, _, _, _, _, _⟩ => ?_
  refine Ok.seq (p15 R _ i _ _ _ _ _ _ _ _) fun ⟨_, _⟩ => ?_
  refine Ok.seq (p16 R _ i _ _ _ _ _) fun ⟨_, _⟩ => ?_
  refine Ok.seq (p17 R _ i _ _) fun ⟨_, _, _, _, _⟩ => ?_
  refine Ok.seq (p18 R _ i _ _ _ _ _) fun ⟨_, _⟩ => ?_
  refine Ok.seq (p19 R _ i _ _ _) fun ⟨_, _, _, _, _, _⟩ => ?_
  refine Ok.seq (p20 R _ i _ _ _ _) fun ⟨_, _, _, _, _, _, _⟩ => ?_
  refine Ok.seq (p21 R _ i _ _ _ _) fun ⟨_, _, _, _⟩ => ?_
  refine Ok.seq (p22 R _ i _ _ _ _ _) fun ⟨_, _, _⟩ => ?_
  refine Ok.seq (p23 R _ i _ _ _ _) fun ⟨_, _⟩ => ?_
  refine Ok.seq (p24 R _ i _ _ _) fun ⟨_, _, _, _, _, _⟩ => ?_
  refine Ok.seq (p25 R _ i _ _) fun ⟨_, _, _, _, _, _, _, _, _, _, _, _⟩ => ?_
  refine Ok.seq (p26 R _ i _ _ _ _ _ _) fun ⟨_, _, _, _⟩ => ?_
  refine Ok.seq (p27 R _ i _ _ _ _ _ _ _ _) fun ⟨_, _⟩ => ?_
  refine Ok.seq (p28 R _ i _ _ _ _ _ _ _) fun ⟨_, _, _, _⟩ => ?_
  refine Ok.seq (p29 R _ i _ _ _ _ _ _ _ _ _ _) fun ⟨_, _, _, _⟩ => ?_
  refine Ok.seq (p30 R _ i _ _ _ _ _ _ _) fun _ => ?_
  refine Ok.seq (p31 R _ i _ _ _ _ _ _ _) fun _ => ?_
  refine Ok.seq (p32 R _ i _ _ _ _ _ _ _) fun _ => ?_
  refine Ok.seq (p33 R _ i _ _ _ _ _ _ _ _) fun ⟨_, _, _⟩ => ?_
  refine Ok.seq (p34 R _ i _ _) fun ⟨_, _, _⟩ => ?_
  refine Ok.seq (p35 R _ i _ _ _ _) fun ⟨_, _, _, _⟩ => ?_
  refine Ok.seq (p36 R _ i _ _ _ _ _) fun ⟨_, _, _⟩ => ?_
  refine Ok.seq (p37 R _ i _ _ _ _ _) fun ⟨_, _⟩ => ?_
  refine Ok.seq (p38 R _ i ) fun ⟨_, _, _, _, _, _⟩ => ?_
  refine Ok.seq (p39 R _ i _ _ _ _ _) fun ⟨_, _⟩ => ?_
  refine Ok.seq (p40 R _ i _ _ _ _ _ _ _ _ _) fun ⟨_, _⟩ => ?_
  refine Ok.seq (p41 R _ i _ _ _) fun ⟨_, _, _, _, _, _, _, _⟩ => ?_
  refine Ok.seq (p42 R _ i _ _ _ _ _ _ _ _ _ _) fun _ => ?_
  refine Ok.lAny (t20 c b I R _) fun _ => ?_
  refine Ok.sAny (t20 c b I R _) ?_
  refine Ok.lAny (t25 c b I R _) fun _ => ?_
  refine Ok.sAny (t25 c b I R _) ?_
  refine Ok.lAny (t27 c b I R _) fun _ => ?_
  refine Ok.sAny (t27 c b I R _) ?_
  refine Ok.lAny (t26 c b I R _) fun _ => ?_
  refine Ok.sAny (t26 c b I R _) ?_
  exact Ok.ret rfl

set_option maxRecDepth 65536 in
theorem skel_split (b : Bufs) (i : grid0.Coords) : b.on (cc0_stats_skel (F := F) i) = (do
    if Scalar.cmpi .ne (Scalar.extui (Scalar.cmpi .eq (BitVec.ofNat 32 (i 0).val) 0#32) : BitVec 32) 0#32 = 1#1 then initP b i else pure ⟨⟩
    if k0_cond2 i = 1#1 then midP b i else pure ⟨⟩
    if k0_cond3 i = 1#1 then lastP b i else pure ⟨⟩
    pure ⟨⟩) := rfl

/-- The body, from what it holds: the logits' block is left as the branches make it. -/
theorem body_ok (R : sProp 𝕄) (x : Vec F S1024x1024 .f32) (i : grid0.Coords) : Ok c E b I R x (b.on (cc0_stats (F := F) i))
    fun _ y => y = (if k0_cond3 i = 1#1 then uLast I else id) ((if k0_cond2 i = 1#1 then uMid I else id) x) := by
  rw [cc0_stats_eq_skeleton, skel_split]
  have h3 : ∀ y : Vec F S1024x1024 .f32, Ok c E b I R y (if k0_cond3 i = 1#1 then (lastP (F := F) b i >>= fun _ => pure ⟨⟩) else (pure ⟨⟩ : Prog (TpuEff nD τ sig (Elt F) Λ₀ .tc) PUnit))
      fun _ z => z = (if k0_cond3 i = 1#1 then uLast I else id) y := fun y => by
    by_cases h : k0_cond3 i = 1#1
    · rw [if_pos h, if_pos h]; exact (Ok.seq (lastP_ok R y i) fun _ => Ok.ret rfl)
    · rw [if_neg h, if_neg h]; exact Ok.ret rfl
  have h2 : ∀ y : Vec F S1024x1024 .f32, Ok c E b I R y (if k0_cond2 i = 1#1 then (midP (F := F) b i >>= fun _ => (if k0_cond3 i = 1#1 then (lastP (F := F) b i >>= fun _ => pure ⟨⟩) else (pure ⟨⟩ : Prog (TpuEff nD τ sig (Elt F) Λ₀ .tc) PUnit))) else (if k0_cond3 i = 1#1 then (lastP (F := F) b i >>= fun _ => pure ⟨⟩) else (pure ⟨⟩ : Prog (TpuEff nD τ sig (Elt F) Λ₀ .tc) PUnit)))
      fun _ z => z = (if k0_cond3 i = 1#1 then uLast I else id) ((if k0_cond2 i = 1#1 then uMid I else id) y) := fun y => by
    by_cases h : k0_cond2 i = 1#1
    · rw [if_pos h, if_pos h]; exact Ok.seq (midP_ok R y i) fun _ => h3 _
    · rw [if_neg h, if_neg h]; exact h3 _
  by_cases h : Scalar.cmpi .ne (Scalar.extui (Scalar.cmpi .eq (BitVec.ofNat 32 (i 0).val) 0#32) : BitVec 32) 0#32 = 1#1
  · dsimp only; rw [if_pos h]; exact Ok.seq (initP_ok R x i) fun _ => h2 _
  · dsimp only; rw [if_neg h]; exact h2 _

end Cert.StatsIdeal.Body

end
-- ==== Proof.StatsOb.lean ====
module

public import proofs.«01_k».proof.Proof.StatsBody
public import proofs.«01_k».proof.Proof.Gen.StatsIdeal.Frame
public import proofs.«01_k».proof.Proof.Gen.StatsIdeal.Launch
public import proofs.«01_k».proof.Proof.Gen.StatsIdeal.Skeleton
public import proofs.«01_k».proof.Proof.Gen.StatsIdeal.Points
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.VecWindow
public import Idealize.ShloMosaic.Lib.Pipeline.ValueKit

@[expose] public section

set_option maxRecDepth 16384

/-! # The statistics call's run: the proof data, the body's obligation and the frame -/

noncomputable section

namespace Cert.StatsIdeal.Body

open Cert.StatsIdeal Cert.StatsIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hc2 : ∀ t : Fin grid0.N, (k0_cond2 (grid0.coords t) = 1#1) ↔ t.val < 148 := by
  decide +kernel
theorem hc3 : ∀ t : Fin grid0.N, (k0_cond3 (grid0.coords t) = 1#1) ↔ t.val = 148 := by
  decide +kernel

/-- What the body may leave in the logits' buffer at a point: what its stores make of the fetched rows, weights and scales, over anything. -/
def UL (c : Dev nD) (t : Fin cfg0.N) (X : Vec F S1024x1024 .f32) : Prop :=
  ∃ (I : Ins F) (y : Vec F S1024x1024 .f32), (∃ d, I.x4 = win0_3.fill (grid0.coords t) d (iblk m c 3 t)) ∧ (∃ d, I.x12 = win0_11.fill (grid0.coords t) d (iblk m c 11 t))
    ∧ (∃ d, I.x14 = win0_13.fill (grid0.coords t) d (iblk m c 13 t)) ∧ X = if t.val < 148 then uMid I y else uLast I y

/-- The proof data: inputs are left as found, the logits' block as `UL` says, the other outputs at anything. -/
def rdat (c : Dev nD) : RDat τ (Elt F) Unit ℕ (UR sig nD τ) ℕ cfg0 c where
  A w := V m c (Pipeline.arrRef spec0 w)
  after w t Y X := (w.val < 15 → X = Y) ∧ ∀ Z : Vec F S1024x1024 .f32, HEq Z X → w = 15 → UL m c t Z
  Φ _ := Pipeline.ΦA spec0 c
  q _ := fullShare
  owed _ := 0

abbrev scM0_0 : Memref sig .tc .vmem S1024x128 .f32 := Memref.whole cc0_scratch0
abbrev scM0_1 : Memref sig .tc .vmem S1024x128 .f32 := Memref.whole cc0_scratch1
abbrev scM0_2 : Memref sig .tc .vmem S1024x128 .f32 := Memref.whole cc0_scratch2
abbrev scM0_3 : Memref sig .tc .vmem S1024x128 .f32 := Memref.whole cc0_scratch3
abbrev scM0_4 : Memref sig .tc .vmem S1024x128 .f32 := Memref.whole cc0_scratch4
abbrev scM0_5 : Memref sig .tc .vmem S1024x128 .f32 := Memref.whole cc0_scratch5
abbrev scM0_6 : Memref sig .tc .vmem S1024x128 .f32 := Memref.whole cc0_scratch6
abbrev scM0_7 : Memref sig .tc .vmem S1024x128 .f32 := Memref.whole cc0_scratch7
abbrev scM0_8 : Memref sig .tc .vmem S1024x128 .f32 := Memref.whole cc0_scratch8
abbrev scM0_9 : Memref sig .tc .vmem S1024x128 .i32 := Memref.whole cc0_scratch9

/-- The buffers of a point. -/
def bufs (t : Fin cfg0.N) : Bufs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := win0_17.stage (cfg0.slots t 17)
  h18 := hstage0_17 ((cfg0.slots t 17).cast nbuf0_17)
  a19 := win0_18.stage (cfg0.slots t 18)
  h19 := hstage0_18 ((cfg0.slots t 18).cast nbuf0_18)
  a20 := win0_19.stage (cfg0.slots t 19)
  h20 := hstage0_19 ((cfg0.slots t 19).cast nbuf0_19)
  a21 := win0_20.stage (cfg0.slots t 20)
  h21 := hstage0_20 ((cfg0.slots t 20).cast nbuf0_20)
  a22 := win0_21.stage (cfg0.slots t 21)
  h22 := hstage0_21 ((cfg0.slots t 21).cast nbuf0_21)
  a23 := win0_22.stage (cfg0.slots t 22)
  h23 := hstage0_22 ((cfg0.slots t 22).cast nbuf0_22)
  a24 := win0_23.stage (cfg0.slots t 23)
  h24 := hstage0_23 ((cfg0.slots t 23).cast nbuf0_23)
  a25 := win0_24.stage (cfg0.slots t 24)
  h25 := hstage0_24 ((cfg0.slots t 24).cast nbuf0_24)
  a26 := win0_25.stage (cfg0.slots t 25)
  h26 := hstage0_25 ((cfg0.slots t 25).cast nbuf0_25)
  a27 := win0_26.stage (cfg0.slots t 26)
  h27 := hstage0_26 ((cfg0.slots t 26).cast nbuf0_26)
  a28 := scM0_0
  h28 := Memref.isWhole_whole _
  a29 := scM0_1
  h29 := Memref.isWhole_whole _
  a30 := scM0_2
  h30 := Memref.isWhole_whole _
  a31 := scM0_3
  h31 := Memref.isWhole_whole _
  a32 := scM0_4
  h32 := Memref.isWhole_whole _
  a33 := scM0_5
  h33 := Memref.isWhole_whole _
  a34 := scM0_6
  h34 := Memref.isWhole_whole _
  a35 := scM0_7
  h35 := Memref.isWhole_whole _
  a36 := scM0_8
  h36 := Memref.isWhole_whole _
  a37 := scM0_9
  h37 := Memref.isWhole_whole _

theorem PhiA0_eq (c : Dev nD) : (Pipeline.ΦA spec0 c : sProp 𝕄) = iprop(iprop((any (F := F) c scM0_0) ∗ (any (F := F) c scM0_1) ∗ (any (F := F) c scM0_2) ∗ (any (F := F) c scM0_3) ∗ (any (F := F) c scM0_4) ∗ (any (F := F) c scM0_5) ∗ (any (F := F) c scM0_6) ∗ (any (F := F) c scM0_7) ∗ (any (F := F) c scM0_8) ∗ (any (F := F) c scM0_9)) ∗ (∃ r, prngReg c r)) := by
  unfold Pipeline.ΦA; rw [scopedRest0_eq]; simp only [any, scM0_0, scM0_1, scM0_2, scM0_3, scM0_4, scM0_5, scM0_6, scM0_7, scM0_8, scM0_9, owns_whole]; try rfl

/-- What a point's obligation hands in and takes back, from the invariant's parts. -/
theorem pack (c : Dev nD) (b : Bufs) (I : Ins F) (x : Vec F S1024x1024 .f32) (O : sProp 𝕄) {Φ : sProp 𝕄}
    (hΦ : Φ = iprop(iprop((any (F := F) c b.a28) ∗ (any (F := F) c b.a29) ∗ (any (F := F) c b.a30) ∗ (any (F := F) c b.a31) ∗ (any (F := F) c b.a32) ∗ (any (F := F) c b.a33) ∗ (any (F := F) c b.a34) ∗ (any (F := F) c b.a35) ∗ (any (F := F) c b.a36) ∗ (any (F := F) c b.a37)) ∗ (∃ r, prngReg c r))) :
    iprop(Φ ∗ O ∗ owns (c : Thread nD τ) b.a1 fullShare I.x1 ∗ owns (c : Thread nD τ) b.a2 fullShare I.x2 ∗ owns (c : Thread nD τ) b.a3 fullShare I.x3 ∗ owns (c : Thread nD τ) b.a4 fullShare I.x4 ∗ owns (c : Thread nD τ) b.a5 fullShare I.x5 ∗ owns (c : Thread nD τ) b.a6 fullShare I.x6 ∗ owns (c : Thread nD τ) b.a7 fullShare I.x7 ∗ owns (c : Thread nD τ) b.a8 fullShare I.x8 ∗ owns (c : Thread nD τ) b.a9 fullShare I.x9 ∗ owns (c : Thread nD τ) b.a10 fullShare I.x10 ∗ owns (c : Thread nD τ) b.a11 fullShare I.x11 ∗ owns (c : Thread nD τ) b.a12 fullShare I.x12 ∗ owns (c : Thread nD τ) b.a13 fullShare I.x13 ∗ owns (c : Thread nD τ) b.a14 fullShare I.x14 ∗ owns (c : Thread nD τ) b.a15 fullShare I.x15 ∗ owns (c : Thread nD τ) b.a16 fullShare x ∗ any (F := F) c b.a17 ∗ any (F := F) c b.a18 ∗ any (F := F) c b.a19 ∗ any (F := F) c b.a20 ∗ any (F := F) c b.a21 ∗ any (F := F) c b.a22 ∗ any (F := F) c b.a23 ∗ any (F := F) c b.a24 ∗ any (F := F) c b.a25 ∗ any (F := F) c b.a26 ∗ any (F := F) c b.a27)
      ⊢ Inv c b I (iprop(O ∗ ∃ r, prngReg c r)) x := by
  subst hΦ
  unfold Inv
  iintro ⟨⟨⟨S0, S1, S2, S3, S4, S5, S6, S7, S8, S9⟩, Hg⟩, Ho, H1, H2, H3, H4, H5, H6, H7, H8, H9, H10, H11, H12, H13, H14, H15, H16, H17, H18, H19, H20, H21, H22, H23, H24, H25, H26, H27⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [Ho]; · iexact Ho
  iexact Hg

theorem unpack (c : Dev nD) (b : Bufs) (I : Ins F) (x : Vec F S1024x1024 .f32) (O : sProp 𝕄) {Φ : sProp 𝕄}
    (hΦ : Φ = iprop(iprop((any (F := F) c b.a28) ∗ (any (F := F) c b.a29) ∗ (any (F := F) c b.a30) ∗ (any (F := F) c b.a31) ∗ (any (F := F) c b.a32) ∗ (any (F := F) c b.a33) ∗ (any (F := F) c b.a34) ∗ (any (F := F) c b.a35) ∗ (any (F := F) c b.a36) ∗ (any (F := F) c b.a37)) ∗ (∃ r, prngReg c r))) :
    Inv c b I (iprop(O ∗ ∃ r, prngReg c r)) x ⊢ iprop(Φ ∗ O ∗ owns (c : Thread nD τ) b.a1 fullShare I.x1 ∗ owns (c : Thread nD τ) b.a2 fullShare I.x2 ∗ owns (c : Thread nD τ) b.a3 fullShare I.x3 ∗ owns (c : Thread nD τ) b.a4 fullShare I.x4 ∗ owns (c : Thread nD τ) b.a5 fullShare I.x5 ∗ owns (c : Thread nD τ) b.a6 fullShare I.x6 ∗ owns (c : Thread nD τ) b.a7 fullShare I.x7 ∗ owns (c : Thread nD τ) b.a8 fullShare I.x8 ∗ owns (c : Thread nD τ) b.a9 fullShare I.x9 ∗ owns (c : Thread nD τ) b.a10 fullShare I.x10 ∗ owns (c : Thread nD τ) b.a11 fullShare I.x11 ∗ owns (c : Thread nD τ) b.a12 fullShare I.x12 ∗ owns (c : Thread nD τ) b.a13 fullShare I.x13 ∗ owns (c : Thread nD τ) b.a14 fullShare I.x14 ∗ owns (c : Thread nD τ) b.a15 fullShare I.x15 ∗ owns (c : Thread nD τ) b.a16 fullShare x ∗ any (F := F) c b.a17 ∗ any (F := F) c b.a18 ∗ any (F := F) c b.a19 ∗ any (F := F) c b.a20 ∗ any (F := F) c b.a21 ∗ any (F := F) c b.a22 ∗ any (F := F) c b.a23 ∗ any (F := F) c b.a24 ∗ any (F := F) c b.a25 ∗ any (F := F) c b.a26 ∗ any (F := F) c b.a27) := by
  subst hΦ
  unfold Inv
  iintro ⟨H1, H2, H3, H4, H5, H6, H7, H8, H9, H10, H11, H12, H13, H14, H15, H16, H17, H18, H19, H20, H21, H22, H23, H24, H25, H26, H27, S0, S1, S2, S3, S4, S5, S6, S7, S8, S9, Ho, Hg⟩
  isplitl [S0 S1 S2 S3 S4 S5 S6 S7 S8 S9 Hg]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The inputs a point finds. -/
def insOf (c : Dev nD) (Y : (w : Fin cfg0.W) → (cfg0.win w).block.Idx → Elt F (cfg0.win w).elt) : Ins F where
  x1 := Y 0
  x2 := Y 1
  x3 := Y 2
  x4 := Y 3
  x5 := Y 4
  x6 := Y 5
  x7 := Y 6
  x8 := Y 7
  x9 := Y 8
  x10 := Y 9
  x11 := Y 10
  x12 := Y 11
  x13 := Y 12
  x14 := Y 13
  x15 := Y 14

theorem found (c : Dev nD) (t : Fin cfg0.N) (Y : (w : Fin cfg0.W) → (cfg0.win w).block.Idx → Elt F (cfg0.win w).elt)
    (hY : ∀ w, (rdat m c).Finds w t (Y w)) (y : Vec F S1024x1024 .f32) :
    UL m c t (if t.val < 148 then uMid (insOf c Y) y else uLast (insOf c Y) y) :=
  ⟨insOf c Y, y, (rdat m c).finds_in_eq_fetched 3 rfl (fun _ _ _ => rfl) (fun _ _ _ h => h.1 (by decide)) t _ (hY 3),
    ((rdat m c).finds_of_fetch (fetch0_11 t) _).mp (hY 11), ((rdat m c).finds_of_fetch (fetch0_13 t) _).mp (hY 13), rfl⟩

theorem body_obligation (c : Dev nD) : (rdat m c).BodyObligation (defs₀ (F := F)) Variants.none () Set.univ := fun t Y hY => by
  rw [bigSep_W0, show (rdat m c).Φ t.castSucc = Pipeline.ΦA spec0 c from rfl]
  have hN : t.val < 149 := lt_of_lt_of_eq t.isLt (show cfg0.N = 149 from N_0)
  have hP := pack c (bufs t) (insOf c Y) (Y 15) ((rdat m c).owesAt () t.castSucc) (PhiA0_eq c)
  have hU := fun x' => unpack c (bufs t) (insOf c Y) x' ((rdat m c).owesAt () t.castSucc) (PhiA0_eq c)
  have hx : (if k0_cond3 (grid0.coords t) = 1#1 then uLast (insOf c Y) else id) ((if k0_cond2 (grid0.coords t) = 1#1 then uMid (insOf c Y) else id) (Y 15)) = if t.val < 148 then uMid (insOf c Y) (Y 15) else uLast (insOf c Y) (Y 15) := by
    by_cases h : t.val < 148
    · rw [if_pos h, if_pos ((hc2 t).mpr h), if_neg (fun hh => by have := (hc3 t).mp hh; omega)]; rfl
    · rw [if_neg h, if_neg (fun hh => h ((hc2 t).mp hh)), if_pos ((hc3 t).mpr (by omega))]; rfl
  refine BIBase.Entails.trans ?_ ((body_ok (c := c) (E := Set.univ) (b := bufs t) (I := insOf c Y) (iprop((rdat m c).owesAt () t.castSucc ∗ ∃ r, prngReg c r)) (Y 15) (grid0.coords t)) _ fun v x' hv => ?_)
  · refine BIBase.Entails.trans ?_ hP
    iintro ⟨HΦ, Ho, H1, H2, H3, H4, H5, H6, H7, H8, H9, H10, H11, H12, H13, H14, H15, H16, H17, H18, H19, H20, H21, H22, H23, H24, H25, H26, H27⟩
    isplitl [HΦ]; · iexact HΦ
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · unfold any; iexists _; iexact H17
    isplitl [H18]; · unfold any; iexists _; iexact H18
    isplitl [H19]; · unfold any; iexists _; iexact H19
    isplitl [H20]; · unfold any; iexists _; iexact H20
    isplitl [H21]; · unfold any; iexists _; iexact H21
    isplitl [H22]; · unfold any; iexists _; iexact H22
    isplitl [H23]; · unfold any; iexists _; iexact H23
    isplitl [H24]; · unfold any; iexists _; iexact H24
    isplitl [H25]; · unfold any; iexists _; iexact H25
    isplitl [H26]; · unfold any; iexists _; iexact H26
    unfold any; iexists _; iexact H27
  · refine BIBase.Entails.trans (hU x') ?_
    rw [bigSep_W0, show (rdat m c).Φ t.succ = Pipeline.ΦA spec0 c from rfl, show (rdat m c).owesAt () t.succ = (rdat m c).owesAt () t.castSucc from rfl]
    have hf : UL m c t x' := by rw [hv, hx]; exact found m c t Y hY (Y 15)
    unfold any
    iintro ⟨HΦ, Ho, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩⟩
    isplitl [HΦ]; · iexact HΦ
    isplitl [Ho]; · iexact Ho
    isplitl [H1]
    · iexists (Y 0); isplitr
      · ipureintro; exact ⟨fun _ => rfl, fun _ _ h => absurd h (by decide)⟩
      · iexact H1
    isplitl [H2]
    · iexists (Y 1); isplitr
      · ipureintro; exact ⟨fun _ => rfl, fun _ _ h => absurd h (by decide)⟩
      · iexact H2
    isplitl [H3]
    · iexists (Y 2); isplitr
      · ipureintro; exact ⟨fun _ => rfl, fun _ _ h => absurd h (by decide)⟩
      · iexact H3
    isplitl [H4]
    · iexists (Y 3); isplitr
      · ipureintro; exact ⟨fun _ => rfl, fun _ _ h => absurd h (by decide)⟩
      · iexact H4
    isplitl [H5]
    · iexists (Y 4); isplitr
      · ipureintro; exact ⟨fun _ => rfl, fun _ _ h => absurd h (by decide)⟩
      · iexact H5
    isplitl [H6]
    · iexists (Y 5); isplitr
      · ipureintro; exact ⟨fun _ => rfl, fun _ _ h => absurd h (by decide)⟩
      · iexact H6
    isplitl [H7]
    · iexists (Y 6); isplitr
      · ipureintro; exact ⟨fun _ => rfl, fun _ _ h => absurd h (by decide)⟩
      · iexact H7
    isplitl [H8]
    · iexists (Y 7); isplitr
      · ipureintro; exact ⟨fun _ => rfl, fun _ _ h => absurd h (by decide)⟩
      · iexact H8
    isplitl [H9]
    · iexists (Y 8); isplitr
      · ipureintro; exact ⟨fun _ => rfl, fun _ _ h => absurd h (by decide)⟩
      · iexact H9
    isplitl [H10]
    · iexists (Y 9); isplitr
      · ipureintro; exact ⟨fun _ => rfl, fun _ _ h => absurd h (by decide)⟩
      · iexact H10
    isplitl [H11]
    · iexists (Y 10); isplitr
      · ipureintro; exact ⟨fun _ => rfl, fun _ _ h => absurd h (by decide)⟩
      · iexact H11
    isplitl [H12]
    · iexists (Y 11); isplitr
      · ipureintro; exact ⟨fun _ => rfl, fun _ _ h => absurd h (by decide)⟩
      · iexact H12
    isplitl [H13]
    · iexists (Y 12); isplitr
      · ipureintro; exact ⟨fun _ => rfl, fun _ _ h => absurd h (by decide)⟩
      · iexact H13
    isplitl [H14]
    · iexists (Y 13); isplitr
      · ipureintro; exact ⟨fun _ => rfl, fun _ _ h => absurd h (by decide)⟩
      · iexact H14
    isplitl [H15]
    · iexists (Y 14); isplitr
      · ipureintro; exact ⟨fun _ => rfl, fun _ _ h => absurd h (by decide)⟩
      · iexact H15
    isplitl [H16]
    · iexists x'; isplitr
      · ipureintro; exact ⟨fun h => absurd h (by decide), fun Z hZ _ => by rw [eq_of_heq hZ]; exact hf⟩
      · iexact H16
    isplitl [H17]
    · iexists e17; isplitr
      · ipureintro; exact ⟨fun h => absurd h (by decide), fun _ _ h => absurd h (by decide)⟩
      · iexact H17
    isplitl [H18]
    · iexists e18; isplitr
      · ipureintro; exact ⟨fun h => absurd h (by decide), fun _ _ h => absurd h (by decide)⟩
      · iexact H18
    isplitl [H19]
    · iexists e19; isplitr
      · ipureintro; exact ⟨fun h => absurd h (by decide), fun _ _ h => absurd h (by decide)⟩
      · iexact H19
    isplitl [H20]
    · iexists e20; isplitr
      · ipureintro; exact ⟨fun h => absurd h (by decide), fun _ _ h => absurd h (by decide)⟩
      · iexact H20
    isplitl [H21]
    · iexists e21; isplitr
      · ipureintro; exact ⟨fun h => absurd h (by decide), fun _ _ h => absurd h (by decide)⟩
      · iexact H21
    isplitl [H22]
    · iexists e22; isplitr
      · ipureintro; exact ⟨fun h => absurd h (by decide), fun _ _ h => absurd h (by decide)⟩
      · iexact H22
    isplitl [H23]
    · iexists e23; isplitr
      · ipureintro; exact ⟨fun h => absurd h (by decide), fun _ _ h => absurd h (by decide)⟩
      · iexact H23
    isplitl [H24]
    · iexists e24; isplitr
      · ipureintro; exact ⟨fun h => absurd h (by decide), fun _ _ h => absurd h (by decide)⟩
      · iexact H24
    isplitl [H25]
    · iexists e25; isplitr
      · ipureintro; exact ⟨fun h => absurd h (by decide), fun _ _ h => absurd h (by decide)⟩
      · iexact H25
    isplitl [H26]
    · iexists e26; isplitr
      · ipureintro; exact ⟨fun h => absurd h (by decide), fun _ _ h => absurd h (by decide)⟩
      · iexact H26
    iexists e27; isplitr
    · ipureintro; exact ⟨fun h => absurd h (by decide), fun _ _ h => absurd h (by decide)⟩
    · iexact H27

set_option backward.isDefEq.respectTransparency.types false in
/-- The launch: every array as the proof data says, every counter at zero. -/
theorem run_main_quiescent : θ_run defs (onTc (τ := τ) (main (F := F))) (s₀ m ρ) (fun r => RDat.FramePost (cfgs 0) (rdat m) (V m) r ∧ r.2.sem = fun _ => 0) :=
  Pipeline.RDat.θ_run_frame (Q' := _) cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := fun _ _ => rfl) (hΦ := fun _ _ => rfl)

theorem run_main : θ_run defs (onTc (τ := τ) (main (F := F))) (s₀ m ρ) (RDat.FramePost (cfgs 0) (rdat m) (V m)) :=
  (θ_run defs _ _).mono (fun _ h => h.1) (run_main_quiescent m ρ)

/-- The frame: the argument arrays end unchanged and every counter is at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14)) ∧ r.2.sem = fun _ => 0) :=
  (θ_run defs _ _).mono (fun _ h => ⟨fun c => ⟨(RDat.FramePost.arr_in h.1 c 0 rfl).trans (V_main_arg0 m c),
    (RDat.FramePost.arr_in h.1 c 1 rfl).trans (V_main_arg1 m c),
    (RDat.FramePost.arr_in h.1 c 2 rfl).trans (V_main_arg2 m c),
    (RDat.FramePost.arr_in h.1 c 3 rfl).trans (V_main_arg3 m c),
    (RDat.FramePost.arr_in h.1 c 4 rfl).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c),
    (RDat.FramePost.arr_in h.1 c 13 rfl).trans (V_main_arg13 m c),
    (RDat.FramePost.arr_in h.1 c 14 rfl).trans (V_main_arg14 m c)⟩, h.2⟩) (run_main_quiescent m ρ)

end Cert.StatsIdeal.Body

end
-- ==== Proof.PlainStatsOb.lean ====
module

public import proofs.«01_k».proof.Proof.StatsOb
public import proofs.«01_k».proof.Proof.Gen.Stats

@[expose] public section

set_option maxRecDepth 65536
set_option maxHeartbeats 4000000

/-! # The statistics call on machine words: its frame -/

noncomputable section
open Idealize.ShloMosaic Idealize.SL.Sem

namespace Cert.Stats.Body

/-- The program and its idealization are printed alike, so one proof over any arithmetic serves both. -/
theorem main_same : Cert.StatsIdeal.main (F := Bits) = Cert.Stats.main (F := Bits) := by
  rfl

/-- The two body tables are the same. -/
theorem bodies_same : Cert.StatsIdeal.defs₀ (F := Bits) = Cert.Stats.defs₀ (F := Bits) := by
  unfold Cert.StatsIdeal.defs₀ Cert.Stats.defs₀
  refine congrArg Defs.onTc ?_
  funext x p
  match x, p with
  | 0, (t, s) => rfl

theorem defs_same : Cert.StatsIdeal.defs (F := Bits) = Cert.Stats.defs (F := Bits) := by
  unfold Cert.StatsIdeal.defs Cert.Stats.defs
  exact congrArg (Pipeline.defs Cert.StatsIdeal.pcfgs) bodies_same

/-- The frame of the statistics call on machine words. -/
theorem frame :
  ∀ (m : (ℓ : Loc Cert.Stats.nD Cert.Stats.τ Cert.Stats.sig) → Buf (Elt Bits) ℓ) (g : Dev Cert.Stats.nD → PrngReg),
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2)
      ∧ r.2.mem ((c.tc : Thread Cert.Stats.nD Cert.Stats.τ).loc Cert.Stats.main_arg3) = m ((c.tc : Thread Cert.Stats.nD Cert.Stats.τ).loc Cert.Stats.main_arg3)
      ∧ r.2.mem ((c.tc : Thread Cert.Stats.nD Cert.Stats.τ).loc Cert.Stats.main_arg4) = m ((c.tc : Thread Cert.Stats.nD Cert.Stats.τ).loc Cert.Stats.main_arg4)
      ∧ r.2.mem ((c.tc : Thread Cert.Stats.nD Cert.Stats.τ).loc Cert.Stats.main_arg5) = m ((c.tc : Thread Cert.Stats.nD Cert.Stats.τ).loc Cert.Stats.main_arg5)
      ∧ r.2.mem ((c.tc : Thread Cert.Stats.nD Cert.Stats.τ).loc Cert.Stats.main_arg6) = m ((c.tc : Thread Cert.Stats.nD Cert.Stats.τ).loc Cert.Stats.main_arg6)
      ∧ r.2.mem ((c.tc : Thread Cert.Stats.nD Cert.Stats.τ).loc Cert.Stats.main_arg7) = m ((c.tc : Thread Cert.Stats.nD Cert.Stats.τ).loc Cert.Stats.main_arg7)
      ∧ r.2.mem ((c.tc : Thread Cert.Stats.nD Cert.Stats.τ).loc Cert.Stats.main_arg8) = m ((c.tc : Thread Cert.Stats.nD Cert.Stats.τ).loc Cert.Stats.main_arg8)
      ∧ r.2.mem ((c.tc : Thread Cert.Stats.nD Cert.Stats.τ).loc Cert.Stats.main_arg9) = m ((c.tc : Thread Cert.Stats.nD Cert.Stats.τ).loc Cert.Stats.main_arg9)
      ∧ r.2.mem ((c.tc : Thread Cert.Stats.nD Cert.Stats.τ).loc Cert.Stats.main_arg10) = m ((c.tc : Thread Cert.Stats.nD Cert.Stats.τ).loc Cert.Stats.main_arg10)
      ∧ r.2.mem ((c.tc : Thread Cert.Stats.nD Cert.Stats.τ).loc Cert.Stats.main_arg11) = m ((c.tc : Thread Cert.Stats.nD Cert.Stats.τ).loc Cert.Stats.main_arg11)
      ∧ r.2.mem ((c.tc : Thread Cert.Stats.nD Cert.Stats.τ).loc Cert.Stats.main_arg12) = m ((c.tc : Thread Cert.Stats.nD Cert.Stats.τ).loc Cert.Stats.main_arg12)
      ∧ r.2.mem ((c.tc : Thread Cert.Stats.nD Cert.Stats.τ).loc Cert.Stats.main_arg13) = m ((c.tc : Thread Cert.Stats.nD Cert.Stats.τ).loc Cert.Stats.main_arg13)
      ∧ r.2.mem ((c.tc : Thread Cert.Stats.nD Cert.Stats.τ).loc Cert.Stats.main_arg14) = m ((c.tc : Thread Cert.Stats.nD Cert.Stats.τ).loc Cert.Stats.main_arg14))
      ∧ r.2.sem = fun _ => 0) := by
  intro m g
  rw [← main_same, ← defs_same]
  exact Cert.StatsIdeal.Body.frame (F := Bits) m g

end Cert.Stats.Body

end
-- ==== Proof.StatsValue.lean ====
module

public import proofs.«01_k».proof.Proof.StatsOb
public import proofs.«01_k».proof.Proof.Gen.StatsReferenceIdeal.Frame
public import Idealize.ShloMosaic.Lib.Pipeline.ValueKit
public import Idealize.ShloMosaic.Lib.Pipeline.ArrRel
public import Idealize.ShloMosaic.Lib.Claim
public import Idealize.ShloMosaic.Lib.ValueLayoutCasts

@[expose] public section

set_option maxRecDepth 16384

/-! # The logits the statistics call leaves, against one product on whole arrays -/

noncomputable section
open Idealize.ShloMosaic Idealize.ShloMosaic.TcCoe Idealize.SL.Sem
open Idealize.ShloMosaic.Pipeline (Dat RDat)

namespace Cert.StatsValue

/-- One logit: the codes' product, scaled by the row's scale. -/
def lg (x : (⟨2, ![1024, 2560]⟩ : Shape).Idx → EReal) (w : (⟨2, ![151936, 2560]⟩ : Shape).Idx → EReal) (s : (⟨1, ![151936]⟩ : Shape).Idx → EReal) (r : Fin 1024) (v : Fin 151936) : EReal :=
  (∑ k : Fin 2560, (x (ix2 r k) * w (ix2 v k) : EReal)) * s (ix1 v)

end Cert.StatsValue
namespace Cert.StatsIdeal.Value
open Cert.StatsIdeal Cert.StatsIdeal.Gen Cert.StatsIdeal.Body Cert.StatsValue

section strips

theorem pay22_apply (a : Vec Ideal S1024x2560 .fp8e4m3) (b : Vec Ideal S256x2560 .fp8e4m3) (s : Vec Ideal S1x256 .f32) (r : Fin 1024) (k : Fin 256) :
    k0_pay22 a b s (ix2 r k) = (∑ l : Fin 2560, (a (ix2 r l) * b (ix2 k l) : EReal)) * s (ix2 0 k) := by
  pointwise [k0_pay22]
theorem pay139_apply (a : Vec Ideal S1024x2560 .fp8e4m3) (b : Vec Ideal S128x2560 .fp8e4m3) (s : Vec Ideal S1x128 .f32) (r : Fin 1024) (k : Fin 128) :
    k0_pay139 a b s (ix2 r k) = (∑ l : Fin 2560, (a (ix2 r l) * b (ix2 k l) : EReal)) * s (ix2 0 k) := by
  pointwise [k0_pay139]

/-- The block's entries, from the point's inputs. -/
def uF (I : Ins Ideal) (y : S1024x1024.Idx) : EReal :=
  (∑ l : Fin 2560, ((I.x4 : Vec Ideal S1024x2560 .fp8e4m3) (ix2 (y 0) l) * (I.x14 : Vec Ideal S1024x2560 .fp8e4m3) (ix2 (y 1) l) : EReal)) * (I.x12 : Vec Ideal S1x1024 .f32) (ix2 0 (y 1))

theorem put256 (g : S1024x1024.Idx → EReal) (n : ℕ) (x : Vec Ideal S1024x1024 .f32) (w : Vec Ideal S1024x256 .f32)
    (hx : ∀ y : S1024x1024.Idx, (y 1).val < n → x y = g y)
    (hw : ∀ (r : Fin 1024) (k : Fin 256) (j : Fin 1024), j.val = n + k.val → w (ix2 r k) = g (ix2 r j)) :
    ∀ y : S1024x1024.Idx, (y 1).val < n + 256 → VecWindow.put (s := S1024x1024) x ![0, n] S1024x256.size w y = g y := by
  intro y hy
  obtain ⟨r, j, rfl⟩ : ∃ (r : Fin 1024) (j : Fin 1024), y = ix2 r j := ⟨y 0, y 1, eq_ix2 y⟩
  have hy : j.val < n + 256 := hy
  unfold VecWindow.put
  split
  · rename_i hn
    have h1 : n ≤ j.val := (hn 1).1
    refine Eq.trans (congrArg w ?_) (hw r ⟨j.val - n, by omega⟩ j (by show j.val = n + (j.val - n); omega))
    funext a
    match a with
    | ⟨0, _⟩ => exact Fin.ext (Nat.sub_zero _)
    | ⟨1, _⟩ => rfl
  · rename_i hn
    refine hx _ ?_
    show j.val < n
    by_contra hc
    apply hn
    intro a
    match a with
    | ⟨0, _⟩ => exact ⟨Nat.zero_le _, by simpa using r.isLt⟩
    | ⟨1, _⟩ => exact ⟨by simpa using hc, by simpa using hy⟩

theorem put128 (g : S1024x1024.Idx → EReal) (n : ℕ) (x : Vec Ideal S1024x1024 .f32) (w : Vec Ideal S1024x128 .f32)
    (hx : ∀ y : S1024x1024.Idx, (y 1).val < n → x y = g y)
    (hw : ∀ (r : Fin 1024) (k : Fin 128) (j : Fin 1024), j.val = n + k.val → w (ix2 r k) = g (ix2 r j)) :
    ∀ y : S1024x1024.Idx, (y 1).val < n + 128 → VecWindow.put (s := S1024x1024) x ![0, n] S1024x128.size w y = g y := by
  intro y hy
  obtain ⟨r, j, rfl⟩ : ∃ (r : Fin 1024) (j : Fin 1024), y = ix2 r j := ⟨y 0, y 1, eq_ix2 y⟩
  have hy : j.val < n + 128 := hy
  unfold VecWindow.put
  split
  · rename_i hn
    have h1 : n ≤ j.val := (hn 1).1
    refine Eq.trans (congrArg w ?_) (hw r ⟨j.val - n, by omega⟩ j (by show j.val = n + (j.val - n); omega))
    funext a
    match a with
    | ⟨0, _⟩ => exact Fin.ext (Nat.sub_zero _)
    | ⟨1, _⟩ => rfl
  · rename_i hn
    refine hx _ ?_
    show j.val < n
    by_contra hc
    apply hn
    intro a
    match a with
    | ⟨0, _⟩ => exact ⟨Nat.zero_le _, by simpa using r.isLt⟩
    | ⟨1, _⟩ => exact ⟨by simpa using hc, by simpa using hy⟩

/-- A read of part of a buffer at an index, by the part's offsets. -/
theorem ldv_at {s : Shape} {e : EltTy} {n0 n1 : ℕ} (y : Vec Ideal (⟨2, ![n0, n1]⟩ : Shape) e) (o : Fin 2 → ℕ) (z : Fin 2 → ℕ)
    (h : ∀ a, o a + z a ≤ (⟨2, ![n0, n1]⟩ : Shape).size a) (j : (⟨2, z⟩ : Shape).Idx) (p : Fin n0) (q : Fin n1)
    (hp : p.val = o 0 + (j 0).val) (hq : q.val = o 1 + (j 1).val) :
    ldv y (Rect.unit (s := (⟨2, ![n0, n1]⟩ : Shape)) o z h).toLoadRect j = y (ix2 p q) := by
  refine congrArg y ?_
  funext b
  match b with
  | ⟨0, _⟩ => exact Fin.ext (by show o 0 + 1 * (j 0).val = p.val; omega)
  | ⟨1, _⟩ => exact Fin.ext (by show o 1 + 1 * (j 1).val = q.val; omega)

theorem strip256 (I : Ins Ideal) (n : ℕ) (i1 : ∀ a, (![0, 0] : Fin 2 → ℕ) a + S1024x2560.size a ≤ S1024x2560.size a)
    (i2 : ∀ a, (![n, 0] : Fin 2 → ℕ) a + S256x2560.size a ≤ S1024x2560.size a) (i3 : ∀ a, (![0, n] : Fin 2 → ℕ) a + S1x256.size a ≤ S1x1024.size a)
    (r : Fin 1024) (k : Fin 256) (j : Fin 1024) (hj : j.val = n + k.val) :
    k0_pay22 (ldv I.x4 (Rect.unit (s := S1024x2560) ![0, 0] S1024x2560.size i1).toLoadRect) (ldv I.x14 (Rect.unit (s := S1024x2560) ![n, 0] S256x2560.size i2).toLoadRect)
      (ldv I.x12 (Rect.unit (s := S1x1024) ![0, n] S1x256.size i3).toLoadRect) (ix2 r k) = uF I (ix2 r j) := by
  refine (pay22_apply _ _ _ r k).trans ?_
  unfold uF
  refine congrArg₂ (· * ·) (Finset.sum_congr rfl fun l _ => congrArg₂ (· * ·) ?_ ?_) ?_
  · exact ldv_at (s := S1024x2560) I.x4 _ _ i1 (ix2 r l) r l (Nat.zero_add _).symm (Nat.zero_add _).symm
  · exact ldv_at (s := S1024x2560) I.x14 _ _ i2 (ix2 k l) j l hj (Nat.zero_add _).symm
  · exact ldv_at (s := S1x1024) I.x12 _ _ i3 (ix2 0 k) 0 j rfl hj

theorem strip128 (I : Ins Ideal) (n : ℕ) (i1 : ∀ a, (![0, 0] : Fin 2 → ℕ) a + S1024x2560.size a ≤ S1024x2560.size a)
    (i2 : ∀ a, (![n, 0] : Fin 2 → ℕ) a + S128x2560.size a ≤ S1024x2560.size a) (i3 : ∀ a, (![0, n] : Fin 2 → ℕ) a + S1x128.size a ≤ S1x1024.size a)
    (r : Fin 1024) (k : Fin 128) (j : Fin 1024) (hj : j.val = n + k.val) :
    k0_pay139 (ldv I.x4 (Rect.unit (s := S1024x2560) ![0, 0] S1024x2560.size i1).toLoadRect) (ldv I.x14 (Rect.unit (s := S1024x2560) ![n, 0] S128x2560.size i2).toLoadRect)
      (ldv I.x12 (Rect.unit (s := S1x1024) ![0, n] S1x128.size i3).toLoadRect) (ix2 r k) = uF I (ix2 r j) := by
  refine (pay139_apply _ _ _ r k).trans ?_
  unfold uF
  refine congrArg₂ (· * ·) (Finset.sum_congr rfl fun l _ => congrArg₂ (· * ·) ?_ ?_) ?_
  · exact ldv_at (s := S1024x2560) I.x4 _ _ i1 (ix2 r l) r l (Nat.zero_add _).symm (Nat.zero_add _).symm
  · exact ldv_at (s := S1024x2560) I.x14 _ _ i2 (ix2 k l) j l hj (Nat.zero_add _).symm
  · exact ldv_at (s := S1x1024) I.x12 _ _ i3 (ix2 0 k) 0 j rfl hj

/-- Every block before the last is written whole. -/
theorem uMid_fun (I : Ins Ideal) (x : Vec Ideal S1024x1024 .f32) (y : S1024x1024.Idx) (hy : (y 1).val < 1024) : uMid I x y = uF I y := by
  unfold uMid
  have h3 := put256 (uF I) 0 x _ (fun _ h => absurd h (Nat.not_lt_zero _)) (strip256 I 0 inb_S1024x2560_S1024x2560_0_0 inb_S1024x2560_S256x2560_0_0 inb_S1x1024_S1x256_0_0)
  have h6 := put256 (uF I) 256 (u3 I x) _ h3 (strip256 I 256 inb_S1024x2560_S1024x2560_0_0 inb_S1024x2560_S256x2560_256_0 inb_S1x1024_S1x256_0_256)
  have h9 := put256 (uF I) 512 (u6 I (u3 I x)) _ h6 (strip256 I 512 inb_S1024x2560_S1024x2560_0_0 inb_S1024x2560_S256x2560_512_0 inb_S1x1024_S1x256_0_512)
  exact put256 (uF I) 768 (u9 I (u6 I (u3 I x))) _ h9 (strip256 I 768 inb_S1024x2560_S1024x2560_0_0 inb_S1024x2560_S256x2560_768_0 inb_S1x1024_S1x256_0_768) y hy

/-- The last block is written up to the vocabulary's end. -/
theorem uLast_fun (I : Ins Ideal) (x : Vec Ideal S1024x1024 .f32) (y : S1024x1024.Idx) (hy : (y 1).val < 384) : uLast I x y = uF I y := by
  unfold uLast
  have h3 := put256 (uF I) 0 x _ (fun _ h => absurd h (Nat.not_lt_zero _)) (strip256 I 0 inb_S1024x2560_S1024x2560_0_0 inb_S1024x2560_S256x2560_0_0 inb_S1x1024_S1x256_0_0)
  exact put128 (uF I) 256 (u14 I x) _ h3 (strip128 I 256 inb_S1024x2560_S1024x2560_0_0 inb_S1024x2560_S128x2560_256_0 inb_S1x1024_S1x128_0_256) y hy

end strips

/-! ## The windows at a point -/

variable (m : (ℓ : Loc nD τ sig) → Buf (Elt Ideal) ℓ)

theorem xs3 : ∀ t : Fin grid0.N, win0_3.xsize (grid0.coords t) 0 = 1024 ∧ win0_3.xsize (grid0.coords t) 1 = 2560 := by decide +kernel
theorem xs11 : ∀ t : Fin grid0.N, win0_11.xsize (grid0.coords t) 0 = 1 ∧ win0_11.xsize (grid0.coords t) 1 = if t.val < 148 then 1024 else 384 := by decide +kernel
theorem xs13 : ∀ t : Fin grid0.N, win0_13.xsize (grid0.coords t) 0 = (if t.val < 148 then 1024 else 384) ∧ win0_13.xsize (grid0.coords t) 1 = 2560 := by decide +kernel
theorem xs15 : ∀ t : Fin grid0.N, win0_15.xsize (grid0.coords t) 0 = 1024 ∧ win0_15.xsize (grid0.coords t) 1 = if t.val < 148 then 1024 else 384 := by decide +kernel

/-- How many of a block's vocabulary entries are inside the array at a point. -/
def lim (t : Fin grid0.N) : ℕ := if t.val < 148 then 1024 else 384

theorem mv3 (t : Fin grid0.N) (j : S1024x2560.Idx) : win0_3.moved (grid0.coords t) j = true :=
  (win0_3.moved_iff _ j).mpr fun a => by
    match a with
    | ⟨0, _⟩ => exact lt_of_lt_of_eq (j 0).isLt (xs3 t).1.symm
    | ⟨1, _⟩ => exact lt_of_lt_of_eq (j 1).isLt (xs3 t).2.symm
theorem mv11 (t : Fin grid0.N) (j : S1x1024.Idx) (h : (j 1).val < lim t) : win0_11.moved (grid0.coords t) j = true :=
  (win0_11.moved_iff _ j).mpr fun a => by
    match a with
    | ⟨0, _⟩ => exact lt_of_lt_of_eq (j 0).isLt (xs11 t).1.symm
    | ⟨1, _⟩ => exact lt_of_lt_of_eq h (xs11 t).2.symm
theorem mv13 (t : Fin grid0.N) (j : S1024x2560.Idx) (h : (j 0).val < lim t) : win0_13.moved (grid0.coords t) j = true :=
  (win0_13.moved_iff _ j).mpr fun a => by
    match a with
    | ⟨0, _⟩ => exact lt_of_lt_of_eq h (xs13 t).1.symm
    | ⟨1, _⟩ => exact lt_of_lt_of_eq (j 1).isLt (xs13 t).2.symm

theorem idx : ∀ t : Fin cfg0.N, win0_3.index t = ![0, 0] ∧ win0_11.index t = ![0, t.val] ∧ win0_13.index t = ![t.val, 0] ∧ win0_15.index t = ![0, t.val] :=
  (by decide +kernel : ∀ t : Fin grid0.N, _)

theorem xb_at (c : Dev nD) (t : Fin cfg0.N) (d) (r : Fin 1024) (k : Fin 2560) :
    win0_3.fill (grid0.coords t) d (iblk m c 3 t) (ix2 r k) = m ((c : Thread nD τ).loc main_arg3) (ix2 r k) := by
  unfold Pipeline.Window.fill
  rw [dif_pos (mv3 t (ix2 r k))]
  rw [← V_main_arg3 m c]
  blk_ext [iblk, idx t]
theorem wb_at (c : Dev nD) (t : Fin cfg0.N) (d) (j : Fin 1024) (k : Fin 2560) (v : Fin 151936) (h : j.val < lim t) (hv : v.val = t.val * 1024 + j.val) :
    win0_13.fill (grid0.coords t) d (iblk m c 13 t) (ix2 j k) = m ((c : Thread nD τ).loc main_arg13) (ix2 v k) := by
  unfold Pipeline.Window.fill
  rw [dif_pos (mv13 t (ix2 j k) h)]
  rw [← V_main_arg13 m c]
  blk_ext [iblk, idx t]
theorem sb_at (c : Dev nD) (t : Fin cfg0.N) (d) (j : Fin 1024) (v : Fin 151936) (h : j.val < lim t) (hv : v.val = t.val * 1024 + j.val) :
    win0_11.fill (grid0.coords t) d (iblk m c 11 t) (ix2 0 j) = V m c main_v8 (ix2 0 v) := by
  unfold Pipeline.Window.fill
  rw [dif_pos (mv11 t (ix2 0 j) h)]
  blk_ext [iblk, idx t]
theorem host_v8 (c : Dev nD) (k : Fin 151936) : V m c main_v8 (ix2 0 k) = m ((c : Thread nD τ).loc main_arg11) (ix1 k) := by
  have h : V m c main_v8 = shapeCast S1x151936 (m ((c : Thread nD τ).loc main_arg11)) shapeCasts_S151936_S1x151936 := by
    unfold V
    simp only [hostOps0, List.flatten_cons, List.flatten_nil, List.append_nil]
    after_results
    rfl
  rw [h]
  exact ValueIdx.shapeCast_a_1a_apply _ _ 0 k

/-- The logits, from the arguments as launched. -/
def K (c : Dev nD) : Fin 1024 → Fin 151936 → EReal :=
  lg (m ((c : Thread nD τ).loc main_arg3)) (m ((c : Thread nD τ).loc main_arg13)) (m ((c : Thread nD τ).loc main_arg11))

theorem UL_at (c : Dev nD) (t : Fin cfg0.N) (X : Vec Ideal S1024x1024 .f32) (hX : UL m c t X) (r j : Fin 1024) (v : Fin 151936) (h : j.val < lim t) (hv : v.val = t.val * 1024 + j.val) :
    X (ix2 r j) = K m c r v := by
  obtain ⟨I, y, ⟨d4, h4⟩, ⟨d12, h12⟩, ⟨d14, h14⟩, rfl⟩ := hX
  have e : uF I (ix2 r j) = K m c r v := by
    unfold uF K lg
    refine congrArg₂ (· * ·) (Finset.sum_congr rfl fun l _ => congrArg₂ (· * ·) ?_ ?_) ?_
    · exact (congrFun h4 (ix2 r l)).trans (xb_at m c t d4 r l)
    · exact (congrFun h14 (ix2 j l)).trans (wb_at m c t d14 j l v h hv)
    · exact (congrFun h12 (ix2 0 j)).trans ((sb_at m c t d12 j v h hv).trans (host_v8 m c v))
  refine Eq.trans ?_ e
  split
  · exact uMid_fun I y _ j.isLt
  · rename_i hn
    exact uLast_fun I y _ (by unfold lim at h; rwa [if_neg hn] at h)

/-- The logits' array once every point has run. -/
theorem final15 (c : Dev nD) (after : (w : Fin cfg0.W) → (t : Fin cfg0.N) → (cfg0.win w).block.Idx → Elt Ideal (cfg0.win w).elt)
    (hL : ∀ (w : Fin cfg0.W) (t : Fin cfg0.N), (cfg0.win w).flush t = true → (rdat m c).Leaves w t (after w t)) :
    ((rdat m c).withAfter after).arrAt 15 cfg0.N = fun y : S1024x151936.Idx => K m c (y 0) (y 1) := by
  refine ((rdat m c).withAfter after).arrAt_eq_of_covers 15 _ (by decide +kernel) fun t hf y => ?_
  blk_simp
  rw [RDat.withAfter_after]
  obtain ⟨Y, hY, hA⟩ := hL 15 t hf
  have hU : UL m c t (after 15 t) := hA.2 (after 15 t) HEq.rfl rfl
  have hx1 : (y 1).val < lim t := lt_of_lt_of_eq (y 1).isLt (xs15 t).2
  have hx0 : (y 0).val < 1024 := lt_of_lt_of_eq (y 0).isLt (xs15 t).1
  have hj : (y 1).val < 1024 := lt_of_lt_of_le hx1 (by unfold lim; split <;> decide)
  have e : (cfg0.win 15).xinj (cfg0.grid.coords t) y = ix2 (⟨(y 0).val, hx0⟩ : Fin 1024) (⟨(y 1).val, hj⟩ : Fin 1024) := by
    funext b
    match b with
    | ⟨0, _⟩ => rfl
    | ⟨1, _⟩ => rfl
  have e0 : (win0_15.blk t).view.emb y 0 = (⟨(y 0).val, hx0⟩ : Fin 1024) := Fin.ext (by blk_simp [idx t])
  have e1 : ((win0_15.blk t).view.emb y 1 : Fin 151936).val = t.val * 1024 + (y 1).val := by blk_simp [idx t]
  rw [e, e0]
  exact UL_at m c t _ hU _ _ _ hx1 e1

theorem left_u (r : PUnit × MemSt nD τ sig (Elt Ideal)) (h : RDat.FramePost (cfgs 0) (rdat m) (V m) r) (c : Dev nD) :
    r.2.mem ((c.tc : Thread nD τ).loc main_v10_0) = fun y : S1024x151936.Idx => K m c (y 0) (y 1) := by
  obtain ⟨after, hL, hA⟩ := h.exists_exact c
  exact (hA 15).trans (final15 m c after hL)

end Cert.StatsIdeal.Value
namespace Cert.StatsReferenceIdeal.Value
open Cert.StatsReferenceIdeal Cert.StatsReferenceIdeal.Gen Cert.StatsValue

variable (m : (ℓ : Loc nD τ sig) → Buf (Elt Ideal) ℓ)

theorem mm_apply (a : Vec Ideal S1024x2560 .fp8e4m3) (b : Vec Ideal S151936x2560 .fp8e4m3) (s : Vec Ideal S1x151936 .f32) (r : Fin 1024) (k : Fin 151936) :
    k0_pay1 a b s (ix2 r k) = (∑ l : Fin 2560, (a (ix2 r l) * b (ix2 k l) : EReal)) * s (ix2 0 k) := by
  pointwise [k0_pay1]

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)
theorem row_0 (c : Dev nD) (t : Fin cfg0.N) (r : Fin 1024) (k : Fin 2560) : iblk m c 0 t (ix2 r k) = m ((c : Thread nD τ).loc main_arg3) (ix2 r k) := by
  rw [← V_main_arg3 m c]
  blk_ext [iblk, idx t]
theorem row_1 (c : Dev nD) (t : Fin cfg0.N) (r : Fin 151936) (k : Fin 2560) : iblk m c 1 t (ix2 r k) = m ((c : Thread nD τ).loc main_arg13) (ix2 r k) := by
  rw [← V_main_arg13 m c]
  blk_ext [iblk, idx t]
theorem row_2 (c : Dev nD) (t : Fin cfg0.N) (k : Fin 151936) : iblk m c 2 t (ix2 0 k) = V m c main_v0 (ix2 0 k) := by
  blk_ext [iblk, idx t]
theorem host_v0 (c : Dev nD) (k : Fin 151936) : V m c main_v0 (ix2 0 k) = m ((c : Thread nD τ).loc main_arg11) (ix1 k) := by
  have h : V m c main_v0 = shapeCast S1x151936 (m ((c : Thread nD τ).loc main_arg11)) shapeCasts_S151936_S1x151936 := by
    unfold V
    simp only [hostOps0, List.flatten_cons, List.flatten_nil, List.append_nil]
    after_results
    rfl
  rw [h]
  exact ValueIdx.shapeCast_a_1a_apply _ _ 0 k

/-- The logits, from the arguments as launched. -/
def K (c : Dev nD) : Fin 1024 → Fin 151936 → EReal :=
  lg (m ((c : Thread nD τ).loc main_arg3)) (m ((c : Thread nD τ).loc main_arg13)) (m ((c : Thread nD τ).loc main_arg11))

theorem final3 (c : Dev nD) : (dats m 0 c).arrAt 3 (cfgs 0).N = fun y : S1024x151936.Idx => K m c (y 0) (y 1) := by
  refine (dats m 0 c).arrAt_eq_of_after_last 3 t0_0 (by decide +kernel) _ fun y => ?_
  blk_simp
  rw [after0_3]
  frame_out
  obtain ⟨i, v, rfl⟩ : ∃ (i : Fin 1024) (v : Fin 151936), y = ix2 i v := ⟨y 0, y 1, eq_ix2 y⟩
  refine (mm_apply _ _ _ i v).trans ?_
  unfold K lg
  refine congrArg₂ (· * ·) (Finset.sum_congr rfl fun l _ => congrArg₂ (· * ·) ?_ ?_) ?_
  · exact row_0 m c t0_0 i l
  · exact row_1 m c t0_0 v l
  · exact (row_2 m c t0_0 v).trans (host_v0 m c v)

end Cert.StatsReferenceIdeal.Value

end
-- ==== Proof.GradBody.lean ====
module

public import proofs.«01_k».proof.Proof.Gen.GradIdeal.Frame
public import proofs.«01_k».proof.Proof.Gen.GradIdeal.Launch
public import proofs.«01_k».proof.Proof.Gen.GradIdeal.Skeleton
public import proofs.«01_k».proof.Proof.Gen.GradIdeal.Points
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.VecWindow
public import Idealize.ShloMosaic.Lib.Pipeline.ValueKit

@[expose] public section

set_option maxRecDepth 16384

noncomputable section

namespace Cert.GradIdeal.Body

open Cert.GradIdeal Cert.GradIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- What the body holds of its fifteen buffers: each at the contents named. -/
def St (c : Dev nD) (arg1 : Memref sig .tc .vmem S1024x1024 .f32) (harg1 : arg1.IsWhole) (arg2 : Memref sig .tc .vmem S1024x2560 .fp8e4m3) (harg2 : arg2.IsWhole) (arg3 : Memref sig .tc .vmem S1x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024 .i32) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x2560 .f32) (harg11 : arg11.IsWhole) (arg12 : Memref sig .tc .vmem S1024x1024 .fp8e5m2) (harg12 : arg12.IsWhole) (arg13 : Memref sig .tc .vmem S1024x2560 .bf16) (harg13 : arg13.IsWhole) (arg14 : Memref sig .tc .vmem S1024x2560 .f32) (harg14 : arg14.IsWhole) (arg15 : Memref sig .tc .vmem S1024x128 .i32) (harg15 : arg15.IsWhole)
    (x1 : Vec F S1024x1024 .f32) (x2 : Vec F S1024x2560 .fp8e4m3) (x3 : Vec F S1x1024 .f32) (x4 : Vec F S1024x128 .f32) (x5 : Vec F S1024x128 .f32) (x6 : Vec F S1024x128 .f32) (x7 : Vec F S1024x128 .f32) (x8 : Vec F S1x1024 .i32) (x9 : Vec F S1x1024 .f32) (x10 : Vec F S1024x2560 .bf16) (x11 : Vec F S1x2560 .f32) (x12 : Vec F S1024x1024 .fp8e5m2) (x13 : Vec F S1024x2560 .bf16) (x14 : Vec F S1024x2560 .f32) (x15 : Vec F S1024x128 .i32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15)

/-- A buffer read after a store over a window: the payload over the window, the rest as before. -/
theorem read_put {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

variable (c : Dev nD) (E : Set ℕ) (i : grid0.Coords) (arg1 : Memref sig .tc .vmem S1024x1024 .f32) (harg1 : arg1.IsWhole) (arg2 : Memref sig .tc .vmem S1024x2560 .fp8e4m3) (harg2 : arg2.IsWhole) (arg3 : Memref sig .tc .vmem S1x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024 .i32) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x2560 .f32) (harg11 : arg11.IsWhole) (arg12 : Memref sig .tc .vmem S1024x1024 .fp8e5m2) (harg12 : arg12.IsWhole) (arg13 : Memref sig .tc .vmem S1024x2560 .bf16) (harg13 : arg13.IsWhole) (arg14 : Memref sig .tc .vmem S1024x2560 .f32) (harg14 : arg14.IsWhole) (arg15 : Memref sig .tc .vmem S1024x128 .i32) (harg15 : arg15.IsWhole)
    (x1 : Vec F S1024x1024 .f32) (x2 : Vec F S1024x2560 .fp8e4m3) (x3 : Vec F S1x1024 .f32) (x4 : Vec F S1024x128 .f32) (x5 : Vec F S1024x128 .f32) (x6 : Vec F S1024x128 .f32) (x7 : Vec F S1024x128 .f32) (x8 : Vec F S1x1024 .i32) (x9 : Vec F S1x1024 .f32) (x10 : Vec F S1024x2560 .bf16) (x11 : Vec F S1x2560 .f32) (x12 : Vec F S1024x1024 .fp8e5m2) (x13 : Vec F S1024x2560 .bf16) (x14 : Vec F S1024x2560 .f32) (x15 : Vec F S1024x128 .i32)

set_option maxHeartbeats 4000000 in
theorem part1_run (arg0 : BitVec 32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (VecWindow.put (s := S1024x1024) x12 ![0, 0] S1024x128.size (k0_pay8 arg0 x4 (View.ld x1 (Rect.unit (s := S1024x1024) ![0, 0] S1024x128.size inb_S1024x1024_S1024x128_0_0)) x5 x6 x15 x7 (View.ld x3 (Rect.unit (s := S1x1024) ![0, 0] S1x128.size inb_S1x1024_S1x128_0_0)))) x13 x14 x15 -∗ K ⟨k0_pay6 arg0, k0_pay7 x4⟩))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0) K := by
  rw [k0_part1_eq_skeleton]; unfold k0_part1_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; refine (read_put _ _ _ _ _).trans ?_
    simp only [View.readAt_full, View.readAt_eq_ld, read_put, View.writes_nil]
    try simp (disch := decide) only [View.ld_unit_lit]
    try rfl
  isplitl [H13]
  · iexists _; isplitr
    swap; · iexact H13
    ipureintro; rfl
  isplitl [H14]
  · iexists _; isplitr
    swap; · iexact H14
    ipureintro; rfl
  · iexists _; isplitr
    swap; · iexact H15
    ipureintro; rfl

set_option maxHeartbeats 4000000 in
theorem part2_run (v12 : IVec S1024x128 32) (v16 : FVec F S1024x128 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (VecWindow.put (s := S1024x1024) x12 ![0, 128] S1024x128.size (k0_pay9 v12 v16 (View.ld x1 (Rect.unit (s := S1024x1024) ![0, 128] S1024x128.size inb_S1024x1024_S1024x128_0_128)) x5 x6 x15 x7 (View.ld x3 (Rect.unit (s := S1x1024) ![0, 128] S1x128.size inb_S1x1024_S1x128_0_128)))) x13 x14 x15 -∗ K ⟨k0_pay10 v16 (View.ld x1 (Rect.unit (s := S1024x1024) ![0, 256] S1024x128.size inb_S1024x1024_S1024x128_0_256)) x5, k0_pay11 x6⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16) K := by
  rw [k0_part2_eq_skeleton]; unfold k0_part2_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; refine (read_put _ _ _ _ _).trans ?_
    simp only [View.readAt_full, View.readAt_eq_ld, read_put, View.writes_nil]
    try simp (disch := decide) only [View.ld_unit_lit]
    try rfl
  isplitl [H13]
  · iexists _; isplitr
    swap; · iexact H13
    ipureintro; rfl
  isplitl [H14]
  · iexists _; isplitr
    swap; · iexact H14
    ipureintro; rfl
  · iexists _; isplitr
    swap; · iexact H15
    ipureintro; rfl

set_option maxHeartbeats 4000000 in
theorem part3_run (v12 : IVec S1024x128 32) (v16 : FVec F S1024x128 .f32) (v78 : FVec F S1024x128 .f32) (v80 : FVec F S1024x128 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (VecWindow.put (s := S1024x1024) x12 ![0, 256] S1024x128.size (k0_pay12 v12 v78 v80 x15 x7 (View.ld x3 (Rect.unit (s := S1x1024) ![0, 256] S1x128.size inb_S1x1024_S1x128_0_256)))) x13 x14 x15 -∗ K ⟨k0_pay13 v16 (View.ld x1 (Rect.unit (s := S1024x1024) ![0, 384] S1024x128.size inb_S1024x1024_S1024x128_0_384)) x5 x6, k0_pay14 v12 x15, k0_pay15 x7, (Scalar.ofBits .f32 0x00000000#32)⟩))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16 v78 v80) K := by
  rw [k0_part3_eq_skeleton]; unfold k0_part3_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  simp only [show part3_run.sl.cst_64 = (Scalar.ofBits .f32 0x00000000#32 : F .f32) from rfl]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; refine (read_put _ _ _ _ _).trans ?_
    simp only [View.readAt_full, View.readAt_eq_ld, read_put, View.writes_nil]
    try simp (disch := decide) only [View.ld_unit_lit]
    try rfl
  isplitl [H13]
  · iexists _; isplitr
    swap; · iexact H13
    ipureintro; rfl
  isplitl [H14]
  · iexists _; isplitr
    swap; · iexact H14
    ipureintro; rfl
  · iexists _; isplitr
    swap; · iexact H15
    ipureintro; rfl

set_option maxHeartbeats 4000000 in
theorem part4_run (v12 : IVec S1024x128 32) (v16 : FVec F S1024x128 .f32) (v109 : FVec F S1024x128 .f32) (v113 : IVec S1024x128 1) (v115 : FVec F S1024x128 .f32) (cst_64 : F .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (VecWindow.put (s := S1024x1024) x12 ![0, 384] S1024x128.size (k0_pay16 v109 v113 v115 cst_64 (View.ld x3 (Rect.unit (s := S1x1024) ![0, 384] S1x128.size inb_S1x1024_S1x128_0_384)))) x13 x14 x15 -∗ K ⟨(Scalar.ofBits .f32 0x47600000#32), k0_pay17 v12 v16 (View.ld x1 (Rect.unit (s := S1024x1024) ![0, 512] S1024x128.size inb_S1024x1024_S1024x128_0_512)) x5 x6 x15 x7 (View.ld x3 (Rect.unit (s := S1x1024) ![0, 512] S1x128.size inb_S1x1024_S1x128_0_512))⟩))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16 v109 v113 v115 cst_64) K := by
  rw [k0_part4_eq_skeleton]; unfold k0_part4_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  simp only [show part4_run.sl.cst_84 = (Scalar.ofBits .f32 0x47600000#32 : F .f32) from rfl]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; refine (read_put _ _ _ _ _).trans ?_
    simp only [View.readAt_full, View.readAt_eq_ld, read_put, View.writes_nil]
    try simp (disch := decide) only [View.ld_unit_lit]
    try rfl
  isplitl [H13]
  · iexists _; isplitr
    swap; · iexact H13
    ipureintro; rfl
  isplitl [H14]
  · iexists _; isplitr
    swap; · iexact H14
    ipureintro; rfl
  · iexists _; isplitr
    swap; · iexact H15
    ipureintro; rfl

set_option maxHeartbeats 4000000 in
theorem part5_run (v12 : IVec S1024x128 32) (v16 : FVec F S1024x128 .f32) (cst_84 : F .f32) (v152 : FVec F S1024x128 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (VecWindow.put (s := S1024x1024) (VecWindow.put (s := S1024x1024) x12 ![0, 512] S1024x128.size (k0_pay18 cst_84 v152)) ![0, 640] S1024x128.size (k0_pay19 v12 v16 (View.ld x1 (Rect.unit (s := S1024x1024) ![0, 640] S1024x128.size inb_S1024x1024_S1024x128_0_640)) x5 x6 x15 x7 (View.ld x3 (Rect.unit (s := S1x1024) ![0, 640] S1x128.size inb_S1x1024_S1x128_0_640)))) x13 x14 x15 -∗ K ⟨(View.ld x1 (Rect.unit (s := S1024x1024) ![0, 768] S1024x128.size inb_S1024x1024_S1024x128_0_768)), x5⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16 cst_84 v152) K := by
  rw [k0_part5_eq_skeleton]; unfold k0_part5_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; refine (read_put _ _ _ _ _).trans ?_
    simp only [View.readAt_full, View.readAt_eq_ld, read_put, View.writes_nil]
    try simp (disch := decide) only [View.ld_unit_lit]
    try rfl
  isplitl [H13]
  · iexists _; isplitr
    swap; · iexact H13
    ipureintro; rfl
  isplitl [H14]
  · iexists _; isplitr
    swap; · iexact H14
    ipureintro; rfl
  · iexists _; isplitr
    swap; · iexact H15
    ipureintro; rfl

set_option maxHeartbeats 4000000 in
theorem part6_run (v12 : IVec S1024x128 32) (v16 : FVec F S1024x128 .f32) (v185 : Vec F S1024x128 .f32) (v186 : Vec F S1024x128 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (VecWindow.put (s := S1024x1024) x12 ![0, 768] S1024x128.size (k0_pay20 v12 v16 v185 v186 x6 x15 x7 (View.ld x3 (Rect.unit (s := S1x1024) ![0, 768] S1x128.size inb_S1x1024_S1x128_0_768)))) x13 x14 x15 -∗ K ⟨k0_pay21 v16 (View.ld x1 (Rect.unit (s := S1024x1024) ![0, 896] S1024x128.size inb_S1024x1024_S1024x128_0_896)) x5 x6, x15, 896#32⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16 v185 v186) K := by
  rw [k0_part6_eq_skeleton]; unfold k0_part6_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; refine (read_put _ _ _ _ _).trans ?_
    simp only [View.readAt_full, View.readAt_eq_ld, read_put, View.writes_nil]
    try simp (disch := decide) only [View.ld_unit_lit]
    try rfl
  isplitl [H13]
  · iexists _; isplitr
    swap; · iexact H13
    ipureintro; rfl
  isplitl [H14]
  · iexists _; isplitr
    swap; · iexact H14
    ipureintro; rfl
  · iexists _; isplitr
    swap; · iexact H15
    ipureintro; rfl

set_option maxHeartbeats 4000000 in
theorem part7_run (arg0 : BitVec 32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (VecWindow.put (s := S1024x1024) x12 ![0, 0] S1024x128.size (k0_pay24 arg0 x4 (View.ld x1 (Rect.unit (s := S1024x1024) ![0, 0] S1024x128.size inb_S1024x1024_S1024x128_0_0)) x5 x6 x15 x7 (View.ld x3 (Rect.unit (s := S1x1024) ![0, 0] S1x128.size inb_S1x1024_S1x128_0_0)))) x13 x14 x15 -∗ K ⟨k0_pay22 arg0, k0_pay23 x4⟩))
      ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0) K := by
  rw [k0_part7_eq_skeleton]; unfold k0_part7_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; refine (read_put _ _ _ _ _).trans ?_
    simp only [View.readAt_full, View.readAt_eq_ld, read_put, View.writes_nil]
    try simp (disch := decide) only [View.ld_unit_lit]
    try rfl
  isplitl [H13]
  · iexists _; isplitr
    swap; · iexact H13
    ipureintro; rfl
  isplitl [H14]
  · iexists _; isplitr
    swap; · iexact H14
    ipureintro; rfl
  · iexists _; isplitr
    swap; · iexact H15
    ipureintro; rfl

set_option maxHeartbeats 4000000 in
theorem part8_run (v12 : IVec S1024x128 32) (v16 : FVec F S1024x128 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (VecWindow.put (s := S1024x1024) x12 ![0, 128] S1024x128.size (k0_pay25 v12 v16 (View.ld x1 (Rect.unit (s := S1024x1024) ![0, 128] S1024x128.size inb_S1024x1024_S1024x128_0_128)) x5 x6 x15 x7 (View.ld x3 (Rect.unit (s := S1x1024) ![0, 128] S1x128.size inb_S1x1024_S1x128_0_128)))) x13 x14 x15 -∗ K ⟨k0_pay26 v16 (View.ld x1 (Rect.unit (s := S1024x1024) ![0, 256] S1024x128.size inb_S1024x1024_S1024x128_0_256)) x5, k0_pay27 x6⟩))
      ⊢ wp frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16) K := by
  rw [k0_part8_eq_skeleton]; unfold k0_part8_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; refine (read_put _ _ _ _ _).trans ?_
    simp only [View.readAt_full, View.readAt_eq_ld, read_put, View.writes_nil]
    try simp (disch := decide) only [View.ld_unit_lit]
    try rfl
  isplitl [H13]
  · iexists _; isplitr
    swap; · iexact H13
    ipureintro; rfl
  isplitl [H14]
  · iexists _; isplitr
    swap; · iexact H14
    ipureintro; rfl
  · iexists _; isplitr
    swap; · iexact H15
    ipureintro; rfl

set_option maxHeartbeats 4000000 in
theorem part9_run (v12 : IVec S1024x128 32) (v78 : FVec F S1024x128 .f32) (v80 : FVec F S1024x128 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (VecWindow.put (s := S1024x1024) x12 ![0, 256] S1024x128.size (k0_pay28 v12 v78 v80 x15 x7 (View.ld x3 (Rect.unit (s := S1x1024) ![0, 256] S1x128.size inb_S1x1024_S1x128_0_256)))) x13 (k0_pay29 x14 (View.ld (VecWindow.put (s := S1024x1024) x12 ![0, 256] S1024x128.size (k0_pay28 v12 v78 v80 x15 x7 (View.ld x3 (Rect.unit (s := S1x1024) ![0, 256] S1x128.size inb_S1x1024_S1x128_0_256)))) (Rect.unit (s := S1024x1024) ![0, 0] S1024x384.size inb_S1024x1024_S1024x384_0_0)) (View.ld x2 (Rect.unit (s := S1024x2560) ![0, 0] S384x2560.size inb_S1024x2560_S384x2560_0_0))) x15 -∗ K ⟨k0_pay30 x9, k0_pay31 x9⟩))
      ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v78 v80) K := by
  rw [k0_part9_eq_skeleton]; unfold k0_part9_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; refine (read_put _ _ _ _ _).trans ?_
    simp only [View.readAt_full, View.readAt_eq_ld, read_put, View.writes_nil]
    try simp (disch := decide) only [View.ld_unit_lit]
    try rfl
  isplitl [H13]
  · iexists _; isplitr
    swap; · iexact H13
    ipureintro; rfl
  isplitl [H14]
  · iexists _; isplitr
    swap; · iexact H14
    ipureintro; refine (View.read_writes_full _ _ _ _ _).trans ?_
    refine congrArg (fun z : Vec F S1024x1024 .fp8e5m2 => k0_pay29 _ (View.ld z (Rect.unit (s := S1024x1024) ![0, 0] S1024x384.size inb_S1024x1024_S1024x384_0_0)) _) ((read_put _ _ _ _ _).trans ?_)
    simp only [View.readAt_full, View.readAt_eq_ld, read_put, View.writes_nil]
    try simp (disch := decide) only [View.ld_unit_lit]
    try rfl
  · iexists _; isplitr
    swap; · iexact H15
    ipureintro; rfl

set_option maxHeartbeats 4000000 in
theorem part10_run (v111 : FVec F S1x1024 .f32) (v115 : FVec F S128x128 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 -∗ K ⟨k0_pay32 v111 v115, k0_pay33 (View.ld x10 (Rect.unit (s := S1024x2560) ![0, 0] S64x2560.size inb_S1024x2560_S64x2560_0_0)), k0_pay34 (View.ld x10 (Rect.unit (s := S1024x2560) ![0, 0] S64x2560.size inb_S1024x2560_S64x2560_0_0)), k0_pay35 v111 v115 (View.ld x14 (Rect.unit (s := S1024x2560) ![0, 0] S64x2560.size inb_S1024x2560_S64x2560_0_0)) x11, k0_pay36 v111 v115 (View.ld x10 (Rect.unit (s := S1024x2560) ![0, 0] S64x2560.size inb_S1024x2560_S64x2560_0_0)) (View.ld x14 (Rect.unit (s := S1024x2560) ![0, 0] S64x2560.size inb_S1024x2560_S64x2560_0_0)) x11⟩))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 v111 v115) K := by
  rw [k0_part10_eq_skeleton]; unfold k0_part10_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; rfl
  isplitl [H14]
  · iexists _; isplitr
    swap; · iexact H14
    ipureintro; rfl
  · iexists _; isplitr
    swap; · iexact H15
    ipureintro; rfl

set_option maxHeartbeats 4000000 in
theorem part11_run (v144 : FVec F S1024x128 .f32) (v146 : FVec F S64x2560 .f32) (v156 : FVec F S64x1 .f32) (v164 : FVec F S64x2560 .f32) (v165 : FVec F S64x2560 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![0, 0] S64x2560.size (k0_pay37 v146 v156 v164 v165)) x14 x15 -∗ K ⟨k0_pay38 (View.ld x10 (Rect.unit (s := S1024x2560) ![64, 0] S64x2560.size inb_S1024x2560_S64x2560_64_0)), k0_pay39 (View.ld x10 (Rect.unit (s := S1024x2560) ![64, 0] S64x2560.size inb_S1024x2560_S64x2560_64_0)), k0_pay41 v144 (View.ld x10 (Rect.unit (s := S1024x2560) ![64, 0] S64x2560.size inb_S1024x2560_S64x2560_64_0)) (View.ld x14 (Rect.unit (s := S1024x2560) ![64, 0] S64x2560.size inb_S1024x2560_S64x2560_64_0)) x11, k0_pay42 v144 (View.ld x10 (Rect.unit (s := S1024x2560) ![64, 0] S64x2560.size inb_S1024x2560_S64x2560_64_0)) (View.ld x14 (Rect.unit (s := S1024x2560) ![64, 0] S64x2560.size inb_S1024x2560_S64x2560_64_0)) x11, k0_pay43 (View.ld x10 (Rect.unit (s := S1024x2560) ![64, 0] S64x2560.size inb_S1024x2560_S64x2560_64_0))⟩))
      ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v146 v156 v164 v165) K := by
  rw [k0_part11_eq_skeleton]; unfold k0_part11_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part12_run (v144 : FVec F S1024x128 .f32) (v182 : FVec F S64x2560 .f32) (v192 : FVec F S64x1 .f32) (v205 : FVec F S64x1 .f32) (v207 : FVec F S64x2560 .f32) (v208 : FVec F S64x1 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![64, 0] S64x2560.size (k0_pay44 v182 v192 v205 v207 v208)) x14 x15 -∗ K (k0_pay45 v144 (View.ld x10 (Rect.unit (s := S1024x2560) ![128, 0] S64x2560.size inb_S1024x2560_S64x2560_128_0)) (View.ld x14 (Rect.unit (s := S1024x2560) ![128, 0] S64x2560.size inb_S1024x2560_S64x2560_128_0)) x11)))
      ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v182 v192 v205 v207 v208) K := by
  rw [k0_part12_eq_skeleton]; unfold k0_part12_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part13_run (v144 : FVec F S1024x128 .f32) (v251 : FVec F S64x2560 .bf16) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) (VecWindow.put (s := S1024x2560) x13 ![128, 0] S64x2560.size v251) ![192, 0] S64x2560.size (k0_pay46 v144 (View.ld x10 (Rect.unit (s := S1024x2560) ![192, 0] S64x2560.size inb_S1024x2560_S64x2560_192_0)) (View.ld x14 (Rect.unit (s := S1024x2560) ![192, 0] S64x2560.size inb_S1024x2560_S64x2560_192_0)) x11)) x14 x15 -∗ K ⟨k0_pay47 (View.ld x10 (Rect.unit (s := S1024x2560) ![256, 0] S64x2560.size inb_S1024x2560_S64x2560_256_0)), k0_pay48 (View.ld x10 (Rect.unit (s := S1024x2560) ![256, 0] S64x2560.size inb_S1024x2560_S64x2560_256_0))⟩))
      ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v251) K := by
  rw [k0_part13_eq_skeleton]; unfold k0_part13_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part14_run (v144 : FVec F S1024x128 .f32) (v290 : FVec F S64x2560 .f32) (v292 : FVec F S64 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![256, 0] S64x2560.size (k0_pay49 v144 v290 v292 (View.ld x14 (Rect.unit (s := S1024x2560) ![256, 0] S64x2560.size inb_S1024x2560_S64x2560_256_0)) x11)) x14 x15 -∗ K ⟨k0_pay50 (View.ld x10 (Rect.unit (s := S1024x2560) ![320, 0] S64x2560.size inb_S1024x2560_S64x2560_320_0)), k0_pay51 (View.ld x10 (Rect.unit (s := S1024x2560) ![320, 0] S64x2560.size inb_S1024x2560_S64x2560_320_0)), (Scalar.ofBits .f32 0x3F800000#32)⟩))
      ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v290 v292) K := by
  rw [k0_part14_eq_skeleton]; unfold k0_part14_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  simp only [show part14_run.sl.cst_138 = (Scalar.ofBits .f32 0x3F800000#32 : F .f32) from rfl]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part15_run (v144 : FVec F S1024x128 .f32) (v326 : FVec F S64x2560 .f32) (v334 : FVec F S64x1 .f32) (cst_138 : F .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![320, 0] S64x2560.size (k0_pay52 v144 v326 v334 cst_138 (View.ld x14 (Rect.unit (s := S1024x2560) ![320, 0] S64x2560.size inb_S1024x2560_S64x2560_320_0)) x11)) x14 x15 -∗ K ⟨k0_pay53 (View.ld x10 (Rect.unit (s := S1024x2560) ![384, 0] S64x2560.size inb_S1024x2560_S64x2560_384_0)), k0_pay54 (View.ld x10 (Rect.unit (s := S1024x2560) ![384, 0] S64x2560.size inb_S1024x2560_S64x2560_384_0)), k0_pay55 v144 (View.ld x14 (Rect.unit (s := S1024x2560) ![384, 0] S64x2560.size inb_S1024x2560_S64x2560_384_0))⟩))
      ⊢ wp frame (wpE (defs₀ (F := F)) Variants.none c none) E (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v326 v334 cst_138) K := by
  rw [k0_part15_eq_skeleton]; unfold k0_part15_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part16_run (v144 : FVec F S1024x128 .f32) (v362 : FVec F S64x2560 .f32) (v372 : FVec F S64x1 .f32) (v376 : FVec F S64x2560 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![384, 0] S64x2560.size (k0_pay56 v362 v372 v376 x11)) x14 x15 -∗ K ⟨k0_pay57 (View.ld x10 (Rect.unit (s := S1024x2560) ![448, 0] S64x2560.size inb_S1024x2560_S64x2560_448_0)), k0_pay58 (View.ld x10 (Rect.unit (s := S1024x2560) ![448, 0] S64x2560.size inb_S1024x2560_S64x2560_448_0)), k0_pay59 v144 (View.ld x14 (Rect.unit (s := S1024x2560) ![448, 0] S64x2560.size inb_S1024x2560_S64x2560_448_0)) x11, k0_pay60 v144 (View.ld x10 (Rect.unit (s := S1024x2560) ![448, 0] S64x2560.size inb_S1024x2560_S64x2560_448_0)) (View.ld x14 (Rect.unit (s := S1024x2560) ![448, 0] S64x2560.size inb_S1024x2560_S64x2560_448_0)) x11⟩))
      ⊢ wp frame (wpE (defs₀ (F := F)) Variants.none c none) E (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v362 v372 v376) K := by
  rw [k0_part16_eq_skeleton]; unfold k0_part16_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part17_run (v144 : FVec F S1024x128 .f32) (v398 : FVec F S64x2560 .f32) (v408 : FVec F S64x1 .f32) (v416 : FVec F S64x2560 .f32) (v419 : FVec F S64x1 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![448, 0] S64x2560.size (k0_pay61 v398 v408 v416 v419)) x14 x15 -∗ K ⟨k0_pay65 v144 (View.ld x10 (Rect.unit (s := S1024x2560) ![512, 0] S64x2560.size inb_S1024x2560_S64x2560_512_0)) (View.ld x14 (Rect.unit (s := S1024x2560) ![512, 0] S64x2560.size inb_S1024x2560_S64x2560_512_0)) x11, k0_pay66 v144 (View.ld x10 (Rect.unit (s := S1024x2560) ![512, 0] S64x2560.size inb_S1024x2560_S64x2560_512_0)) (View.ld x14 (Rect.unit (s := S1024x2560) ![512, 0] S64x2560.size inb_S1024x2560_S64x2560_512_0)) x11, k0_pay67 (View.ld x10 (Rect.unit (s := S1024x2560) ![512, 0] S64x2560.size inb_S1024x2560_S64x2560_512_0))⟩))
      ⊢ wp frame (wpE (defs₀ (F := F)) Variants.none c none) E (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v398 v408 v416 v419) K := by
  rw [k0_part17_eq_skeleton]; unfold k0_part17_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part18_run (v144 : FVec F S1024x128 .f32) (v457 : FVec F S64x1 .f32) (v459 : FVec F S64x2560 .f32) (v463 : FVec F S64x2560 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) (VecWindow.put (s := S1024x2560) x13 ![512, 0] S64x2560.size (k0_pay68 v457 v459 v463)) ![576, 0] S64x2560.size (k0_pay69 v144 (View.ld x10 (Rect.unit (s := S1024x2560) ![576, 0] S64x2560.size inb_S1024x2560_S64x2560_576_0)) (View.ld x14 (Rect.unit (s := S1024x2560) ![576, 0] S64x2560.size inb_S1024x2560_S64x2560_576_0)) x11)) x14 x15 -∗ K ⟨⟩))
      ⊢ wp frame (wpE (defs₀ (F := F)) Variants.none c none) E (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v457 v459 v463) K := by
  rw [k0_part18_eq_skeleton]; unfold k0_part18_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part19_run (v144 : FVec F S1024x128 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![640, 0] S64x2560.size (k0_pay70 v144 (View.ld x10 (Rect.unit (s := S1024x2560) ![640, 0] S64x2560.size inb_S1024x2560_S64x2560_640_0)) (View.ld x14 (Rect.unit (s := S1024x2560) ![640, 0] S64x2560.size inb_S1024x2560_S64x2560_640_0)) x11)) x14 x15 -∗ K ⟨k0_pay71 (View.ld x10 (Rect.unit (s := S1024x2560) ![704, 0] S64x2560.size inb_S1024x2560_S64x2560_704_0)), k0_pay72 (View.ld x10 (Rect.unit (s := S1024x2560) ![704, 0] S64x2560.size inb_S1024x2560_S64x2560_704_0)), k0_pay73 (F := F)⟩))
      ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 v144) K := by
  rw [k0_part19_eq_skeleton]; unfold k0_part19_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part20_run (v144 : FVec F S1024x128 .f32) (v542 : FVec F S64x2560 .f32) (v545 : FVec F S64x1 .f32) (v546 : FVec F S64x1 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![704, 0] S64x2560.size (k0_pay74 v144 v542 v545 v546 (View.ld x14 (Rect.unit (s := S1024x2560) ![704, 0] S64x2560.size inb_S1024x2560_S64x2560_704_0)) x11)) x14 x15 -∗ K ⟨k0_pay75 (View.ld x10 (Rect.unit (s := S1024x2560) ![768, 0] S64x2560.size inb_S1024x2560_S64x2560_768_0)), k0_pay76 (View.ld x10 (Rect.unit (s := S1024x2560) ![768, 0] S64x2560.size inb_S1024x2560_S64x2560_768_0))⟩))
      ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v542 v545 v546) K := by
  rw [k0_part20_eq_skeleton]; unfold k0_part20_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part21_run (v144 : FVec F S1024x128 .f32) (v578 : FVec F S64x2560 .f32) (v588 : FVec F S64x1 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![768, 0] S64x2560.size (k0_pay77 v144 v578 v588 (View.ld x14 (Rect.unit (s := S1024x2560) ![768, 0] S64x2560.size inb_S1024x2560_S64x2560_768_0)) x11)) x14 x15 -∗ K ⟨k0_pay78 (View.ld x10 (Rect.unit (s := S1024x2560) ![832, 0] S64x2560.size inb_S1024x2560_S64x2560_832_0)), k0_pay79 (View.ld x10 (Rect.unit (s := S1024x2560) ![832, 0] S64x2560.size inb_S1024x2560_S64x2560_832_0)), k0_pay80 v144 (View.ld x14 (Rect.unit (s := S1024x2560) ![832, 0] S64x2560.size inb_S1024x2560_S64x2560_832_0)), k0_pay81 x11⟩))
      ⊢ wp frame (wpE (defs₀ (F := F)) Variants.none c none) E (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v578 v588) K := by
  rw [k0_part21_eq_skeleton]; unfold k0_part21_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part22_run (v144 : FVec F S1024x128 .f32) (v614 : FVec F S64x2560 .f32) (v624 : FVec F S64x1 .f32) (v628 : FVec F S64x2560 .f32) (v630 : FVec F S1x2560 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![832, 0] S64x2560.size (k0_pay82 v614 v624 v628 v630)) x14 x15 -∗ K ⟨k0_pay83 (View.ld x10 (Rect.unit (s := S1024x2560) ![896, 0] S64x2560.size inb_S1024x2560_S64x2560_896_0)), k0_pay84 (View.ld x10 (Rect.unit (s := S1024x2560) ![896, 0] S64x2560.size inb_S1024x2560_S64x2560_896_0)), k0_pay85 v144 (View.ld x14 (Rect.unit (s := S1024x2560) ![896, 0] S64x2560.size inb_S1024x2560_S64x2560_896_0)) x11, k0_pay86 v144 (View.ld x10 (Rect.unit (s := S1024x2560) ![896, 0] S64x2560.size inb_S1024x2560_S64x2560_896_0)) (View.ld x14 (Rect.unit (s := S1024x2560) ![896, 0] S64x2560.size inb_S1024x2560_S64x2560_896_0)) x11⟩))
      ⊢ wp frame (wpE (defs₀ (F := F)) Variants.none c none) E (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v614 v624 v628 v630) K := by
  rw [k0_part22_eq_skeleton]; unfold k0_part22_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

set_option maxHeartbeats 4000000 in
theorem part23_run (v144 : FVec F S1024x128 .f32) (v650 : FVec F S64x2560 .f32) (v660 : FVec F S64x1 .f32) (v668 : FVec F S64x2560 .f32) (v673 : FVec F S64x1 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![896, 0] S64x2560.size (k0_pay87 v650 v660 v668 v673)) x14 x15 -∗ K (k0_pay88 v144 (View.ld x10 (Rect.unit (s := S1024x2560) ![960, 0] S64x2560.size inb_S1024x2560_S64x2560_960_0)) (View.ld x14 (Rect.unit (s := S1024x2560) ![960, 0] S64x2560.size inb_S1024x2560_S64x2560_960_0)) x11)))
      ⊢ wp frame (wpE (defs₀ (F := F)) Variants.none c none) E (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v650 v660 v668 v673) K := by
  rw [k0_part23_eq_skeleton]; unfold k0_part23_skel
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  simp only [View.readAt_full, View.readAt_eq_ld, View.read_writes_full, read_put, View.writes_nil]
  simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

/-- The last stretch of `midP`. -/
noncomputable def tail (i : grid0.Coords) (arg1 : Memref sig .tc .vmem S1024x1024 .f32) (harg1 : arg1.IsWhole) (arg2 : Memref sig .tc .vmem S1024x2560 .fp8e4m3) (harg2 : arg2.IsWhole) (arg3 : Memref sig .tc .vmem S1x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024 .i32) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x2560 .f32) (harg11 : arg11.IsWhole) (arg12 : Memref sig .tc .vmem S1024x1024 .fp8e5m2) (harg12 : arg12.IsWhole) (arg13 : Memref sig .tc .vmem S1024x2560 .bf16) (harg13 : arg13.IsWhole) (arg14 : Memref sig .tc .vmem S1024x2560 .f32) (harg14 : arg14.IsWhole) (arg15 : Memref sig .tc .vmem S1024x128 .i32) (harg15 : arg15.IsWhole) (c896_i32 : BitVec 32) (v12 : IVec S1024x128 32) (v221 : FVec F S1024x128 .f32) (v222 : Vec F S1024x128 .i32) : Prog (TpuEff nD τ sig (Elt F) Λ₀ .tc) PUnit := do
  let v226 : Vec F S1024x128 .f32 ← Prog.lift (.load arg7 (Rect.unit (s := S1024x128) ![0, 0] S1024x128.size inb_S1024x128_S1024x128_0_0).toLoadRect (View.loadsAt_vmem h_S1024x128))
  let v231 : Vec F S1x128 .f32 ← Prog.lift (.load arg3 (Rect.unit (s := S1x1024) ![0, 896] S1x128.size inb_S1x1024_S1x128_0_896).toLoadRect (View.loadsAt_vmem h_S1x128))
  let v240 : Vec F S1024x128 .fp8e5m2 ← Prog.lift (.load arg12 (Rect.unit (s := S1024x1024) ![0, 896] S1024x128.size inb_S1024x1024_S1024x128_0_896).toLoadRect (View.loadsAt_vmem h_S1024x128))
  Prog.lift (.store arg12 (Rect.unit (s := S1024x1024) ![0, 896] S1024x128.size inb_S1024x1024_S1024x128_0_896) (k0_pay3 v12 v221 v222 c896_i32 v226 v231) Finset.univ (View.stores_vmem h_S1024x128 (harg12.storeExact_slice rfl _ packedfp8e5m2_S1024x1024_S1024x128_0_896) (fun _ => rfl)) (.inl rfl))
  let v241 : Vec F S1024x2560 .f32 ← Prog.lift (.load arg14 (Rect.unit (s := S1024x2560) ![0, 0] S1024x2560.size inb_S1024x2560_S1024x2560_0_0).toLoadRect (View.loadsAt_vmem h_S1024x2560))
  let v242 : Vec F S1024x1024 .fp8e5m2 ← Prog.lift (.load arg12 (Rect.unit (s := S1024x1024) ![0, 0] S1024x1024.size inb_S1024x1024_S1024x1024_0_0).toLoadRect (View.loadsAt_vmem h_S1024x1024))
  let v244 : Vec F S1024x2560 .fp8e4m3 ← Prog.lift (.load arg2 (Rect.unit (s := S1024x2560) ![0, 0] S1024x2560.size inb_S1024x2560_S1024x2560_0_0).toLoadRect (View.loadsAt_vmem h_S1024x2560))
  let v247 : Vec F S1024x2560 .f32 ← Prog.lift (.load arg14 (Rect.unit (s := S1024x2560) ![0, 0] S1024x2560.size inb_S1024x2560_S1024x2560_0_0).toLoadRect (View.loadsAt_vmem h_S1024x2560))
  Prog.lift (.store arg14 (Rect.unit (s := S1024x2560) ![0, 0] S1024x2560.size inb_S1024x2560_S1024x2560_0_0) (k0_pay4 v241 v242 v244) Finset.univ (View.stores_vmem_bits_univ h_S1024x2560 rfl) (.inl rfl))
  pure ⟨⟩

set_option maxHeartbeats 4000000 in
theorem tail_run (c896_i32 : BitVec 32) (v12 : IVec S1024x128 32) (v221 : FVec F S1024x128 .f32) (v222 : Vec F S1024x128 .i32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (VecWindow.put (s := S1024x1024) x12 ![0, 896] S1024x128.size (k0_pay3 v12 v221 v222 c896_i32 x7 (View.ld x3 (Rect.unit (s := S1x1024) ![0, 896] S1x128.size inb_S1x1024_S1x128_0_896)))) x13 (k0_pay4 x14 (VecWindow.put (s := S1024x1024) x12 ![0, 896] S1024x128.size (k0_pay3 v12 v221 v222 c896_i32 x7 (View.ld x3 (Rect.unit (s := S1x1024) ![0, 896] S1x128.size inb_S1x1024_S1x128_0_896)))) x2) x15 -∗ K ⟨⟩))
      ⊢ wp frame (wpE (defs₀ (F := F)) Variants.none c none) E (tail i arg1 harg1 arg2 harg2 arg3 harg3 arg4 harg4 arg5 harg5 arg6 harg6 arg7 harg7 arg8 harg8 arg9 harg9 arg10 harg10 arg11 harg11 arg12 harg12 arg13 harg13 arg14 harg14 arg15 harg15 c896_i32 v12 v221 v222) K := by
  unfold tail
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  try simp only [View.readAt_full, View.readAt_eq_ld, View.read_writes_full, read_put, View.writes_nil]
  try simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; refine (read_put _ _ _ _ _).trans ?_
    try simp only [View.readAt_full, View.readAt_eq_ld, read_put, View.writes_nil]
    try simp (disch := decide) only [View.ld_unit_lit]
    try rfl
  isplitl [H13]
  · iexists _; isplitr
    swap; · iexact H13
    ipureintro; rfl
  isplitl [H14]
  · iexists _; isplitr
    swap; · iexact H14
    ipureintro; refine (View.read_writes_full _ _ _ _ _).trans ?_
    refine congrArg (fun z : Vec F S1024x1024 .fp8e5m2 => k0_pay4 _ z _) ((read_put _ _ _ _ _).trans ?_)
    try simp only [View.readAt_full, View.readAt_eq_ld, read_put, View.writes_nil]
    try simp (disch := decide) only [View.ld_unit_lit]
    try rfl
  · iexists _; isplitr
    swap; · iexact H15
    ipureintro; rfl

/-- The last stretch of `lastP`. -/
noncomputable def lastTail (i : grid0.Coords) (arg1 : Memref sig .tc .vmem S1024x1024 .f32) (harg1 : arg1.IsWhole) (arg2 : Memref sig .tc .vmem S1024x2560 .fp8e4m3) (harg2 : arg2.IsWhole) (arg3 : Memref sig .tc .vmem S1x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024 .i32) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x2560 .f32) (harg11 : arg11.IsWhole) (arg12 : Memref sig .tc .vmem S1024x1024 .fp8e5m2) (harg12 : arg12.IsWhole) (arg13 : Memref sig .tc .vmem S1024x2560 .bf16) (harg13 : arg13.IsWhole) (arg14 : Memref sig .tc .vmem S1024x2560 .f32) (harg14 : arg14.IsWhole) (arg15 : Memref sig .tc .vmem S1024x128 .i32) (harg15 : arg15.IsWhole) (v718 : FVec F S64x2560 .f32) : Prog (TpuEff nD τ sig (Elt F) Λ₀ .tc) PUnit := do
  let v720 : Vec F S64x2560 .bf16 ← Prog.lift (.load arg13 (Rect.unit (s := S1024x2560) ![960, 0] S64x2560.size inb_S1024x2560_S64x2560_960_0).toLoadRect (View.loadsAt_vmem h_S64x2560))
  Prog.lift (.store arg13 (Rect.unit (s := S1024x2560) ![960, 0] S64x2560.size inb_S1024x2560_S64x2560_960_0) (k0_pay5 v718) Finset.univ (View.stores_vmem h_S64x2560 (harg13.storeExact_slice rfl _ packedbf16_S1024x2560_S64x2560_960_0) (fun _ => rfl)) (.inl rfl))
  pure ⟨⟩

set_option maxHeartbeats 4000000 in
theorem lastTail_run (v718 : FVec F S64x2560 .f32) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 (VecWindow.put (s := S1024x2560) x13 ![960, 0] S64x2560.size (k0_pay5 v718)) x14 x15 -∗ K ⟨⟩))
      ⊢ wp frame (wpE (defs₀ (F := F)) Variants.none c none) E (lastTail i arg1 harg1 arg2 harg2 arg3 harg3 arg4 harg4 arg5 harg5 arg6 harg6 arg7 harg7 arg8 harg8 arg9 harg9 arg10 harg10 arg11 harg11 arg12 harg12 arg13 harg13 arg14 harg14 arg15 harg15 v718) K := by
  unfold lastTail
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  try simp only [View.readAt_full, View.readAt_eq_ld, View.read_writes_full, read_put, View.writes_nil]
  try simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; refine (read_put _ _ _ _ _).trans ?_
    try simp only [View.readAt_full, View.readAt_eq_ld, read_put, View.writes_nil]
    try simp (disch := decide) only [View.ld_unit_lit]
    try rfl
  isplitl [H14]
  · iexists _; isplitr
    swap; · iexact H14
    ipureintro; rfl
  · iexists _; isplitr
    swap; · iexact H15
    ipureintro; rfl

/-- What the body does at the first point: the labels spread over the lanes, the accumulator zeroed. -/
noncomputable def initP (i : grid0.Coords) (arg1 : Memref sig .tc .vmem S1024x1024 .f32) (harg1 : arg1.IsWhole) (arg2 : Memref sig .tc .vmem S1024x2560 .fp8e4m3) (harg2 : arg2.IsWhole) (arg3 : Memref sig .tc .vmem S1x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024 .i32) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x2560 .f32) (harg11 : arg11.IsWhole) (arg12 : Memref sig .tc .vmem S1024x1024 .fp8e5m2) (harg12 : arg12.IsWhole) (arg13 : Memref sig .tc .vmem S1024x2560 .bf16) (harg13 : arg13.IsWhole) (arg14 : Memref sig .tc .vmem S1024x2560 .f32) (harg14 : arg14.IsWhole) (arg15 : Memref sig .tc .vmem S1024x128 .i32) (harg15 : arg15.IsWhole) : Prog (TpuEff nD τ sig (Elt F) Λ₀ .tc) PUnit := do
  let v9 : Vec F S1x1024 .i32 ← Prog.lift (.load arg8 (Rect.unit (s := S1x1024) ![0, 0] S1x1024.size inb_S1x1024_S1x1024_0_0).toLoadRect (View.loadsAt_vmem h_S1x1024))
  let v44 : Vec F S1024x128 .i32 ← Prog.lift (.load arg15 (Rect.unit (s := S1024x128) ![0, 0] S1024x128.size inb_S1024x128_S1024x128_0_0).toLoadRect (View.loadsAt_vmem h_S1024x128))
  Prog.lift (.store arg15 (Rect.unit (s := S1024x128) ![0, 0] S1024x128.size inb_S1024x128_S1024x128_0_0) (k0_pay1 v9) Finset.univ (View.stores_vmem_bits_univ h_S1024x128 rfl) (.inl rfl))
  let v48 : Vec F S1024x2560 .f32 ← Prog.lift (.load arg14 (Rect.unit (s := S1024x2560) ![0, 0] S1024x2560.size inb_S1024x2560_S1024x2560_0_0).toLoadRect (View.loadsAt_vmem h_S1024x2560))
  Prog.lift (.store arg14 (Rect.unit (s := S1024x2560) ![0, 0] S1024x2560.size inb_S1024x2560_S1024x2560_0_0) (k0_pay2 (F := F)) Finset.univ (View.stores_vmem_bits_univ h_S1024x2560 rfl) (.inl rfl))
  pure ⟨⟩

set_option maxHeartbeats 4000000 in
theorem init_run  (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 (k0_pay2 (F := F)) (k0_pay1 x8) -∗ K ⟨⟩))
      ⊢ wp frame (wpE (defs₀ (F := F)) Variants.none c none) E (initP i arg1 harg1 arg2 harg2 arg3 harg3 arg4 harg4 arg5 harg5 arg6 harg6 arg7 harg7 arg8 harg8 arg9 harg9 arg10 harg10 arg11 harg11 arg12 harg12 arg13 harg13 arg14 harg14 arg15 harg15 ) K := by
  unfold initP
  unfold St owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  sl_step
  try simp only [View.readAt_full, View.readAt_eq_ld, View.read_writes_full, read_put, View.writes_nil]
  try simp (disch := decide) only [View.ld_unit_lit]
  iapply Hk
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; rfl
  isplitl [H14]
  · iexists _; isplitr
    swap; · iexact H14
    ipureintro; exact View.read_writes_full _ _ _ _ _
  · iexists _; isplitr
    swap; · iexact H15
    ipureintro; exact View.read_writes_full _ _ _ _ _

/-- What the body does on a whole block. -/
noncomputable def midP (i : grid0.Coords) (arg1 : Memref sig .tc .vmem S1024x1024 .f32) (harg1 : arg1.IsWhole) (arg2 : Memref sig .tc .vmem S1024x2560 .fp8e4m3) (harg2 : arg2.IsWhole) (arg3 : Memref sig .tc .vmem S1x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024 .i32) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x2560 .f32) (harg11 : arg11.IsWhole) (arg12 : Memref sig .tc .vmem S1024x1024 .fp8e5m2) (harg12 : arg12.IsWhole) (arg13 : Memref sig .tc .vmem S1024x2560 .bf16) (harg13 : arg13.IsWhole) (arg14 : Memref sig .tc .vmem S1024x2560 .f32) (harg14 : arg14.IsWhole) (arg15 : Memref sig .tc .vmem S1024x128 .i32) (harg15 : arg15.IsWhole) : Prog (TpuEff nD τ sig (Elt F) Λ₀ .tc) PUnit := do
  let arg0 : BitVec 32 := BitVec.ofNat 32 (i 0).val
  let ⟨v12, v16⟩ : Σ' (v12 : IVec S1024x128 32), FVec F S1024x128 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0
  let ⟨v78, v80⟩ : Σ' (v78 : FVec F S1024x128 .f32), FVec F S1024x128 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16
  let ⟨v109, v113, v115, cst_64⟩ : Σ' (v109 : FVec F S1024x128 .f32) (v113 : IVec S1024x128 1) (v115 : FVec F S1024x128 .f32), F .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16 v78 v80
  let ⟨cst_84, v152⟩ : Σ' (cst_84 : F .f32), FVec F S1024x128 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16 v109 v113 v115 cst_64
  let ⟨v185, v186⟩ : Σ' (v185 : Vec F S1024x128 .f32), Vec F S1024x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16 cst_84 v152
  let ⟨v221, v222, c896_i32⟩ : Σ' (v221 : FVec F S1024x128 .f32) (v222 : Vec F S1024x128 .i32), BitVec 32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16 v185 v186
  tail i arg1 harg1 arg2 harg2 arg3 harg3 arg4 harg4 arg5 harg5 arg6 harg6 arg7 harg7 arg8 harg8 arg9 harg9 arg10 harg10 arg11 harg11 arg12 harg12 arg13 harg13 arg14 harg14 arg15 harg15 c896_i32 v12 v221 v222

/-- What the body does on the last block. -/
noncomputable def lastP (i : grid0.Coords) (arg1 : Memref sig .tc .vmem S1024x1024 .f32) (harg1 : arg1.IsWhole) (arg2 : Memref sig .tc .vmem S1024x2560 .fp8e4m3) (harg2 : arg2.IsWhole) (arg3 : Memref sig .tc .vmem S1x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024 .i32) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x2560 .f32) (harg11 : arg11.IsWhole) (arg12 : Memref sig .tc .vmem S1024x1024 .fp8e5m2) (harg12 : arg12.IsWhole) (arg13 : Memref sig .tc .vmem S1024x2560 .bf16) (harg13 : arg13.IsWhole) (arg14 : Memref sig .tc .vmem S1024x2560 .f32) (harg14 : arg14.IsWhole) (arg15 : Memref sig .tc .vmem S1024x128 .i32) (harg15 : arg15.IsWhole) : Prog (TpuEff nD τ sig (Elt F) Λ₀ .tc) PUnit := do
  let arg0 : BitVec 32 := BitVec.ofNat 32 (i 0).val
  let ⟨v12, v16⟩ : Σ' (v12 : IVec S1024x128 32), FVec F S1024x128 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg0
  let ⟨v78, v80⟩ : Σ' (v78 : FVec F S1024x128 .f32), FVec F S1024x128 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v16
  let ⟨v111, v115⟩ : Σ' (v111 : FVec F S1x1024 .f32), FVec F S128x128 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 v12 v78 v80
  let ⟨v144, v146, v156, v164, v165⟩ : Σ' (v144 : FVec F S1024x128 .f32) (v146 : FVec F S64x2560 .f32) (v156 : FVec F S64x1 .f32) (v164 : FVec F S64x2560 .f32), FVec F S64x2560 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 v111 v115
  let ⟨v182, v192, v205, v207, v208⟩ : Σ' (v182 : FVec F S64x2560 .f32) (v192 : FVec F S64x1 .f32) (v205 : FVec F S64x1 .f32) (v207 : FVec F S64x2560 .f32), FVec F S64x1 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v146 v156 v164 v165
  let v251 : FVec F S64x2560 .bf16 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v182 v192 v205 v207 v208
  let ⟨v290, v292⟩ : Σ' (v290 : FVec F S64x2560 .f32), FVec F S64 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v251
  let ⟨v326, v334, cst_138⟩ : Σ' (v326 : FVec F S64x2560 .f32) (v334 : FVec F S64x1 .f32), F .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v290 v292
  let ⟨v362, v372, v376⟩ : Σ' (v362 : FVec F S64x2560 .f32) (v372 : FVec F S64x1 .f32), FVec F S64x2560 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v326 v334 cst_138
  let ⟨v398, v408, v416, v419⟩ : Σ' (v398 : FVec F S64x2560 .f32) (v408 : FVec F S64x1 .f32) (v416 : FVec F S64x2560 .f32), FVec F S64x1 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v362 v372 v376
  let ⟨v457, v459, v463⟩ : Σ' (v457 : FVec F S64x1 .f32) (v459 : FVec F S64x2560 .f32), FVec F S64x2560 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v398 v408 v416 v419
  k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v457 v459 v463
  let ⟨v542, v545, v546⟩ : Σ' (v542 : FVec F S64x2560 .f32) (v545 : FVec F S64x1 .f32), FVec F S64x1 .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 v144
  let ⟨v578, v588⟩ : Σ' (v578 : FVec F S64x2560 .f32), FVec F S64x1 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v542 v545 v546
  let ⟨v614, v624, v628, v630⟩ : Σ' (v614 : FVec F S64x2560 .f32) (v624 : FVec F S64x1 .f32) (v628 : FVec F S64x2560 .f32), FVec F S1x2560 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v578 v588
  let ⟨v650, v660, v668, v673⟩ : Σ' (v650 : FVec F S64x2560 .f32) (v660 : FVec F S64x1 .f32) (v668 : FVec F S64x2560 .f32), FVec F S64x1 .f32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v614 v624 v628 v630
  let v718 : FVec F S64x2560 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 v144 v650 v660 v668 v673
  lastTail i arg1 harg1 arg2 harg2 arg3 harg3 arg4 harg4 arg5 harg5 arg6 harg6 arg7 harg7 arg8 harg8 arg9 harg9 arg10 harg10 arg11 harg11 arg12 harg12 arg13 harg13 arg14 harg14 arg15 harg15 v718

theorem skel_split (i : grid0.Coords) (arg1 : Memref sig .tc .vmem S1024x1024 .f32) (harg1 : arg1.IsWhole) (arg2 : Memref sig .tc .vmem S1024x2560 .fp8e4m3) (harg2 : arg2.IsWhole) (arg3 : Memref sig .tc .vmem S1x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024 .i32) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x2560 .f32) (harg11 : arg11.IsWhole) (arg12 : Memref sig .tc .vmem S1024x1024 .fp8e5m2) (harg12 : arg12.IsWhole) (arg13 : Memref sig .tc .vmem S1024x2560 .bf16) (harg13 : arg13.IsWhole) (arg14 : Memref sig .tc .vmem S1024x2560 .f32) (harg14 : arg14.IsWhole) (arg15 : Memref sig .tc .vmem S1024x128 .i32) (harg15 : arg15.IsWhole) :
    cc0_grad_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = (do
      if Scalar.cmpi .ne (Scalar.extui (Scalar.cmpi .eq (BitVec.ofNat 32 (i 0).val) 0#32) : BitVec 32) 0#32 = 1#1 then initP i arg1 harg1 arg2 harg2 arg3 harg3 arg4 harg4 arg5 harg5 arg6 harg6 arg7 harg7 arg8 harg8 arg9 harg9 arg10 harg10 arg11 harg11 arg12 harg12 arg13 harg13 arg14 harg14 arg15 harg15 else pure ⟨⟩
      if k0_cond2 i = 1#1 then midP i arg1 harg1 arg2 harg2 arg3 harg3 arg4 harg4 arg5 harg5 arg6 harg6 arg7 harg7 arg8 harg8 arg9 harg9 arg10 harg10 arg11 harg11 arg12 harg12 arg13 harg13 arg14 harg14 arg15 harg15 else pure ⟨⟩
      if k0_cond3 i = 1#1 then lastP i arg1 harg1 arg2 harg2 arg3 harg3 arg4 harg4 arg5 harg5 arg6 harg6 arg7 harg7 arg8 harg8 arg9 harg9 arg10 harg10 arg11 harg11 arg12 harg12 arg13 harg13 arg14 harg14 arg15 harg15 else pure ⟨⟩
      pure ⟨⟩) := rfl

/-- The codes window after a whole block: eight column strips stored. -/
def gMid (arg0 : BitVec 32) (x1 : Vec F S1024x1024 .f32) (x3 : Vec F S1x1024 .f32) (x4 : Vec F S1024x128 .f32) (x5 : Vec F S1024x128 .f32) (x6 : Vec F S1024x128 .f32) (x7 : Vec F S1024x128 .f32) (x12 : Vec F S1024x1024 .fp8e5m2) (x15 : Vec F S1024x128 .i32) : Vec F S1024x1024 .fp8e5m2 :=
  (VecWindow.put (s := S1024x1024) (VecWindow.put (s := S1024x1024) (VecWindow.put (s := S1024x1024) (VecWindow.put (s := S1024x1024) (VecWindow.put (s := S1024x1024) (VecWindow.put (s := S1024x1024) (VecWindow.put (s := S1024x1024) (VecWindow.put (s := S1024x1024) x12 ![0, 0] S1024x128.size (k0_pay8 arg0 x4 (View.ld x1 (Rect.unit (s := S1024x1024) ![0, 0] S1024x128.size inb_S1024x1024_S1024x128_0_0)) x5 x6 x15 x7 (View.ld x3 (Rect.unit (s := S1x1024) ![0, 0] S1x128.size inb_S1x1024_S1x128_0_0)))) ![0, 128] S1024x128.size (k0_pay9 (k0_pay6 arg0) (k0_pay7 x4) (View.ld x1 (Rect.unit (s := S1024x1024) ![0, 128] S1024x128.size inb_S1024x1024_S1024x128_0_128)) x5 x6 x15 x7 (View.ld x3 (Rect.unit (s := S1x1024) ![0, 128] S1x128.size inb_S1x1024_S1x128_0_128)))) ![0, 256] S1024x128.size (k0_pay12 (k0_pay6 arg0) (k0_pay10 (k0_pay7 x4) (View.ld x1 (Rect.unit (s := S1024x1024) ![0, 256] S1024x128.size inb_S1024x1024_S1024x128_0_256)) x5) (k0_pay11 x6) x15 x7 (View.ld x3 (Rect.unit (s := S1x1024) ![0, 256] S1x128.size inb_S1x1024_S1x128_0_256)))) ![0, 384] S1024x128.size (k0_pay16 (k0_pay13 (k0_pay7 x4) (View.ld x1 (Rect.unit (s := S1024x1024) ![0, 384] S1024x128.size inb_S1024x1024_S1024x128_0_384)) x5 x6) (k0_pay14 (k0_pay6 arg0) x15) (k0_pay15 x7) ((Scalar.ofBits .f32 0x00000000#32)) (View.ld x3 (Rect.unit (s := S1x1024) ![0, 384] S1x128.size inb_S1x1024_S1x128_0_384)))) ![0, 512] S1024x128.size (k0_pay18 ((Scalar.ofBits .f32 0x47600000#32)) (k0_pay17 (k0_pay6 arg0) (k0_pay7 x4) (View.ld x1 (Rect.unit (s := S1024x1024) ![0, 512] S1024x128.size inb_S1024x1024_S1024x128_0_512)) x5 x6 x15 x7 (View.ld x3 (Rect.unit (s := S1x1024) ![0, 512] S1x128.size inb_S1x1024_S1x128_0_512))))) ![0, 640] S1024x128.size (k0_pay19 (k0_pay6 arg0) (k0_pay7 x4) (View.ld x1 (Rect.unit (s := S1024x1024) ![0, 640] S1024x128.size inb_S1024x1024_S1024x128_0_640)) x5 x6 x15 x7 (View.ld x3 (Rect.unit (s := S1x1024) ![0, 640] S1x128.size inb_S1x1024_S1x128_0_640)))) ![0, 768] S1024x128.size (k0_pay20 (k0_pay6 arg0) (k0_pay7 x4) ((View.ld x1 (Rect.unit (s := S1024x1024) ![0, 768] S1024x128.size inb_S1024x1024_S1024x128_0_768))) (x5) x6 x15 x7 (View.ld x3 (Rect.unit (s := S1x1024) ![0, 768] S1x128.size inb_S1x1024_S1x128_0_768)))) ![0, 896] S1024x128.size (k0_pay3 (k0_pay6 arg0) (k0_pay21 (k0_pay7 x4) (View.ld x1 (Rect.unit (s := S1024x1024) ![0, 896] S1024x128.size inb_S1024x1024_S1024x128_0_896)) x5 x6) (x15) (896#32) x7 (View.ld x3 (Rect.unit (s := S1x1024) ![0, 896] S1x128.size inb_S1x1024_S1x128_0_896))))

/-- The codes window after the last block: three column strips stored. -/
def gLast (arg0 : BitVec 32) (x1 : Vec F S1024x1024 .f32) (x3 : Vec F S1x1024 .f32) (x4 : Vec F S1024x128 .f32) (x5 : Vec F S1024x128 .f32) (x6 : Vec F S1024x128 .f32) (x7 : Vec F S1024x128 .f32) (x12 : Vec F S1024x1024 .fp8e5m2) (x15 : Vec F S1024x128 .i32) : Vec F S1024x1024 .fp8e5m2 :=
  (VecWindow.put (s := S1024x1024) (VecWindow.put (s := S1024x1024) (VecWindow.put (s := S1024x1024) x12 ![0, 0] S1024x128.size (k0_pay24 arg0 x4 (View.ld x1 (Rect.unit (s := S1024x1024) ![0, 0] S1024x128.size inb_S1024x1024_S1024x128_0_0)) x5 x6 x15 x7 (View.ld x3 (Rect.unit (s := S1x1024) ![0, 0] S1x128.size inb_S1x1024_S1x128_0_0)))) ![0, 128] S1024x128.size (k0_pay25 (k0_pay22 arg0) (k0_pay23 x4) (View.ld x1 (Rect.unit (s := S1024x1024) ![0, 128] S1024x128.size inb_S1024x1024_S1024x128_0_128)) x5 x6 x15 x7 (View.ld x3 (Rect.unit (s := S1x1024) ![0, 128] S1x128.size inb_S1x1024_S1x128_0_128)))) ![0, 256] S1024x128.size (k0_pay28 (k0_pay22 arg0) (k0_pay26 (k0_pay23 x4) (View.ld x1 (Rect.unit (s := S1024x1024) ![0, 256] S1024x128.size inb_S1024x1024_S1024x128_0_256)) x5) (k0_pay27 x6) x15 x7 (View.ld x3 (Rect.unit (s := S1x1024) ![0, 256] S1x128.size inb_S1x1024_S1x128_0_256))))

/-- The gradient window after the sixteen finishing stores, of the finished accumulator. -/
def dhLast (x9 : Vec F S1x1024 .f32) (x10 : Vec F S1024x2560 .bf16) (x11 : Vec F S1x2560 .f32) (x13 : Vec F S1024x2560 .bf16) (x14 : Vec F S1024x2560 .f32) : Vec F S1024x2560 .bf16 :=
  (VecWindow.put (s := S1024x2560) (VecWindow.put (s := S1024x2560) (VecWindow.put (s := S1024x2560) (VecWindow.put (s := S1024x2560) (VecWindow.put (s := S1024x2560) (VecWindow.put (s := S1024x2560) (VecWindow.put (s := S1024x2560) (VecWindow.put (s := S1024x2560) (VecWindow.put (s := S1024x2560) (VecWindow.put (s := S1024x2560) (VecWindow.put (s := S1024x2560) (VecWindow.put (s := S1024x2560) (VecWindow.put (s := S1024x2560) (VecWindow.put (s := S1024x2560) (VecWindow.put (s := S1024x2560) (VecWindow.put (s := S1024x2560) x13 ![0, 0] S64x2560.size (k0_pay37 (k0_pay33 (View.ld x10 (Rect.unit (s := S1024x2560) ![0, 0] S64x2560.size inb_S1024x2560_S64x2560_0_0))) (k0_pay34 (View.ld x10 (Rect.unit (s := S1024x2560) ![0, 0] S64x2560.size inb_S1024x2560_S64x2560_0_0))) (k0_pay35 (k0_pay30 x9) (k0_pay31 x9) (View.ld x14 (Rect.unit (s := S1024x2560) ![0, 0] S64x2560.size inb_S1024x2560_S64x2560_0_0)) x11) (k0_pay36 (k0_pay30 x9) (k0_pay31 x9) (View.ld x10 (Rect.unit (s := S1024x2560) ![0, 0] S64x2560.size inb_S1024x2560_S64x2560_0_0)) (View.ld x14 (Rect.unit (s := S1024x2560) ![0, 0] S64x2560.size inb_S1024x2560_S64x2560_0_0)) x11))) ![64, 0] S64x2560.size (k0_pay44 (k0_pay38 (View.ld x10 (Rect.unit (s := S1024x2560) ![64, 0] S64x2560.size inb_S1024x2560_S64x2560_64_0))) (k0_pay39 (View.ld x10 (Rect.unit (s := S1024x2560) ![64, 0] S64x2560.size inb_S1024x2560_S64x2560_64_0))) (k0_pay41 (k0_pay32 (k0_pay30 x9) (k0_pay31 x9)) (View.ld x10 (Rect.unit (s := S1024x2560) ![64, 0] S64x2560.size inb_S1024x2560_S64x2560_64_0)) (View.ld x14 (Rect.unit (s := S1024x2560) ![64, 0] S64x2560.size inb_S1024x2560_S64x2560_64_0)) x11) (k0_pay42 (k0_pay32 (k0_pay30 x9) (k0_pay31 x9)) (View.ld x10 (Rect.unit (s := S1024x2560) ![64, 0] S64x2560.size inb_S1024x2560_S64x2560_64_0)) (View.ld x14 (Rect.unit (s := S1024x2560) ![64, 0] S64x2560.size inb_S1024x2560_S64x2560_64_0)) x11) (k0_pay43 (View.ld x10 (Rect.unit (s := S1024x2560) ![64, 0] S64x2560.size inb_S1024x2560_S64x2560_64_0))))) ![128, 0] S64x2560.size (k0_pay45 (k0_pay32 (k0_pay30 x9) (k0_pay31 x9)) (View.ld x10 (Rect.unit (s := S1024x2560) ![128, 0] S64x2560.size inb_S1024x2560_S64x2560_128_0)) (View.ld x14 (Rect.unit (s := S1024x2560) ![128, 0] S64x2560.size inb_S1024x2560_S64x2560_128_0)) x11)) ![192, 0] S64x2560.size (k0_pay46 (k0_pay32 (k0_pay30 x9) (k0_pay31 x9)) (View.ld x10 (Rect.unit (s := S1024x2560) ![192, 0] S64x2560.size inb_S1024x2560_S64x2560_192_0)) (View.ld x14 (Rect.unit (s := S1024x2560) ![192, 0] S64x2560.size inb_S1024x2560_S64x2560_192_0)) x11)) ![256, 0] S64x2560.size (k0_pay49 (k0_pay32 (k0_pay30 x9) (k0_pay31 x9)) (k0_pay47 (View.ld x10 (Rect.unit (s := S1024x2560) ![256, 0] S64x2560.size inb_S1024x2560_S64x2560_256_0))) (k0_pay48 (View.ld x10 (Rect.unit (s := S1024x2560) ![256, 0] S64x2560.size inb_S1024x2560_S64x2560_256_0))) (View.ld x14 (Rect.unit (s := S1024x2560) ![256, 0] S64x2560.size inb_S1024x2560_S64x2560_256_0)) x11)) ![320, 0] S64x2560.size (k0_pay52 (k0_pay32 (k0_pay30 x9) (k0_pay31 x9)) (k0_pay50 (View.ld x10 (Rect.unit (s := S1024x2560) ![320, 0] S64x2560.size inb_S1024x2560_S64x2560_320_0))) (k0_pay51 (View.ld x10 (Rect.unit (s := S1024x2560) ![320, 0] S64x2560.size inb_S1024x2560_S64x2560_320_0))) ((Scalar.ofBits .f32 0x3F800000#32)) (View.ld x14 (Rect.unit (s := S1024x2560) ![320, 0] S64x2560.size inb_S1024x2560_S64x2560_320_0)) x11)) ![384, 0] S64x2560.size (k0_pay56 (k0_pay53 (View.ld x10 (Rect.unit (s := S1024x2560) ![384, 0] S64x2560.size inb_S1024x2560_S64x2560_384_0))) (k0_pay54 (View.ld x10 (Rect.unit (s := S1024x2560) ![384, 0] S64x2560.size inb_S1024x2560_S64x2560_384_0))) (k0_pay55 (k0_pay32 (k0_pay30 x9) (k0_pay31 x9)) (View.ld x14 (Rect.unit (s := S1024x2560) ![384, 0] S64x2560.size inb_S1024x2560_S64x2560_384_0))) x11)) ![448, 0] S64x2560.size (k0_pay61 (k0_pay57 (View.ld x10 (Rect.unit (s := S1024x2560) ![448, 0] S64x2560.size inb_S1024x2560_S64x2560_448_0))) (k0_pay58 (View.ld x10 (Rect.unit (s := S1024x2560) ![448, 0] S64x2560.size inb_S1024x2560_S64x2560_448_0))) (k0_pay59 (k0_pay32 (k0_pay30 x9) (k0_pay31 x9)) (View.ld x14 (Rect.unit (s := S1024x2560) ![448, 0] S64x2560.size inb_S1024x2560_S64x2560_448_0)) x11) (k0_pay60 (k0_pay32 (k0_pay30 x9) (k0_pay31 x9)) (View.ld x10 (Rect.unit (s := S1024x2560) ![448, 0] S64x2560.size inb_S1024x2560_S64x2560_448_0)) (View.ld x14 (Rect.unit (s := S1024x2560) ![448, 0] S64x2560.size inb_S1024x2560_S64x2560_448_0)) x11))) ![512, 0] S64x2560.size (k0_pay68 (k0_pay65 (k0_pay32 (k0_pay30 x9) (k0_pay31 x9)) (View.ld x10 (Rect.unit (s := S1024x2560) ![512, 0] S64x2560.size inb_S1024x2560_S64x2560_512_0)) (View.ld x14 (Rect.unit (s := S1024x2560) ![512, 0] S64x2560.size inb_S1024x2560_S64x2560_512_0)) x11) (k0_pay66 (k0_pay32 (k0_pay30 x9) (k0_pay31 x9)) (View.ld x10 (Rect.unit (s := S1024x2560) ![512, 0] S64x2560.size inb_S1024x2560_S64x2560_512_0)) (View.ld x14 (Rect.unit (s := S1024x2560) ![512, 0] S64x2560.size inb_S1024x2560_S64x2560_512_0)) x11) (k0_pay67 (View.ld x10 (Rect.unit (s := S1024x2560) ![512, 0] S64x2560.size inb_S1024x2560_S64x2560_512_0))))) ![576, 0] S64x2560.size (k0_pay69 (k0_pay32 (k0_pay30 x9) (k0_pay31 x9)) (View.ld x10 (Rect.unit (s := S1024x2560) ![576, 0] S64x2560.size inb_S1024x2560_S64x2560_576_0)) (View.ld x14 (Rect.unit (s := S1024x2560) ![576, 0] S64x2560.size inb_S1024x2560_S64x2560_576_0)) x11)) ![640, 0] S64x2560.size (k0_pay70 (k0_pay32 (k0_pay30 x9) (k0_pay31 x9)) (View.ld x10 (Rect.unit (s := S1024x2560) ![640, 0] S64x2560.size inb_S1024x2560_S64x2560_640_0)) (View.ld x14 (Rect.unit (s := S1024x2560) ![640, 0] S64x2560.size inb_S1024x2560_S64x2560_640_0)) x11)) ![704, 0] S64x2560.size (k0_pay74 (k0_pay32 (k0_pay30 x9) (k0_pay31 x9)) (k0_pay71 (View.ld x10 (Rect.unit (s := S1024x2560) ![704, 0] S64x2560.size inb_S1024x2560_S64x2560_704_0))) (k0_pay72 (View.ld x10 (Rect.unit (s := S1024x2560) ![704, 0] S64x2560.size inb_S1024x2560_S64x2560_704_0))) (k0_pay73 (F := F)) (View.ld x14 (Rect.unit (s := S1024x2560) ![704, 0] S64x2560.size inb_S1024x2560_S64x2560_704_0)) x11)) ![768, 0] S64x2560.size (k0_pay77 (k0_pay32 (k0_pay30 x9) (k0_pay31 x9)) (k0_pay75 (View.ld x10 (Rect.unit (s := S1024x2560) ![768, 0] S64x2560.size inb_S1024x2560_S64x2560_768_0))) (k0_pay76 (View.ld x10 (Rect.unit (s := S1024x2560) ![768, 0] S64x2560.size inb_S1024x2560_S64x2560_768_0))) (View.ld x14 (Rect.unit (s := S1024x2560) ![768, 0] S64x2560.size inb_S1024x2560_S64x2560_768_0)) x11)) ![832, 0] S64x2560.size (k0_pay82 (k0_pay78 (View.ld x10 (Rect.unit (s := S1024x2560) ![832, 0] S64x2560.size inb_S1024x2560_S64x2560_832_0))) (k0_pay79 (View.ld x10 (Rect.unit (s := S1024x2560) ![832, 0] S64x2560.size inb_S1024x2560_S64x2560_832_0))) (k0_pay80 (k0_pay32 (k0_pay30 x9) (k0_pay31 x9)) (View.ld x14 (Rect.unit (s := S1024x2560) ![832, 0] S64x2560.size inb_S1024x2560_S64x2560_832_0))) (k0_pay81 x11))) ![896, 0] S64x2560.size (k0_pay87 (k0_pay83 (View.ld x10 (Rect.unit (s := S1024x2560) ![896, 0] S64x2560.size inb_S1024x2560_S64x2560_896_0))) (k0_pay84 (View.ld x10 (Rect.unit (s := S1024x2560) ![896, 0] S64x2560.size inb_S1024x2560_S64x2560_896_0))) (k0_pay85 (k0_pay32 (k0_pay30 x9) (k0_pay31 x9)) (View.ld x14 (Rect.unit (s := S1024x2560) ![896, 0] S64x2560.size inb_S1024x2560_S64x2560_896_0)) x11) (k0_pay86 (k0_pay32 (k0_pay30 x9) (k0_pay31 x9)) (View.ld x10 (Rect.unit (s := S1024x2560) ![896, 0] S64x2560.size inb_S1024x2560_S64x2560_896_0)) (View.ld x14 (Rect.unit (s := S1024x2560) ![896, 0] S64x2560.size inb_S1024x2560_S64x2560_896_0)) x11))) ![960, 0] S64x2560.size (k0_pay5 (k0_pay88 (k0_pay32 (k0_pay30 x9) (k0_pay31 x9)) (View.ld x10 (Rect.unit (s := S1024x2560) ![960, 0] S64x2560.size inb_S1024x2560_S64x2560_960_0)) (View.ld x14 (Rect.unit (s := S1024x2560) ![960, 0] S64x2560.size inb_S1024x2560_S64x2560_960_0)) x11)))

set_option maxHeartbeats 4000000 in
theorem mid_run (arg0 : BitVec 32) (h0 : arg0 = BitVec.ofNat 32 (i 0).val) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (gMid arg0 x1 x3 x4 x5 x6 x7 x12 x15) x13 (k0_pay4 x14 (gMid arg0 x1 x3 x4 x5 x6 x7 x12 x15) x2) x15 -∗ K ⟨⟩))
      ⊢ wp frame (wpE (defs₀ (F := F)) Variants.none c none) E (midP i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold midP
  dsimp only
  rw [← h0]
  iintro ⟨HS, Hk⟩
  rw [Idealize.SL.Sem.wp_bind]
  iapply (part1_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _)
  isplitl [HS]; · iexact HS
  iintro HS
  dsimp only
  rw [Idealize.SL.Sem.wp_bind]
  iapply (part2_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _)
  isplitl [HS]; · iexact HS
  iintro HS
  dsimp only
  rw [Idealize.SL.Sem.wp_bind]
  iapply (part3_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _)
  isplitl [HS]; · iexact HS
  iintro HS
  dsimp only
  rw [Idealize.SL.Sem.wp_bind]
  iapply (part4_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _)
  isplitl [HS]; · iexact HS
  iintro HS
  dsimp only
  rw [Idealize.SL.Sem.wp_bind]
  iapply (part5_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _)
  isplitl [HS]; · iexact HS
  iintro HS
  dsimp only
  rw [Idealize.SL.Sem.wp_bind]
  iapply (part6_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _)
  isplitl [HS]; · iexact HS
  iintro HS
  dsimp only
  iapply (tail_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ K)
  isplitl [HS]; · iexact HS
  unfold gMid
  iexact Hk

set_option maxHeartbeats 4000000 in
theorem last_run (arg0 : BitVec 32) (h0 : arg0 = BitVec.ofNat 32 (i 0).val) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (gLast arg0 x1 x3 x4 x5 x6 x7 x12 x15) (dhLast x9 x10 x11 x13 (k0_pay29 x14 (View.ld (gLast arg0 x1 x3 x4 x5 x6 x7 x12 x15) (Rect.unit (s := S1024x1024) ![0, 0] S1024x384.size inb_S1024x1024_S1024x384_0_0)) (View.ld x2 (Rect.unit (s := S1024x2560) ![0, 0] S384x2560.size inb_S1024x2560_S384x2560_0_0)))) (k0_pay29 x14 (View.ld (gLast arg0 x1 x3 x4 x5 x6 x7 x12 x15) (Rect.unit (s := S1024x1024) ![0, 0] S1024x384.size inb_S1024x1024_S1024x384_0_0)) (View.ld x2 (Rect.unit (s := S1024x2560) ![0, 0] S384x2560.size inb_S1024x2560_S384x2560_0_0))) x15 -∗ K ⟨⟩))
      ⊢ wp frame (wpE (defs₀ (F := F)) Variants.none c none) E (lastP i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  unfold lastP
  dsimp only
  rw [← h0]
  iintro ⟨HS, Hk⟩
  rw [Idealize.SL.Sem.wp_bind]
  iapply (part7_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _)
  isplitl [HS]; · iexact HS
  iintro HS
  dsimp only
  rw [Idealize.SL.Sem.wp_bind]
  iapply (part8_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _)
  isplitl [HS]; · iexact HS
  iintro HS
  dsimp only
  rw [Idealize.SL.Sem.wp_bind]
  iapply (part9_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _)
  isplitl [HS]; · iexact HS
  iintro HS
  dsimp only
  rw [Idealize.SL.Sem.wp_bind]
  iapply (part10_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _)
  isplitl [HS]; · iexact HS
  iintro HS
  dsimp only
  rw [Idealize.SL.Sem.wp_bind]
  iapply (part11_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _)
  isplitl [HS]; · iexact HS
  iintro HS
  dsimp only
  rw [Idealize.SL.Sem.wp_bind]
  iapply (part12_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _ _)
  isplitl [HS]; · iexact HS
  iintro HS
  dsimp only
  rw [Idealize.SL.Sem.wp_bind]
  iapply (part13_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _)
  isplitl [HS]; · iexact HS
  iintro HS
  dsimp only
  rw [Idealize.SL.Sem.wp_bind]
  iapply (part14_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _)
  isplitl [HS]; · iexact HS
  iintro HS
  dsimp only
  rw [Idealize.SL.Sem.wp_bind]
  iapply (part15_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _)
  isplitl [HS]; · iexact HS
  iintro HS
  dsimp only
  rw [Idealize.SL.Sem.wp_bind]
  iapply (part16_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _)
  isplitl [HS]; · iexact HS
  iintro HS
  dsimp only
  rw [Idealize.SL.Sem.wp_bind]
  iapply (part17_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _)
  isplitl [HS]; · iexact HS
  iintro HS
  dsimp only
  rw [Idealize.SL.Sem.wp_bind]
  iapply (part18_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _)
  isplitl [HS]; · iexact HS
  iintro HS
  dsimp only
  rw [Idealize.SL.Sem.wp_bind]
  iapply (part19_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _)
  isplitl [HS]; · iexact HS
  iintro HS
  dsimp only
  rw [Idealize.SL.Sem.wp_bind]
  iapply (part20_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _)
  isplitl [HS]; · iexact HS
  iintro HS
  dsimp only
  rw [Idealize.SL.Sem.wp_bind]
  iapply (part21_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _)
  isplitl [HS]; · iexact HS
  iintro HS
  dsimp only
  rw [Idealize.SL.Sem.wp_bind]
  iapply (part22_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _)
  isplitl [HS]; · iexact HS
  iintro HS
  dsimp only
  rw [Idealize.SL.Sem.wp_bind]
  iapply (part23_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ _ _ _ _ _)
  isplitl [HS]; · iexact HS
  iintro HS
  dsimp only
  iapply (lastTail_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _ _ K)
  isplitl [HS]; · iexact HS
  unfold dhLast gLast
  iexact Hk

end Cert.GradIdeal.Body
-- ==== Proof.GradPoint.lean ====
module

public import proofs.«01_k».proof.Proof.GradBody
public import proofs.«01_k».proof.Proof.Gen.GradIdeal.Launch
public import proofs.«01_k».proof.Proof.Gen.GradIdeal.Skeleton
public import proofs.«01_k».proof.Proof.Gen.GradIdeal.Points
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.VecWindow
public import Idealize.ShloMosaic.Lib.Pipeline.ValueKit

@[expose] public section

set_option maxRecDepth 16384

noncomputable section

namespace Cert.GradIdeal.Body

open Cert.GradIdeal Cert.GradIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (c : Dev nD) (E : Set ℕ) (i : grid0.Coords) (arg1 : Memref sig .tc .vmem S1024x1024 .f32) (harg1 : arg1.IsWhole) (arg2 : Memref sig .tc .vmem S1024x2560 .fp8e4m3) (harg2 : arg2.IsWhole) (arg3 : Memref sig .tc .vmem S1x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1024 .i32) (harg8 : arg8.IsWhole) (arg9 : Memref sig .tc .vmem S1x1024 .f32) (harg9 : arg9.IsWhole) (arg10 : Memref sig .tc .vmem S1024x2560 .bf16) (harg10 : arg10.IsWhole) (arg11 : Memref sig .tc .vmem S1x2560 .f32) (harg11 : arg11.IsWhole) (arg12 : Memref sig .tc .vmem S1024x1024 .fp8e5m2) (harg12 : arg12.IsWhole) (arg13 : Memref sig .tc .vmem S1024x2560 .bf16) (harg13 : arg13.IsWhole) (arg14 : Memref sig .tc .vmem S1024x2560 .f32) (harg14 : arg14.IsWhole) (arg15 : Memref sig .tc .vmem S1024x128 .i32) (harg15 : arg15.IsWhole)
    (x1 : Vec F S1024x1024 .f32) (x2 : Vec F S1024x2560 .fp8e4m3) (x3 : Vec F S1x1024 .f32) (x4 : Vec F S1024x128 .f32) (x5 : Vec F S1024x128 .f32) (x6 : Vec F S1024x128 .f32) (x7 : Vec F S1024x128 .f32) (x8 : Vec F S1x1024 .i32) (x9 : Vec F S1x1024 .f32) (x10 : Vec F S1024x2560 .bf16) (x11 : Vec F S1x2560 .f32) (x12 : Vec F S1024x1024 .fp8e5m2) (x13 : Vec F S1024x2560 .bf16) (x14 : Vec F S1024x2560 .f32) (x15 : Vec F S1024x128 .i32)

set_option maxHeartbeats 4000000 in
/-- The body at the first point. -/
theorem body_first (h1 : Scalar.cmpi .ne (Scalar.extui (Scalar.cmpi .eq (BitVec.ofNat 32 (i 0).val) 0#32) : BitVec 32) 0#32 = 1#1) (h2 : k0_cond2 i = 1#1) (h3 : ¬ k0_cond3 i = 1#1) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (gMid (BitVec.ofNat 32 (i 0).val) x1 x3 x4 x5 x6 x7 x12 (k0_pay1 x8)) x13 (k0_pay4 (k0_pay2 (F := F)) (gMid (BitVec.ofNat 32 (i 0).val) x1 x3 x4 x5 x6 x7 x12 (k0_pay1 x8)) x2) (k0_pay1 x8) -∗ K ⟨⟩))
      ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0_grad_eq_skeleton, skel_split, if_pos h1, if_pos h2, if_neg h3]
  iintro ⟨HS, Hk⟩
  rw [Idealize.SL.Sem.wp_bind]
  iapply (init_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _  _)
  isplitl [HS]; · iexact HS
  iintro HS
  dsimp only
  rw [Idealize.SL.Sem.wp_bind]
  iapply (mid_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _  _ rfl _)
  isplitl [HS]; · iexact HS
  iintro HS
  dsimp only
  sl_step
  iapply Hk
  iexact HS

set_option maxHeartbeats 4000000 in
/-- The body at a later point before the last. -/
theorem body_mid (h1 : ¬ Scalar.cmpi .ne (Scalar.extui (Scalar.cmpi .eq (BitVec.ofNat 32 (i 0).val) 0#32) : BitVec 32) 0#32 = 1#1) (h2 : k0_cond2 i = 1#1) (h3 : ¬ k0_cond3 i = 1#1) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (gMid (BitVec.ofNat 32 (i 0).val) x1 x3 x4 x5 x6 x7 x12 x15) x13 (k0_pay4 x14 (gMid (BitVec.ofNat 32 (i 0).val) x1 x3 x4 x5 x6 x7 x12 x15) x2) x15 -∗ K ⟨⟩))
      ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0_grad_eq_skeleton, skel_split, if_neg h1, if_pos h2, if_neg h3]
  iintro ⟨HS, Hk⟩
  try (rw [Idealize.SL.Sem.wp_bind]; sl_step)
  rw [Idealize.SL.Sem.wp_bind]
  iapply (mid_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _  _ rfl _)
  isplitl [HS]; · iexact HS
  iintro HS
  dsimp only
  sl_step
  iapply Hk
  iexact HS

set_option maxHeartbeats 4000000 in
/-- The body at the last point. -/
theorem body_last (h1 : ¬ Scalar.cmpi .ne (Scalar.extui (Scalar.cmpi .eq (BitVec.ofNat 32 (i 0).val) 0#32) : BitVec 32) 0#32 = 1#1) (h2 : ¬ k0_cond2 i = 1#1) (h3 : k0_cond3 i = 1#1) (K : _ → sProp 𝕄) :
    iprop(St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 x12 x13 x14 x15 ∗ (St c arg1 harg1 arg2 harg2 arg3 harg3 arg4 harg4 arg5 harg5 arg6 harg6 arg7 harg7 arg8 harg8 arg9 harg9 arg10 harg10 arg11 harg11 arg12 harg12 arg13 harg13 arg14 harg14 arg15 harg15 x1 x2 x3 x4 x5 x6 x7 x8 x9 x10 x11 (gLast (BitVec.ofNat 32 (i 0).val) x1 x3 x4 x5 x6 x7 x12 x15) (dhLast x9 x10 x11 x13 (k0_pay29 x14 (View.ld (gLast (BitVec.ofNat 32 (i 0).val) x1 x3 x4 x5 x6 x7 x12 x15) (Rect.unit (s := S1024x1024) ![0, 0] S1024x384.size inb_S1024x1024_S1024x384_0_0)) (View.ld x2 (Rect.unit (s := S1024x2560) ![0, 0] S384x2560.size inb_S1024x2560_S384x2560_0_0)))) (k0_pay29 x14 (View.ld (gLast (BitVec.ofNat 32 (i 0).val) x1 x3 x4 x5 x6 x7 x12 x15) (Rect.unit (s := S1024x1024) ![0, 0] S1024x384.size inb_S1024x1024_S1024x384_0_0)) (View.ld x2 (Rect.unit (s := S1024x2560) ![0, 0] S384x2560.size inb_S1024x2560_S384x2560_0_0))) x15 -∗ K ⟨⟩))
      ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0_grad_eq_skeleton, skel_split, if_neg h1, if_neg h2, if_pos h3]
  iintro ⟨HS, Hk⟩
  try (rw [Idealize.SL.Sem.wp_bind]; sl_step)
  try (rw [Idealize.SL.Sem.wp_bind]; sl_step)
  rw [Idealize.SL.Sem.wp_bind]
  iapply (last_run c E i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ _ _  _ rfl _)
  isplitl [HS]; · iexact HS
  iintro HS
  dsimp only
  sl_step
  iapply Hk
  iexact HS

/-! ## What the stores leave does not depend on what they cover -/

/-- Two code blocks agree on their first `n` columns. -/
def AgC {e : EltTy} (n : ℕ) (x x' : Vec F S1024x1024 e) : Prop := ∀ y : S1024x1024.Idx, (y 1).val < n → x y = x' y

theorem AgC.put {e : EltTy} {n : ℕ} {x x' : Vec F S1024x1024 e} (h : AgC n x x') {w w' : Vec F S1024x128 e} (hw : w = w') :
    AgC (n + 128) (VecWindow.put (s := S1024x1024) x ![0, n] S1024x128.size w) (VecWindow.put (s := S1024x1024) x' ![0, n] S1024x128.size w') := by
  subst hw
  intro y hy
  unfold VecWindow.put
  split
  · rfl
  · rename_i hn
    apply h
    by_contra hc
    apply hn
    intro a
    match a with
    | ⟨0, _⟩ => exact ⟨Nat.zero_le _, by simpa using (y 0).isLt⟩
    | ⟨1, _⟩ => exact ⟨by simpa using hc, by simpa using hy⟩

/-- Agreeing everywhere is equality. -/
theorem AgC.eq {e : EltTy} {x x' : Vec F S1024x1024 e} (h : AgC 1024 x x') : x = x' := funext fun y => h y (y 1).isLt

/-- A column strip read of agreeing blocks. -/
theorem AgC.ld {e : EltTy} {n : ℕ} {x x' : Vec F S1024x1024 e} (h : AgC n x x') (k : ℕ) (hk : k + 128 ≤ n)
    (inb : ∀ a, (![0, k] : Fin 2 → ℕ) a + S1024x128.size a ≤ S1024x1024.size a) :
    View.ld x (Rect.unit (s := S1024x1024) ![0, k] S1024x128.size inb) = View.ld x' (Rect.unit (s := S1024x1024) ![0, k] S1024x128.size inb) := by
  funext y
  refine h _ ?_
  have : (y 1).val < 128 := (y 1).isLt
  show k + 1 * (y 1).val < n
  omega

theorem AgC.ld384 {e : EltTy} {x x' : Vec F S1024x1024 e} (h : AgC 384 x x')
    (inb : ∀ a, (![0, 0] : Fin 2 → ℕ) a + S1024x384.size a ≤ S1024x1024.size a) :
    View.ld x (Rect.unit (s := S1024x1024) ![0, 0] S1024x384.size inb) = View.ld x' (Rect.unit (s := S1024x1024) ![0, 0] S1024x384.size inb) := by
  funext y
  refine h _ ?_
  have : (y 1).val < 384 := (y 1).isLt
  show 0 + 1 * (y 1).val < 384
  omega

/-- The scales read through a strip. -/
theorem ldS {e : EltTy} {n : ℕ} {x x' : Vec F S1x1024 e} (h : ∀ y : S1x1024.Idx, (y 1).val < n → x y = x' y) (k : ℕ) (hk : k + 128 ≤ n)
    (inb : ∀ a, (![0, k] : Fin 2 → ℕ) a + S1x128.size a ≤ S1x1024.size a) :
    View.ld x (Rect.unit (s := S1x1024) ![0, k] S1x128.size inb) = View.ld x' (Rect.unit (s := S1x1024) ![0, k] S1x128.size inb) := by
  funext y
  refine h _ ?_
  have : (y 1).val < 128 := (y 1).isLt
  show k + 1 * (y 1).val < n
  omega

/-- The weights' first 384 rows. -/
theorem ldW {e : EltTy} {x x' : Vec F S1024x2560 e} (h : ∀ y : S1024x2560.Idx, (y 0).val < 384 → x y = x' y)
    (inb : ∀ a, (![0, 0] : Fin 2 → ℕ) a + S384x2560.size a ≤ S1024x2560.size a) :
    View.ld x (Rect.unit (s := S1024x2560) ![0, 0] S384x2560.size inb) = View.ld x' (Rect.unit (s := S1024x2560) ![0, 0] S384x2560.size inb) := by
  funext y
  refine h _ ?_
  have : (y 0).val < 384 := (y 0).isLt
  show 0 + 1 * (y 0).val < 384
  omega

/-- Eight strips cover the block. -/
theorem gMid_congr (a0 : BitVec 32) (u : Vec F S1024x1024 .f32) (s : Vec F S1x1024 .f32) (x4 x5 x6 x7 : Vec F S1024x128 .f32)
    (g g' : Vec F S1024x1024 .fp8e5m2) (l : Vec F S1024x128 .i32) : gMid a0 u s x4 x5 x6 x7 g l = gMid a0 u s x4 x5 x6 x7 g' l := by
  apply AgC.eq
  unfold gMid
  refine AgC.put (n := 896) ?_ rfl
  refine AgC.put (n := 768) ?_ rfl
  refine AgC.put (n := 640) ?_ rfl
  refine AgC.put (n := 512) ?_ rfl
  refine AgC.put (n := 384) ?_ rfl
  refine AgC.put (n := 256) ?_ rfl
  refine AgC.put (n := 128) ?_ rfl
  refine AgC.put (n := 0) ?_ rfl
  intro y hy
  exact absurd hy (Nat.not_lt_zero _)

/-- Three strips cover the part of the last block inside the array, read from that part only. -/
theorem gLast_congr (a0 : BitVec 32) {u u' : Vec F S1024x1024 .f32} (hu : AgC 384 u u') {s s' : Vec F S1x1024 .f32}
    (hs : ∀ y : S1x1024.Idx, (y 1).val < 384 → s y = s' y) (x4 x5 x6 x7 : Vec F S1024x128 .f32)
    (g g' : Vec F S1024x1024 .fp8e5m2) (l : Vec F S1024x128 .i32) : AgC 384 (gLast a0 u s x4 x5 x6 x7 g l) (gLast a0 u' s' x4 x5 x6 x7 g' l) := by
  unfold gLast
  refine AgC.put (n := 256) ?_ ?_
  · refine AgC.put (n := 128) ?_ ?_
    · refine AgC.put (n := 0) ?_ ?_
      · intro y hy
        exact absurd hy (Nat.not_lt_zero _)
      · rw [hu.ld 0 (by decide), ldS hs 0 (by decide)]
    · rw [hu.ld 128 (by decide), ldS hs 128 (by decide)]
  · rw [hu.ld 256 (by decide), ldS hs 256 (by decide)]

/-- Two gradient blocks agree on their first `n` rows. -/
def AgR {e : EltTy} (n : ℕ) (x x' : Vec F S1024x2560 e) : Prop := ∀ y : S1024x2560.Idx, (y 0).val < n → x y = x' y

theorem AgR.put {e : EltTy} {n : ℕ} {x x' : Vec F S1024x2560 e} (h : AgR n x x') (w : Vec F S64x2560 e) :
    AgR (n + 64) (VecWindow.put (s := S1024x2560) x ![n, 0] S64x2560.size w) (VecWindow.put (s := S1024x2560) x' ![n, 0] S64x2560.size w) := by
  intro y hy
  unfold VecWindow.put
  split
  · rfl
  · rename_i hn
    apply h
    by_contra hc
    apply hn
    intro a
    match a with
    | ⟨0, _⟩ => exact ⟨by simpa using hc, by simpa using hy⟩
    | ⟨1, _⟩ => exact ⟨Nat.zero_le _, by simpa using (y 1).isLt⟩

/-- Sixteen strips cover the gradient block. -/
theorem dhLast_congr (x9 : Vec F S1x1024 .f32) (x10 : Vec F S1024x2560 .bf16) (x11 : Vec F S1x2560 .f32) (d d' : Vec F S1024x2560 .bf16) (a : Vec F S1024x2560 .f32) :
    dhLast x9 x10 x11 d a = dhLast x9 x10 x11 d' a := by
  have h : AgR 1024 (dhLast x9 x10 x11 d a) (dhLast x9 x10 x11 d' a) := by
    unfold dhLast
    refine AgR.put (n := 960) ?_ _
    refine AgR.put (n := 896) ?_ _
    refine AgR.put (n := 832) ?_ _
    refine AgR.put (n := 768) ?_ _
    refine AgR.put (n := 704) ?_ _
    refine AgR.put (n := 640) ?_ _
    refine AgR.put (n := 576) ?_ _
    refine AgR.put (n := 512) ?_ _
    refine AgR.put (n := 448) ?_ _
    refine AgR.put (n := 384) ?_ _
    refine AgR.put (n := 320) ?_ _
    refine AgR.put (n := 256) ?_ _
    refine AgR.put (n := 192) ?_ _
    refine AgR.put (n := 128) ?_ _
    refine AgR.put (n := 64) ?_ _
    refine AgR.put (n := 0) ?_ _
    intro y hy
    exact absurd hy (Nat.not_lt_zero _)
  exact funext fun y => h y (y 0).isLt

end Cert.GradIdeal.Body

end
-- ==== Proof.GradDat.lean ====
module

public import proofs.«01_k».proof.Proof.GradPoint
public import proofs.«01_k».proof.Proof.Gen.GradIdeal.Launch
public import proofs.«01_k».proof.Proof.Gen.GradIdeal.Skeleton
public import proofs.«01_k».proof.Proof.Gen.GradIdeal.Points
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.VecWindow
public import Idealize.ShloMosaic.Lib.Pipeline.ValueKit

@[expose] public section

set_option maxRecDepth 16384

noncomputable section

namespace Cert.GradIdeal.Body

open Cert.GradIdeal Cert.GradIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule's conditions, over the grid -/

theorem hc1 : ∀ t : Fin grid0.N, (Scalar.cmpi .ne (Scalar.extui (Scalar.cmpi .eq (BitVec.ofNat 32 ((grid0.coords t) 0).val) 0#32) : BitVec 32) 0#32 = 1#1) ↔ t.val = 0 := by
  decide +kernel
theorem hc2 : ∀ t : Fin grid0.N, (k0_cond2 (grid0.coords t) = 1#1) ↔ t.val < 148 := by
  decide +kernel
theorem hc3 : ∀ t : Fin grid0.N, (k0_cond3 (grid0.coords t) = 1#1) ↔ t.val = 148 := by
  decide +kernel

/-- How much of a block the transfers move: all of it before the last point, 384 of the vocabulary's 1024 there. -/
theorem xs0 : ∀ t : Fin grid0.N, win0_0.xsize (grid0.coords t) 0 = 1024 ∧ win0_0.xsize (grid0.coords t) 1 = if t.val < 148 then 1024 else 384 := by
  decide +kernel
theorem xs1 : ∀ t : Fin grid0.N, win0_1.xsize (grid0.coords t) 0 = (if t.val < 148 then 1024 else 384) ∧ win0_1.xsize (grid0.coords t) 1 = 2560 := by
  decide +kernel
theorem xs2 : ∀ t : Fin grid0.N, win0_2.xsize (grid0.coords t) 0 = 1 ∧ win0_2.xsize (grid0.coords t) 1 = if t.val < 148 then 1024 else 384 := by
  decide +kernel
theorem xs11 : ∀ t : Fin grid0.N, win0_11.xsize (grid0.coords t) 0 = 1024 ∧ win0_11.xsize (grid0.coords t) 1 = if t.val < 148 then 1024 else 384 := by
  decide +kernel

/-- How many of a block's vocabulary entries are inside the array at a point. -/
def lim (t : Fin grid0.N) : ℕ := if t.val < 148 then 1024 else 384

theorem mv0 (t : Fin grid0.N) (j : S1024x1024.Idx) (h : (j 1).val < lim t) : win0_0.moved (grid0.coords t) j = true :=
  (win0_0.moved_iff _ j).mpr fun a => by
    match a with
    | ⟨0, _⟩ => exact lt_of_lt_of_eq (j 0).isLt (xs0 t).1.symm
    | ⟨1, _⟩ => exact lt_of_lt_of_eq h (xs0 t).2.symm
theorem mv1 (t : Fin grid0.N) (j : S1024x2560.Idx) (h : (j 0).val < lim t) : win0_1.moved (grid0.coords t) j = true :=
  (win0_1.moved_iff _ j).mpr fun a => by
    match a with
    | ⟨0, _⟩ => exact lt_of_lt_of_eq h (xs1 t).1.symm
    | ⟨1, _⟩ => exact lt_of_lt_of_eq (j 1).isLt (xs1 t).2.symm
theorem mv2 (t : Fin grid0.N) (j : S1x1024.Idx) (h : (j 1).val < lim t) : win0_2.moved (grid0.coords t) j = true :=
  (win0_2.moved_iff _ j).mpr fun a => by
    match a with
    | ⟨0, _⟩ => exact lt_of_lt_of_eq (j 0).isLt (xs2 t).1.symm
    | ⟨1, _⟩ => exact lt_of_lt_of_eq h (xs2 t).2.symm

theorem fill0 (t : Fin grid0.N) (d d' : S1024x1024.Idx → Elt F .f32) (g) (j : S1024x1024.Idx) (h : (j 1).val < lim t) :
    win0_0.fill (grid0.coords t) d g j = win0_0.fill (grid0.coords t) d' g j := by
  unfold Window.fill; rw [dif_pos (mv0 t j h), dif_pos (mv0 t j h)]
theorem fill1 (t : Fin grid0.N) (d d' : S1024x2560.Idx → Elt F .fp8e4m3) (g) (j : S1024x2560.Idx) (h : (j 0).val < lim t) :
    win0_1.fill (grid0.coords t) d g j = win0_1.fill (grid0.coords t) d' g j := by
  unfold Window.fill; rw [dif_pos (mv1 t j h), dif_pos (mv1 t j h)]
theorem fill2 (t : Fin grid0.N) (d d' : S1x1024.Idx → Elt F .f32) (g) (j : S1x1024.Idx) (h : (j 1).val < lim t) :
    win0_2.fill (grid0.coords t) d g j = win0_2.fill (grid0.coords t) d' g j := by
  unfold Window.fill; rw [dif_pos (mv2 t j h), dif_pos (mv2 t j h)]

/-- Before the last point a fetched block fills its buffer. -/
theorem fill0_mid (t : Fin grid0.N) (ht : t.val < 148) (d d' : S1024x1024.Idx → Elt F .f32) (g) :
    win0_0.fill (grid0.coords t) d g = win0_0.fill (grid0.coords t) d' g :=
  funext fun j => fill0 t d d' g j (by unfold lim; rw [if_pos ht]; exact (j 1).isLt)
theorem fill1_mid (t : Fin grid0.N) (ht : t.val < 148) (d d' : S1024x2560.Idx → Elt F .fp8e4m3) (g) :
    win0_1.fill (grid0.coords t) d g = win0_1.fill (grid0.coords t) d' g :=
  funext fun j => fill1 t d d' g j (by unfold lim; rw [if_pos ht]; exact (j 0).isLt)
theorem fill2_mid (t : Fin grid0.N) (ht : t.val < 148) (d d' : S1x1024.Idx → Elt F .f32) (g) :
    win0_2.fill (grid0.coords t) d g = win0_2.fill (grid0.coords t) d' g :=
  funext fun j => fill2 t d d' g j (by unfold lim; rw [if_pos ht]; exact (j 1).isLt)

/-! ## What the buffers hold -/

/-- The logits' block in its buffer, zeros past the array's end; -/
def ub (c : Dev nD) (t : Fin cfg0.N) : Vec F S1024x1024 .f32 := win0_0.fill (grid0.coords t) (fun _ => Scalar.ofBits .f32 0#32) (iblk m c 0 t)
/-- the weights'; -/
def wb (c : Dev nD) (t : Fin cfg0.N) : Vec F S1024x2560 .fp8e4m3 := win0_1.fill (grid0.coords t) (fun _ => Scalar.ofBits .fp8e4m3 0#8) (iblk m c 1 t)
/-- their scales'. -/
def sb (c : Dev nD) (t : Fin cfg0.N) : Vec F S1x1024 .f32 := win0_2.fill (grid0.coords t) (fun _ => Scalar.ofBits .f32 0#32) (iblk m c 2 t)

/-- The first point. -/
abbrev p0 : Fin cfg0.N := ⟨0, by decide⟩
/-- The last point. -/
abbrev pL : Fin cfg0.N := ⟨148, by decide⟩

/-- The labels' lanes, kept from the first point on. -/
def labS (c : Dev nD) : Vec F S1024x128 .i32 := k0_pay1 (iblk m c 7 p0)

/-- The codes the body leaves at a point before the last; -/
def gB (c : Dev nD) (t : Fin cfg0.N) : Vec F S1024x1024 .fp8e5m2 :=
  gMid (BitVec.ofNat 32 (grid0.coords t 0).val) (ub m c t) (sb m c t) (iblk m c 3 t) (iblk m c 4 t) (iblk m c 5 t) (iblk m c 6 t) (fun _ => Scalar.ofBits .fp8e5m2 0#8) (labS m c)
/-- at the last. -/
def gL (c : Dev nD) (t : Fin cfg0.N) : Vec F S1024x1024 .fp8e5m2 :=
  gLast (BitVec.ofNat 32 (grid0.coords t 0).val) (ub m c t) (sb m c t) (iblk m c 3 t) (iblk m c 4 t) (iblk m c 5 t) (iblk m c 6 t) (fun _ => Scalar.ofBits .fp8e5m2 0#8) (labS m c)

/-- The last block's products added to the accumulator. -/
def lastAcc (a : Vec F S1024x2560 .f32) (g : Vec F S1024x1024 .fp8e5m2) (w : Vec F S1024x2560 .fp8e4m3) : Vec F S1024x2560 .f32 :=
  k0_pay29 a (View.ld g (Rect.unit (s := S1024x1024) ![0, 0] S1024x384.size inb_S1024x1024_S1024x384_0_0)) (View.ld w (Rect.unit (s := S1024x2560) ![0, 0] S384x2560.size inb_S1024x2560_S384x2560_0_0))

/-- The accumulator after each point. -/
def accAt (c : Dev nD) : (n : ℕ) → n < cfg0.N → Vec F S1024x2560 .f32
  | 0, hn => k0_pay4 (k0_pay2 (F := F)) (gB m c ⟨0, hn⟩) (wb m c ⟨0, hn⟩)
  | n + 1, hn =>
    if n + 1 < 148 then k0_pay4 (accAt c n (Nat.lt_of_succ_lt hn)) (gB m c ⟨n + 1, hn⟩) (wb m c ⟨n + 1, hn⟩)
    else lastAcc (accAt c n (Nat.lt_of_succ_lt hn)) (gL m c ⟨n + 1, hn⟩) (wb m c ⟨n + 1, hn⟩)

theorem accAt_zero (c : Dev nD) (t : Fin cfg0.N) (h : t.val = 0) : accAt m c t.val t.isLt = k0_pay4 (k0_pay2 (F := F)) (gB m c t) (wb m c t) := by
  obtain ⟨n, hn⟩ := t; subst h; rfl
theorem accAt_mid (c : Dev nD) (t : Fin cfg0.N) (h0 : t.val ≠ 0) (h : t.val < 148) :
    accAt m c t.val t.isLt = k0_pay4 (accAt m c (t.val - 1) (by have := t.isLt; omega)) (gB m c t) (wb m c t) := by
  obtain ⟨n, hn⟩ := t
  cases n with
  | zero => exact absurd rfl h0
  | succ n => exact if_pos h
theorem accAt_last (c : Dev nD) (t : Fin cfg0.N) (h0 : t.val ≠ 0) (h : ¬ t.val < 148) :
    accAt m c t.val t.isLt = lastAcc (accAt m c (t.val - 1) (by have := t.isLt; omega)) (gL m c t) (wb m c t) := by
  obtain ⟨n, hn⟩ := t
  cases n with
  | zero => exact absurd rfl h0
  | succ n => exact if_neg h

/-- What the gradient's buffer ends at. -/
def dhV (c : Dev nD) (t : Fin cfg0.N) : Vec F S1024x2560 .bf16 :=
  dhLast (iblk m c 8 t) (iblk m c 9 t) (iblk m c 10 t) (fun _ => Scalar.ofBits .bf16 0#16) (accAt m c t.val t.isLt)

abbrev scM0_0 : Memref sig .tc .vmem S1024x2560 .f32 := Memref.whole cc0_scratch0
abbrev scM0_1 : Memref sig .tc .vmem S1024x128 .i32 := Memref.whole cc0_scratch1

theorem PhiA0_eq (c : Dev nD) : (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

abbrev ms0_0 (t : Fin cfg0.N) := win0_0.stage (cfg0.slots t 0)
abbrev hs0_0 (t : Fin cfg0.N) := hstage0_0 ((cfg0.slots t 0).cast nbuf0_0)
abbrev ms0_1 (t : Fin cfg0.N) := win0_1.stage (cfg0.slots t 1)
abbrev hs0_1 (t : Fin cfg0.N) := hstage0_1 ((cfg0.slots t 1).cast nbuf0_1)
abbrev ms0_2 (t : Fin cfg0.N) := win0_2.stage (cfg0.slots t 2)
abbrev hs0_2 (t : Fin cfg0.N) := hstage0_2 ((cfg0.slots t 2).cast nbuf0_2)
abbrev ms0_3 (t : Fin cfg0.N) := win0_3.stage (cfg0.slots t 3)
abbrev hs0_3 (t : Fin cfg0.N) := hstage0_3 ((cfg0.slots t 3).cast nbuf0_3)
abbrev ms0_4 (t : Fin cfg0.N) := win0_4.stage (cfg0.slots t 4)
abbrev hs0_4 (t : Fin cfg0.N) := hstage0_4 ((cfg0.slots t 4).cast nbuf0_4)
abbrev ms0_5 (t : Fin cfg0.N) := win0_5.stage (cfg0.slots t 5)
abbrev hs0_5 (t : Fin cfg0.N) := hstage0_5 ((cfg0.slots t 5).cast nbuf0_5)
abbrev ms0_6 (t : Fin cfg0.N) := win0_6.stage (cfg0.slots t 6)
abbrev hs0_6 (t : Fin cfg0.N) := hstage0_6 ((cfg0.slots t 6).cast nbuf0_6)
abbrev ms0_7 (t : Fin cfg0.N) := win0_7.stage (cfg0.slots t 7)
abbrev hs0_7 (t : Fin cfg0.N) := hstage0_7 ((cfg0.slots t 7).cast nbuf0_7)
abbrev ms0_8 (t : Fin cfg0.N) := win0_8.stage (cfg0.slots t 8)
abbrev hs0_8 (t : Fin cfg0.N) := hstage0_8 ((cfg0.slots t 8).cast nbuf0_8)
abbrev ms0_9 (t : Fin cfg0.N) := win0_9.stage (cfg0.slots t 9)
abbrev hs0_9 (t : Fin cfg0.N) := hstage0_9 ((cfg0.slots t 9).cast nbuf0_9)
abbrev ms0_10 (t : Fin cfg0.N) := win0_10.stage (cfg0.slots t 10)
abbrev hs0_10 (t : Fin cfg0.N) := hstage0_10 ((cfg0.slots t 10).cast nbuf0_10)
abbrev ms0_11 (t : Fin cfg0.N) := win0_11.stage (cfg0.slots t 11)
abbrev hs0_11 (t : Fin cfg0.N) := hstage0_11 ((cfg0.slots t 11).cast nbuf0_11)
abbrev ms0_12 (t : Fin cfg0.N) := win0_12.stage (cfg0.slots t 12)
abbrev hs0_12 (t : Fin cfg0.N) := hstage0_12 ((cfg0.slots t 12).cast nbuf0_12)

/-- The invariant: the two scratch buffers at what the point before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ owns (c : Thread nD τ) scM0_1 fullShare (labS m c)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn) ∗ owns (c : Thread nD τ) scM0_1 fullShare (labS m c)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega)) ∗ owns (c : Thread nD τ) scM0_1 fullShare (labS m c)) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => ub m c t
    | ⟨1, _⟩ => wb m c t
    | ⟨2, _⟩ => sb m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => if t.val < 148 then gB m c t else gL m c t
    | ⟨12, _⟩ => dhV m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = ub m c t := by dsimp only [dats]
theorem after0_1 (c : Dev nD) (t : Fin cfg0.N) : (dats m 0 c).after 1 t = wb m c t := by dsimp only [dats]
theorem after0_2 (c : Dev nD) (t : Fin cfg0.N) : (dats m 0 c).after 2 t = sb m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = if t.val < 148 then gB m c t else gL m c t := by dsimp only [dats]
theorem after0_12 (c : Dev nD) (t : Fin cfg0.N) : (dats m 0 c).after 12 t = dhV m c t := by dsimp only [dats]

theorem before0_0 (c : Dev nD) (t : Fin cfg0.N) (d) : (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The labels' window is the same block at every point. -/
theorem lab_const (c : Dev nD) (t : Fin cfg0.N) : (iblk m c 7 t : Vec F S1x1024 .i32) = iblk m c 7 p0 := rfl

end Cert.GradIdeal.Body

end
-- ==== Proof.GradOb.lean ====
module

public import proofs.«01_k».proof.Proof.GradDat
public import proofs.«01_k».proof.Proof.Gen.GradIdeal.Launch
public import proofs.«01_k».proof.Proof.Gen.GradIdeal.Skeleton
public import proofs.«01_k».proof.Proof.Gen.GradIdeal.Points
public import Idealize.ShloMosaic.Lib.Pipeline.FrameBody
public import Idealize.ShloMosaic.Lib.Pipeline.FrameSuffix
public import Idealize.ShloMosaic.Lib.Claim
public import Idealize.ShloMosaic.Lib.Tactic
public import Idealize.ShloMosaic.Lib.VecWindow
public import Idealize.ShloMosaic.Lib.Pipeline.ValueKit

@[expose] public section

set_option maxRecDepth 16384

noncomputable section

namespace Cert.GradIdeal.Body

open Cert.GradIdeal Cert.GradIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lim_last (t : Fin grid0.N) (h : ¬ t.val < 148) : lim t = 384 := if_neg h

theorem cut_ub (c : Dev nD) (t : Fin cfg0.N) : win0_0.cut (grid0.coords t) (ub m c t) = iblk m c 0 t := win0_0.cut_fill _ _ _
theorem cut_wb (c : Dev nD) (t : Fin cfg0.N) : win0_1.cut (grid0.coords t) (wb m c t) = iblk m c 1 t := win0_1.cut_fill _ _ _
theorem cut_sb (c : Dev nD) (t : Fin cfg0.N) : win0_2.cut (grid0.coords t) (sb m c t) = iblk m c 2 t := win0_2.cut_fill _ _ _

/-- Codes agreeing inside the array are cut to the same block. -/
theorem cut11 (t : Fin grid0.N) (g g' : Vec F S1024x1024 .fp8e5m2) (h : AgC (lim t) g g') :
    win0_11.cut (grid0.coords t) g = win0_11.cut (grid0.coords t) g' := by
  funext j
  refine h _ ?_
  have := (j 1).isLt
  exact lt_of_lt_of_eq this (xs11 t).2

/-- What the body makes of fetched buffers, whatever lies past the array's end: before the last point, -/
theorem gB_eq (c : Dev nD) (t : Fin cfg0.N) (ht : t.val < 148) (d0 d2 g) :
    gMid (BitVec.ofNat 32 (grid0.coords t 0).val) (win0_0.fill (grid0.coords t) d0 (iblk m c 0 t)) (win0_2.fill (grid0.coords t) d2 (iblk m c 2 t)) (iblk m c 3 t) (iblk m c 4 t) (iblk m c 5 t) (iblk m c 6 t) g (labS m c) = gB m c t := by
  unfold gB ub sb
  rw [fill0_mid t ht d0 (fun _ => Scalar.ofBits .f32 0#32), fill2_mid t ht d2 (fun _ => Scalar.ofBits .f32 0#32)]
  exact gMid_congr _ _ _ _ _ _ _ _ _ _
/-- and at the last. -/
theorem gL_eq (c : Dev nD) (t : Fin cfg0.N) (ht : ¬ t.val < 148) (d0 d2 g) :
    AgC 384 (gLast (BitVec.ofNat 32 (grid0.coords t 0).val) (win0_0.fill (grid0.coords t) d0 (iblk m c 0 t)) (win0_2.fill (grid0.coords t) d2 (iblk m c 2 t)) (iblk m c 3 t) (iblk m c 4 t) (iblk m c 5 t) (iblk m c 6 t) g (labS m c)) (gL m c t) := by
  have hl : lim t = 384 := if_neg ht
  unfold gL ub sb
  exact gLast_congr _ (fun y hy => fill0 t _ _ _ y (by rw [hl]; exact hy)) (fun y hy => fill2 t _ _ _ y (by rw [hl]; exact hy)) _ _ _ _ _ _ _
theorem wb_eq (c : Dev nD) (t : Fin cfg0.N) (ht : t.val < 148) (d1) : win0_1.fill (grid0.coords t) d1 (iblk m c 1 t) = wb m c t :=
  fill1_mid t ht _ _ _
theorem lastAcc_eq (c : Dev nD) (t : Fin cfg0.N) (ht : ¬ t.val < 148) (a : Vec F S1024x2560 .f32) (g : Vec F S1024x1024 .fp8e5m2) (hg : AgC 384 g (gL m c t))
    (w : Vec F S1024x2560 .fp8e4m3) (hw : ∀ y : S1024x2560.Idx, (y 0).val < 384 → w y = wb m c t y) :
    k0_pay29 a (View.ld g (Rect.unit (s := S1024x1024) ![0, 0] S1024x384.size inb_S1024x1024_S1024x384_0_0)) (View.ld w (Rect.unit (s := S1024x2560) ![0, 0] S384x2560.size inb_S1024x2560_S384x2560_0_0)) = lastAcc a (gL m c t) (wb m c t) := by
  unfold lastAcc
  rw [hg.ld384, ldW hw]

theorem defs₀_row (t : Fin cfg0.N) : defs₀ (F := F) .tc cfg0.body (cfg0.bodyArgs t (cfg0.slots t)) = bodyAt0 t := by
  unfold defs₀; rw [Defs.onTc_tc]

set_option maxHeartbeats 14400000 in
/-- The body's obligation at each point. -/
theorem body_obligation (c : Dev nD) : BodyObligationLoose (dats m 0 c) (defs₀ (F := F)) Variants.none () Set.univ := fun t => by
  rw [bigSep_W0, bigSep_W0, defs₀_row]
  simp only
  rw [show (dats m 0 c).owesAt () t.succ = (dats m 0 c).owesAt () t.castSucc from rfl]
  rw [show (dats m 0 c).Φ t.succ = PhiS m c (t.val + 1) t.isLt from rfl, PhiS_succ, PhiS_castSucc]
  have hN : t.val < 149 := lt_of_lt_of_eq t.isLt (show cfg0.N = 149 from N_0)
  by_cases h148 : t.val < 148
  · have c2 := (hc2 t).mpr h148
    have c3 : ¬ k0_cond3 (grid0.coords t) = 1#1 := fun h => by have := (hc3 t).mp h; omega
    have hi : idle0 12 (grid0.coords t) = true := by
      show (!(k0_cond3 (grid0.coords t) == 1#1)) = true
      rw [beq_false_of_ne c3]; rfl
    have hf : (cfg0.win 12).flush t = false := by
      rw [Bool.eq_false_iff]; intro h; have := (flush0_12 t).mp h; omega
    have hi1 : idle0 11 (grid0.coords t) = false := by
      show (!(k0_cond2 (grid0.coords t) == 1#1) && !(k0_cond3 (grid0.coords t) == 1#1)) = false
      rw [c2]; rfl
    have hf' : (win0 12).flush t = false := hf
    simp only [hi, hi1, hf']
    have h11 : (dats m 0 c).after 11 t = gB m c t := (after0_11 m c t).trans (if_pos h148)
    by_cases h0 : t.val = 0
    · rw [PhiS_zero m c _ _ h0, PhiA0_eq, accAt_zero m c t h0]
      have c1 := (hc1 t).mpr h0
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      rw [before0_0 m c t d0, before0_1 m c t d1, before0_2 m c t d2, before0_3 m c t d3, before0_4 m c t d4, before0_5 m c t d5, before0_6 m c t d6, before0_7 m c t d7, before0_8 m c t d8, before0_9 m c t d9, before0_10 m c t d10]
      unfold bodyAt0
      have hg := gB_eq m c t h148 d0 d2 ((dats m 0 c).before 11 t d11)
      have hw := wb_eq m c t h148 d1
      iapply (body_first c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) ((dats m 0 c).before 11 t d11) ((dats m 0 c).before 12 t d12) e0 e1 c1 c2 c3 _)
      isplitl [H0 H1 H2 H3 H4 H5 H6 H7 H8 H9 H10 H11 H12 HS0 HS1]
      · unfold St
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        iexact HS1
      rw [show k0_pay1 (iblk m c 7 t) = labS m c from rfl, hg, hw]
      unfold St
      iintro ⟨H0, H1, H2, H3, H4, H5, H6, H7, H8, H9, H10, H11, H12, HS0, HS1⟩
      isplitl [HS0 HS1 Hg]
      · isplitl [HS0 HS1]
        · isplitl [HS0]
          · iexact HS0
          · iexact HS1
        iexact Hg
      isplitl [Ho]; · iexact Ho
      isplitl [H0]
      · iexists d0
        change _ ⊢ owns (c : Thread nD τ) (ms0_0 t) fullShare (win0_0.fill (grid0.coords t) d0 (win0_0.cut (grid0.coords t) (ub m c t)))
        rw [cut_ub]
        try exact Idealize.SL.BI.Entails.refl _
      isplitl [H1]
      · iexists d1
        change _ ⊢ owns (c : Thread nD τ) (ms0_1 t) fullShare (win0_1.fill (grid0.coords t) d1 (win0_1.cut (grid0.coords t) (wb m c t)))
        rw [cut_wb, hw]
        try exact Idealize.SL.BI.Entails.refl _
      isplitl [H2]
      · iexists d2
        change _ ⊢ owns (c : Thread nD τ) (ms0_2 t) fullShare (win0_2.fill (grid0.coords t) d2 (win0_2.cut (grid0.coords t) (sb m c t)))
        rw [cut_sb]
        try exact Idealize.SL.BI.Entails.refl _
      isplitl [H3]
      · change _ ⊢ owns (c : Thread nD τ) (ms0_3 t) fullShare (iblk m c 3 t)
        exact Idealize.SL.BI.Entails.refl _
      isplitl [H4]
      · change _ ⊢ owns (c : Thread nD τ) (ms0_4 t) fullShare (iblk m c 4 t)
        exact Idealize.SL.BI.Entails.refl _
      isplitl [H5]
      · change _ ⊢ owns (c : Thread nD τ) (ms0_5 t) fullShare (iblk m c 5 t)
        exact Idealize.SL.BI.Entails.refl _
      isplitl [H6]
      · change _ ⊢ owns (c : Thread nD τ) (ms0_6 t) fullShare (iblk m c 6 t)
        exact Idealize.SL.BI.Entails.refl _
      isplitl [H7]
      · change _ ⊢ owns (c : Thread nD τ) (ms0_7 t) fullShare (iblk m c 7 t)
        exact Idealize.SL.BI.Entails.refl _
      isplitl [H8]
      · change _ ⊢ owns (c : Thread nD τ) (ms0_8 t) fullShare (iblk m c 8 t)
        exact Idealize.SL.BI.Entails.refl _
      isplitl [H9]
      · change _ ⊢ owns (c : Thread nD τ) (ms0_9 t) fullShare (iblk m c 9 t)
        exact Idealize.SL.BI.Entails.refl _
      isplitl [H10]
      · change _ ⊢ owns (c : Thread nD τ) (ms0_10 t) fullShare (iblk m c 10 t)
        exact Idealize.SL.BI.Entails.refl _
      isplitl [H11]
      · iexists gB m c t
        change _ ⊢ owns (c : Thread nD τ) (ms0_11 t) fullShare (win0_11.fill (grid0.coords t) (gB m c t) (win0_11.cut (grid0.coords t) ((dats m 0 c).after 11 t)))
        rw [h11, win0_11.fill_cut]
        try exact Idealize.SL.BI.Entails.refl _
      · iexists d12
        iexact H12
    · rw [PhiS_pos m c _ _ h0, accAt_mid m c t h0 h148]
      have c1 := fun h => h0 ((hc1 t).mp h)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      rw [before0_0 m c t d0, before0_1 m c t d1, before0_2 m c t d2, before0_3 m c t d3, before0_4 m c t d4, before0_5 m c t d5, before0_6 m c t d6, before0_7 m c t d7, before0_8 m c t d8, before0_9 m c t d9, before0_10 m c t d10]
      unfold bodyAt0
      have hg := gB_eq m c t h148 d0 d2 ((dats m 0 c).before 11 t d11)
      have hw := wb_eq m c t h148 d1
      iapply (body_mid c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) ((dats m 0 c).before 11 t d11) ((dats m 0 c).before 12 t d12) (accAt m c (t.val - 1) (by have := t.isLt; omega)) (labS m c) c1 c2 c3 _)
      isplitl [H0 H1 H2 H3 H4 H5 H6 H7 H8 H9 H10 H11 H12 HS0 HS1]
      · unfold St
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        iexact HS1
      rw [hg, hw]
      unfold St
      iintro ⟨H0, H1, H2, H3, H4, H5, H6, H7, H8, H9, H10, H11, H12, HS0, HS1⟩
      isplitl [HS0 HS1 Hg]
      · isplitl [HS0 HS1]
        · isplitl [HS0]
          · iexact HS0
          · iexact HS1
        iexact Hg
      isplitl [Ho]; · iexact Ho
      isplitl [H0]
      · iexists d0
        change _ ⊢ owns (c : Thread nD τ) (ms0_0 t) fullShare (win0_0.fill (grid0.coords t) d0 (win0_0.cut (grid0.coords t) (ub m c t)))
        rw [cut_ub]
        try exact Idealize.SL.BI.Entails.refl _
      isplitl [H1]
      · iexists d1
        change _ ⊢ owns (c : Thread nD τ) (ms0_1 t) fullShare (win0_1.fill (grid0.coords t) d1 (win0_1.cut (grid0.coords t) (wb m c t)))
        rw [cut_wb, hw]
        try exact Idealize.SL.BI.Entails.refl _
      isplitl [H2]
      · iexists d2
        change _ ⊢ owns (c : Thread nD τ) (ms0_2 t) fullShare (win0_2.fill (grid0.coords t) d2 (win0_2.cut (grid0.coords t) (sb m c t)))
        rw [cut_sb]
        try exact Idealize.SL.BI.Entails.refl _
      isplitl [H3]
      · change _ ⊢ owns (c : Thread nD τ) (ms0_3 t) fullShare (iblk m c 3 t)
        exact Idealize.SL.BI.Entails.refl _
      isplitl [H4]
      · change _ ⊢ owns (c : Thread nD τ) (ms0_4 t) fullShare (iblk m c 4 t)
        exact Idealize.SL.BI.Entails.refl _
      isplitl [H5]
      · change _ ⊢ owns (c : Thread nD τ) (ms0_5 t) fullShare (iblk m c 5 t)
        exact Idealize.SL.BI.Entails.refl _
      isplitl [H6]
      · change _ ⊢ owns (c : Thread nD τ) (ms0_6 t) fullShare (iblk m c 6 t)
        exact Idealize.SL.BI.Entails.refl _
      isplitl [H7]
      · change _ ⊢ owns (c : Thread nD τ) (ms0_7 t) fullShare (iblk m c 7 t)
        exact Idealize.SL.BI.Entails.refl _
      isplitl [H8]
      · change _ ⊢ owns (c : Thread nD τ) (ms0_8 t) fullShare (iblk m c 8 t)
        exact Idealize.SL.BI.Entails.refl _
      isplitl [H9]
      · change _ ⊢ owns (c : Thread nD τ) (ms0_9 t) fullShare (iblk m c 9 t)
        exact Idealize.SL.BI.Entails.refl _
      isplitl [H10]
      · change _ ⊢ owns (c : Thread nD τ) (ms0_10 t) fullShare (iblk m c 10 t)
        exact Idealize.SL.BI.Entails.refl _
      isplitl [H11]
      · iexists gB m c t
        change _ ⊢ owns (c : Thread nD τ) (ms0_11 t) fullShare (win0_11.fill (grid0.coords t) (gB m c t) (win0_11.cut (grid0.coords t) ((dats m 0 c).after 11 t)))
        rw [h11, win0_11.fill_cut]
        try exact Idealize.SL.BI.Entails.refl _
      · iexists d12
        iexact H12
  · have c2 := fun h => h148 ((hc2 t).mp h)
    have ht : t.val = 148 := by omega
    have c3 := (hc3 t).mpr ht
    have h0 : t.val ≠ 0 := by omega
    have c1 := fun h => h0 ((hc1 t).mp h)
    have hi : idle0 12 (grid0.coords t) = false := by
      show (!(k0_cond3 (grid0.coords t) == 1#1)) = false
      rw [c3]; rfl
    have hi1 : idle0 11 (grid0.coords t) = false := by
      show (!(k0_cond2 (grid0.coords t) == 1#1) && !(k0_cond3 (grid0.coords t) == 1#1)) = false
      rw [c3]; exact Bool.and_false _
    simp only [hi, hi1]
    have h11 : (dats m 0 c).after 11 t = gL m c t := (after0_11 m c t).trans (if_neg h148)
    rw [PhiS_pos m c _ _ h0, accAt_last m c t h0 h148]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    rw [before0_0 m c t d0, before0_1 m c t d1, before0_2 m c t d2, before0_3 m c t d3, before0_4 m c t d4, before0_5 m c t d5, before0_6 m c t d6, before0_7 m c t d7, before0_8 m c t d8, before0_9 m c t d9, before0_10 m c t d10]
    unfold bodyAt0
    have hg := gL_eq m c t h148 d0 d2 ((dats m 0 c).before 11 t d11)
    have hacc := lastAcc_eq m c t h148 (accAt m c (t.val - 1) (by have := t.isLt; omega)) _ hg (win0_1.fill (grid0.coords t) d1 (iblk m c 1 t)) (fun y hy => fill1 t _ _ _ y (by rw [lim_last t h148]; exact hy))
    have hcut := cut11 t _ _ (show AgC (lim t) _ _ from (lim_last t h148).symm ▸ hg)
    iapply (body_last c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (win0_0.fill (grid0.coords t) d0 (iblk m c 0 t)) (win0_1.fill (grid0.coords t) d1 (iblk m c 1 t)) (win0_2.fill (grid0.coords t) d2 (iblk m c 2 t)) (iblk m c 3 t) (iblk m c 4 t) (iblk m c 5 t) (iblk m c 6 t) (iblk m c 7 t) (iblk m c 8 t) (iblk m c 9 t) (iblk m c 10 t) ((dats m 0 c).before 11 t d11) ((dats m 0 c).before 12 t d12) (accAt m c (t.val - 1) (by have := t.isLt; omega)) (labS m c) c1 c2 c3 _)
    isplitl [H0 H1 H2 H3 H4 H5 H6 H7 H8 H9 H10 H11 H12 HS0 HS1]
    · unfold St
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iexact HS1
    rw [hacc, ← accAt_last m c t h0 h148, dhLast_congr _ _ _ _ (fun _ => Scalar.ofBits .bf16 0#16)]
    unfold St
    iintro ⟨H0, H1, H2, H3, H4, H5, H6, H7, H8, H9, H10, H11, H12, HS0, HS1⟩
    isplitl [HS0 HS1 Hg]
    · isplitl [HS0 HS1]
      · isplitl [HS0]
        · iexact HS0
        · iexact HS1
      iexact Hg
    isplitl [Ho]; · iexact Ho
    isplitl [H0]
    · iexists d0
      change _ ⊢ owns (c : Thread nD τ) (ms0_0 t) fullShare (win0_0.fill (grid0.coords t) d0 (win0_0.cut (grid0.coords t) (ub m c t)))
      rw [cut_ub]
      try exact Idealize.SL.BI.Entails.refl _
    isplitl [H1]
    · iexists d1
      change _ ⊢ owns (c : Thread nD τ) (ms0_1 t) fullShare (win0_1.fill (grid0.coords t) d1 (win0_1.cut (grid0.coords t) (wb m c t)))
      rw [cut_wb]
      try exact Idealize.SL.BI.Entails.refl _
    isplitl [H2]
    · iexists d2
      change _ ⊢ owns (c : Thread nD τ) (ms0_2 t) fullShare (win0_2.fill (grid0.coords t) d2 (win0_2.cut (grid0.coords t) (sb m c t)))
      rw [cut_sb]
      try exact Idealize.SL.BI.Entails.refl _
    isplitl [H3]
    · change _ ⊢ owns (c : Thread nD τ) (ms0_3 t) fullShare (iblk m c 3 t)
      exact Idealize.SL.BI.Entails.refl _
    isplitl [H4]
    · change _ ⊢ owns (c : Thread nD τ) (ms0_4 t) fullShare (iblk m c 4 t)
      exact Idealize.SL.BI.Entails.refl _
    isplitl [H5]
    · change _ ⊢ owns (c : Thread nD τ) (ms0_5 t) fullShare (iblk m c 5 t)
      exact Idealize.SL.BI.Entails.refl _
    isplitl [H6]
    · change _ ⊢ owns (c : Thread nD τ) (ms0_6 t) fullShare (iblk m c 6 t)
      exact Idealize.SL.BI.Entails.refl _
    isplitl [H7]
    · change _ ⊢ owns (c : Thread nD τ) (ms0_7 t) fullShare (iblk m c 7 t)
      exact Idealize.SL.BI.Entails.refl _
    isplitl [H8]
    · change _ ⊢ owns (c : Thread nD τ) (ms0_8 t) fullShare (iblk m c 8 t)
      exact Idealize.SL.BI.Entails.refl _
    isplitl [H9]
    · change _ ⊢ owns (c : Thread nD τ) (ms0_9 t) fullShare (iblk m c 9 t)
      exact Idealize.SL.BI.Entails.refl _
    isplitl [H10]
    · change _ ⊢ owns (c : Thread nD τ) (ms0_10 t) fullShare (iblk m c 10 t)
      exact Idealize.SL.BI.Entails.refl _
    isplitl [H11]
    · iexists _
      change _ ⊢ owns (c : Thread nD τ) (ms0_11 t) fullShare (win0_11.fill (grid0.coords t) _ (win0_11.cut (grid0.coords t) ((dats m 0 c).after 11 t)))
      rw [h11, ← hcut, win0_11.fill_cut]
      try exact Idealize.SL.BI.Entails.refl _
    · change _ ⊢ owns (c : Thread nD τ) (ms0_12 t) fullShare (dhV m c t)
      exact Idealize.SL.BI.Entails.refl _

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 149 := N_0; omega)

/-! ## The run and the frame -/

set_option backward.isDefEq.respectTransparency.types false in
/-- The launch: every array at what the proof data computes, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter is at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10)) ∧ r.2.sem = fun _ => 0) :=
  θ_run_and (frame_of m ρ (dats m) (A_eq m) (run_main m ρ)) ((θ_run defs _ _).mono (fun _ h => h.2) (run_main_quiescent m ρ))

end Cert.GradIdeal.Body

end
-- ==== Proof.PlainGradOb.lean ====
module

public import proofs.«01_k».proof.Proof.GradOb
public import proofs.«01_k».proof.Proof.Gen.Grad

@[expose] public section

set_option maxRecDepth 65536
set_option maxHeartbeats 4000000

/-! # The gradient call on machine words: its frame -/

noncomputable section
open Idealize.ShloMosaic Idealize.SL.Sem

namespace Cert.Grad.Body

/-- The program and its idealization are printed alike, so one proof over any arithmetic serves both. -/
theorem main_same : Cert.GradIdeal.main (F := Bits) = Cert.Grad.main (F := Bits) := by
  rfl

/-- The two body tables are the same. -/
theorem bodies_same : Cert.GradIdeal.defs₀ (F := Bits) = Cert.Grad.defs₀ (F := Bits) := by
  unfold Cert.GradIdeal.defs₀ Cert.Grad.defs₀
  refine congrArg Defs.onTc ?_
  funext x p
  match x, p with
  | 0, (t, s) => rfl

theorem defs_same : Cert.GradIdeal.defs (F := Bits) = Cert.Grad.defs (F := Bits) := by
  unfold Cert.GradIdeal.defs Cert.Grad.defs
  exact congrArg (Pipeline.defs Cert.GradIdeal.pcfgs) bodies_same

/-- The frame of the gradient call on machine words. -/
theorem frame :
  ∀ (m : (ℓ : Loc Cert.Grad.nD Cert.Grad.τ Cert.Grad.sig) → Buf (Elt Bits) ℓ) (g : Dev Cert.Grad.nD → PrngReg),
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4)
      ∧ r.2.mem ((c.tc : Thread Cert.Grad.nD Cert.Grad.τ).loc Cert.Grad.main_arg5) = m ((c.tc : Thread Cert.Grad.nD Cert.Grad.τ).loc Cert.Grad.main_arg5)
      ∧ r.2.mem ((c.tc : Thread Cert.Grad.nD Cert.Grad.τ).loc Cert.Grad.main_arg6) = m ((c.tc : Thread Cert.Grad.nD Cert.Grad.τ).loc Cert.Grad.main_arg6)
      ∧ r.2.mem ((c.tc : Thread Cert.Grad.nD Cert.Grad.τ).loc Cert.Grad.main_arg7) = m ((c.tc : Thread Cert.Grad.nD Cert.Grad.τ).loc Cert.Grad.main_arg7)
      ∧ r.2.mem ((c.tc : Thread Cert.Grad.nD Cert.Grad.τ).loc Cert.Grad.main_arg8) = m ((c.tc : Thread Cert.Grad.nD Cert.Grad.τ).loc Cert.Grad.main_arg8)
      ∧ r.2.mem ((c.tc : Thread Cert.Grad.nD Cert.Grad.τ).loc Cert.Grad.main_arg9) = m ((c.tc : Thread Cert.Grad.nD Cert.Grad.τ).loc Cert.Grad.main_arg9)
      ∧ r.2.mem ((c.tc : Thread Cert.Grad.nD Cert.Grad.τ).loc Cert.Grad.main_arg10) = m ((c.tc : Thread Cert.Grad.nD Cert.Grad.τ).loc Cert.Grad.main_arg10))
      ∧ r.2.sem = fun _ => 0) := by
  intro m g
  rw [← main_same, ← defs_same]
  exact Cert.GradIdeal.Body.frame (F := Bits) m g

end Cert.Grad.Body

end
-- ==== Proof.GradValue.lean ====
module

public import proofs.«01_k».proof.Proof.GradOb
public import proofs.«01_k».proof.Proof.Gen.GradReferenceIdeal.Frame
public import Idealize.ShloMosaic.Lib.Pipeline.ValueKit
public import Idealize.ShloMosaic.Lib.Claim
public import Idealize.ShloMosaic.Lib.ValueLayoutCasts

@[expose] public section

set_option maxRecDepth 16384

/-! # What the gradient call leaves, against the same mathematics on whole arrays -/

noncomputable section
open Idealize.ShloMosaic Idealize.ShloMosaic.TcCoe Idealize.SL.Sem
open Idealize.ShloMosaic.Pipeline (Dat)

namespace Cert.GradValue

/-- One entry of the codes: the softmax term and the label's term, scaled and clipped. -/
def el (u s xs mx ca cy : EReal) (lab col : BitVec 32) : EReal :=
  min (Ideal.ofBits FTy.f32 1197473792#32) (max (Ideal.ofBits FTy.f32 3344957440#32)
    ((ca * FloatOps.exp2 (F := Ideal) (φ := .f32) (xs * Ideal.ofBits FTy.f32 1072092362#32 * (u - mx)) + Scalar.select (IntOp.cmpi .eq lab col) cy (0 : EReal)) * s))

end Cert.GradValue
namespace Cert.GradIdeal.Value
open Cert.GradIdeal Cert.GradIdeal.Gen Cert.GradIdeal.Body Cert.GradValue

/-- One column strip of the codes. -/
def gs (a c : BitVec 32) (u : Vec Ideal S1024x128 .f32) (s : Vec Ideal S1x128 .f32) (x4 x5 x6 x7 : Vec Ideal S1024x128 .f32) (l : Vec Ideal S1024x128 .i32) : FVec Ideal S1024x128 .fp8e5m2 :=
  k0_pay3 (k0_pay6 a) (k0_pay21 (k0_pay7 x4) u x5 x6) l c x7 s

theorem gs_apply (a c : BitVec 32) (u : Vec Ideal S1024x128 .f32) (s : Vec Ideal S1x128 .f32) (x4 x5 x6 x7 : Vec Ideal S1024x128 .f32) (l : Vec Ideal S1024x128 .i32) (r : Fin 1024) (k : Fin 128) :
    gs a c u s x4 x5 x6 x7 l (ix2 r k) = el (u (ix2 r k)) (s (ix2 0 k)) (x4 (ix2 r k)) (x5 (ix2 r k)) (x6 (ix2 r k)) (x7 (ix2 r k)) (l (ix2 r k)) (BitVec.ofNat 32 k.val + a * 1024#32 + c) := by
  pointwise [gs, k0_pay3, k0_pay6, k0_pay7, k0_pay21, el]
  rfl

theorem lab_apply (l : Vec Ideal S1x1024 .i32) (r : Fin 1024) (k : Fin 128) : k0_pay1 (F := Ideal) l (ix2 r k) = l (ix2 0 r) := by
  pointwise [k0_pay1]
  split_ifs <;> first
    | rfl
    | exact congrArg (fun z => l (ix2 0 z)) (Fin.ext (by have := r.isLt; simp only []; omega))
theorem gsc_apply (g : Vec Ideal S1x1024 .f32) (r : Fin 1024) (k : Fin 128) : k0_pay32 (k0_pay30 g) (k0_pay31 g) (ix2 r k) = g (ix2 0 r) := by
  pointwise [k0_pay30, k0_pay31, k0_pay32]
  split_ifs <;> first
    | rfl
    | exact congrArg (fun z => g (ix2 0 z)) (Fin.ext (by have := r.isLt; simp only []; omega))

/-- Putting a column strip that is a function's strip. -/
theorem put_fun {e : EltTy} (g : S1024x1024.Idx → Elt Ideal e) (n : ℕ) (x : Vec Ideal S1024x1024 e) (w : Vec Ideal S1024x128 e)
    (hx : ∀ y : S1024x1024.Idx, (y 1).val < n → x y = g y)
    (hw : ∀ (r : Fin 1024) (k : Fin 128) (j : Fin 1024), j.val = n + k.val → w (ix2 r k) = g (ix2 r j)) :
    ∀ y : S1024x1024.Idx, (y 1).val < n + 128 → VecWindow.put (s := S1024x1024) x ![0, n] S1024x128.size w y = g y := by
  intro y hy
  obtain ⟨r, j, rfl⟩ : ∃ (r : Fin 1024) (j : Fin 1024), y = ix2 r j := ⟨y 0, y 1, eq_ix2 y⟩
  have hy : j.val < n + 128 := hy
  unfold VecWindow.put
  split
  · rename_i hn
    have h1 : n ≤ j.val := (hn 1).1
    refine Eq.trans (congrArg w ?_) (hw r ⟨j.val - n, by omega⟩ j (by show j.val = n + (j.val - n); omega))
    funext a
    match a with
    | ⟨0, _⟩ => exact Fin.ext (Nat.sub_zero _)
    | ⟨1, _⟩ => rfl
  · rename_i hn
    refine hx _ ?_
    show j.val < n
    by_contra hc
    apply hn
    intro a
    match a with
    | ⟨0, _⟩ => exact ⟨Nat.zero_le _, by simpa using r.isLt⟩
    | ⟨1, _⟩ => exact ⟨by simpa using hc, by simpa using hy⟩

theorem putR_fun {e : EltTy} (g : S1024x2560.Idx → Elt Ideal e) (n : ℕ) (x : Vec Ideal S1024x2560 e) (w : Vec Ideal S64x2560 e)
    (hx : ∀ y : S1024x2560.Idx, (y 0).val < n → x y = g y)
    (hw : ∀ (r : Fin 64) (k : Fin 2560) (i : Fin 1024), i.val = n + r.val → w (ix2 r k) = g (ix2 i k)) :
    ∀ y : S1024x2560.Idx, (y 0).val < n + 64 → VecWindow.put (s := S1024x2560) x ![n, 0] S64x2560.size w y = g y := by
  intro y hy
  obtain ⟨i, k, rfl⟩ : ∃ (i : Fin 1024) (k : Fin 2560), y = ix2 i k := ⟨y 0, y 1, eq_ix2 y⟩
  have hy : i.val < n + 64 := hy
  unfold VecWindow.put
  split
  · rename_i hn
    have h1 : n ≤ i.val := (hn 0).1
    refine Eq.trans (congrArg w ?_) (hw ⟨i.val - n, by omega⟩ k i (by show i.val = n + (i.val - n); omega))
    funext a
    match a with
    | ⟨0, _⟩ => rfl
    | ⟨1, _⟩ => exact Fin.ext (Nat.sub_zero _)
  · rename_i hn
    refine hx _ ?_
    show i.val < n
    by_contra hc
    apply hn
    intro a
    match a with
    | ⟨0, _⟩ => exact ⟨by simpa using hc, by simpa using hy⟩
    | ⟨1, _⟩ => exact ⟨Nat.zero_le _, by simpa using k.isLt⟩

theorem bv_col (a : BitVec 32) (n k j : ℕ) (h : j = n + k) : BitVec.ofNat 32 k + a * 1024#32 + BitVec.ofNat 32 n = BitVec.ofNat 32 j + a * 1024#32 := by
  subst h
  rw [BitVec.ofNat_add]
  ac_rfl

/-- A whole block of codes. -/
def gF (a : BitVec 32) (u : Vec Ideal S1024x1024 .f32) (s : Vec Ideal S1x1024 .f32) (x4 x5 x6 x7 : Vec Ideal S1024x128 .f32) (l : Vec Ideal S1024x128 .i32) : S1024x1024.Idx → EReal :=
  fun y => el (u y) (s (ix2 0 (y 1))) (x4 (ix2 (y 0) 0)) (x5 (ix2 (y 0) 0)) (x6 (ix2 (y 0) 0)) (x7 (ix2 (y 0) 0)) (l (ix2 (y 0) 0)) (BitVec.ofNat 32 (y 1).val + a * 1024#32)

/-- The lanes of a column hold one value. -/
def Lanes {e : EltTy} (x : Vec Ideal S1024x128 e) : Prop := ∀ (r : Fin 1024) (k : Fin 128), x (ix2 r k) = x (ix2 r 0)

theorem strip_ok (n : ℕ) (hn : n + 128 ≤ 1024) (a : BitVec 32) (u : Vec Ideal S1024x1024 .f32) (s : Vec Ideal S1x1024 .f32) (x4 x5 x6 x7 : Vec Ideal S1024x128 .f32) (l : Vec Ideal S1024x128 .i32)
    (h4 : Lanes x4) (h5 : Lanes x5) (h6 : Lanes x6) (h7 : Lanes x7) (hl : Lanes l)
    (i1 : ∀ a, (![0, n] : Fin 2 → ℕ) a + S1024x128.size a ≤ S1024x1024.size a) (i2 : ∀ a, (![0, n] : Fin 2 → ℕ) a + S1x128.size a ≤ S1x1024.size a)
    (r : Fin 1024) (k : Fin 128) (j : Fin 1024) (hj : j.val = n + k.val) :
    gs a (BitVec.ofNat 32 n) (View.ld u (Rect.unit (s := S1024x1024) ![0, n] S1024x128.size i1)) (View.ld s (Rect.unit (s := S1x1024) ![0, n] S1x128.size i2)) x4 x5 x6 x7 l (ix2 r k)
      = gF a u s x4 x5 x6 x7 l (ix2 r j) := by
  refine (gs_apply _ _ _ _ _ _ _ _ _ r k).trans ?_
  rw [h4 r k, h5 r k, h6 r k, h7 r k, hl r k, bv_col a n k.val j.val hj]
  have e1 : View.ld u (Rect.unit (s := S1024x1024) ![0, n] S1024x128.size i1) (ix2 r k) = u (ix2 r j) := by
    refine congrArg u ?_
    funext b
    match b with
    | ⟨0, _⟩ => exact Fin.ext (by show 0 + 1 * r.val = r.val; omega)
    | ⟨1, _⟩ => exact Fin.ext (by show n + 1 * k.val = j.val; omega)
  have e2 : View.ld s (Rect.unit (s := S1x1024) ![0, n] S1x128.size i2) (ix2 0 k) = s (ix2 0 j) := by
    refine congrArg s ?_
    funext b
    match b with
    | ⟨0, _⟩ => exact Fin.ext rfl
    | ⟨1, _⟩ => exact Fin.ext (by show n + 1 * k.val = j.val; omega)
  rw [e1, e2]
  rfl

theorem gMid_fun (a : BitVec 32) (u : Vec Ideal S1024x1024 .f32) (s : Vec Ideal S1x1024 .f32) (x4 x5 x6 x7 : Vec Ideal S1024x128 .f32) (x12 : Vec Ideal S1024x1024 .fp8e5m2) (l : Vec Ideal S1024x128 .i32)
    (h4 : Lanes x4) (h5 : Lanes x5) (h6 : Lanes x6) (h7 : Lanes x7) (hl : Lanes l) :
    gMid a u s x4 x5 x6 x7 x12 l = gF a u s x4 x5 x6 x7 l := by
  have h : ∀ y : S1024x1024.Idx, (y 1).val < 1024 → gMid a u s x4 x5 x6 x7 x12 l y = gF a u s x4 x5 x6 x7 l y := by
    unfold gMid
    refine put_fun _ 896 _ _ ?_ (strip_ok 896 (by decide) a u s x4 x5 x6 x7 l h4 h5 h6 h7 hl inb_S1024x1024_S1024x128_0_896 inb_S1x1024_S1x128_0_896)
    refine put_fun _ 768 _ _ ?_ (strip_ok 768 (by decide) a u s x4 x5 x6 x7 l h4 h5 h6 h7 hl inb_S1024x1024_S1024x128_0_768 inb_S1x1024_S1x128_0_768)
    refine put_fun _ 640 _ _ ?_ (strip_ok 640 (by decide) a u s x4 x5 x6 x7 l h4 h5 h6 h7 hl inb_S1024x1024_S1024x128_0_640 inb_S1x1024_S1x128_0_640)
    refine put_fun _ 512 _ _ ?_ (strip_ok 512 (by decide) a u s x4 x5 x6 x7 l h4 h5 h6 h7 hl inb_S1024x1024_S1024x128_0_512 inb_S1x1024_S1x128_0_512)
    refine put_fun _ 384 _ _ ?_ (strip_ok 384 (by decide) a u s x4 x5 x6 x7 l h4 h5 h6 h7 hl inb_S1024x1024_S1024x128_0_384 inb_S1x1024_S1x128_0_384)
    refine put_fun _ 256 _ _ ?_ (strip_ok 256 (by decide) a u s x4 x5 x6 x7 l h4 h5 h6 h7 hl inb_S1024x1024_S1024x128_0_256 inb_S1x1024_S1x128_0_256)
    refine put_fun _ 128 _ _ ?_ (strip_ok 128 (by decide) a u s x4 x5 x6 x7 l h4 h5 h6 h7 hl inb_S1024x1024_S1024x128_0_128 inb_S1x1024_S1x128_0_128)
    refine put_fun _ 0 _ _ ?_ (strip_ok 0 (by decide) a u s x4 x5 x6 x7 l h4 h5 h6 h7 hl inb_S1024x1024_S1024x128_0_0 inb_S1x1024_S1x128_0_0)
    intro y hy
    exact absurd hy (Nat.not_lt_zero _)
  exact funext fun y => h y (y 1).isLt

theorem gLast_fun (a : BitVec 32) (u : Vec Ideal S1024x1024 .f32) (s : Vec Ideal S1x1024 .f32) (x4 x5 x6 x7 : Vec Ideal S1024x128 .f32) (x12 : Vec Ideal S1024x1024 .fp8e5m2) (l : Vec Ideal S1024x128 .i32)
    (h4 : Lanes x4) (h5 : Lanes x5) (h6 : Lanes x6) (h7 : Lanes x7) (hl : Lanes l) :
    ∀ y : S1024x1024.Idx, (y 1).val < 384 → gLast a u s x4 x5 x6 x7 x12 l y = gF a u s x4 x5 x6 x7 l y := by
  unfold gLast
  refine put_fun _ 256 _ _ ?_ (strip_ok 256 (by decide) a u s x4 x5 x6 x7 l h4 h5 h6 h7 hl inb_S1024x1024_S1024x128_0_256 inb_S1x1024_S1x128_0_256)
  refine put_fun _ 128 _ _ ?_ (strip_ok 128 (by decide) a u s x4 x5 x6 x7 l h4 h5 h6 h7 hl inb_S1024x1024_S1024x128_0_128 inb_S1x1024_S1x128_0_128)
  refine put_fun _ 0 _ _ ?_ (strip_ok 0 (by decide) a u s x4 x5 x6 x7 l h4 h5 h6 h7 hl inb_S1024x1024_S1024x128_0_0 inb_S1x1024_S1x128_0_0)
  intro y hy
  exact absurd hy (Nat.not_lt_zero _)
end Cert.GradIdeal.Value

namespace Cert.GradValue
/-- The inverse root mean square of a row. -/
def rrms (x : Fin 2560 → EReal) : EReal :=
  Ideal.div 1 (Ideal.sqrt (Ideal.div (∑ d, x d * x d) (Ideal.ofBits FTy.f32 1159725056#32) + Ideal.ofBits FTy.f32 897988541#32))
/-- The finishing formula of one entry, from a row's parts. -/
def fin (x rr dxh mean : EReal) : EReal := rr * dxh - x * (rr * rr * rr) * mean
/-- The gradient of one row at one channel. -/
def dxr (x a gp : Fin 2560 → EReal) (g : EReal) (k : Fin 2560) : EReal :=
  fin (x k) (rrms x) (a k * g * gp k) (Ideal.div (∑ d, a d * g * gp d * x d) (Ideal.ofBits FTy.f32 1159725056#32))
end Cert.GradValue
namespace Cert.GradIdeal.Value
open Cert.GradIdeal Cert.GradIdeal.Gen Cert.GradIdeal.Body Cert.GradValue

/-- The incoming gradient times the row's scale and the gain. -/
def dxv (a : Vec Ideal S64x2560 .f32) (g : FVec Ideal S64x1 .f32) (gp : Vec Ideal S1x2560 .f32) : FVec Ideal S64x2560 .f32 :=
  mulf (mulf a (broadcastTo S64x2560 g broadcasts_S64x1_S64x2560)) (broadcastTo S64x2560 (shapeCast S1x2560 gp shapeCasts_S1x2560_S1x2560) broadcasts_S1x2560_S64x2560)
/-- One strip of 64 finished rows. -/
def ds (x : Vec Ideal S64x2560 .bf16) (a : Vec Ideal S64x2560 .f32) (g : FVec Ideal S64x1 .f32) (gp : Vec Ideal S1x2560 .f32) : FVec Ideal S64x2560 .bf16 :=
  k0_pay37 (k0_pay33 x) (k0_pay34 x) (dxv a g gp) (mulf (dxv a g gp) (k0_pay33 x))

theorem dxv_apply (a : Vec Ideal S64x2560 .f32) (g : FVec Ideal S64x1 .f32) (gp : Vec Ideal S1x2560 .f32) (r : Fin 64) (k : Fin 2560) :
    dxv a g gp (ix2 r k) = a (ix2 r k) * g (ix2 r 0) * gp (ix2 0 k) := by
  pointwise [dxv]
theorem x_apply (x : Vec Ideal S64x2560 .bf16) (r : Fin 64) (k : Fin 2560) : k0_pay33 x (ix2 r k) = x (ix2 r k) := by
  pointwise [k0_pay33]
theorem rr_apply (x : Vec Ideal S64x2560 .bf16) (r : Fin 64) : k0_pay34 x (ix2 r 0) = rrms (fun k => x (ix2 r k)) := by
  pointwise [k0_pay34, k0_pay33, rrms]
theorem fin_apply (x : FVec Ideal S64x2560 .f32) (rr : FVec Ideal S64x1 .f32) (p q : FVec Ideal S64x2560 .f32) (r : Fin 64) (k : Fin 2560) :
    k0_pay37 x rr p q (ix2 r k) = fin (x (ix2 r k)) (rr (ix2 r 0)) (p (ix2 r k)) (Ideal.div (∑ d, q (ix2 r d)) (Ideal.ofBits FTy.f32 1159725056#32)) := by
  pointwise [k0_pay37, fin]
theorem mul_apply (p q : FVec Ideal S64x2560 .f32) (y : S64x2560.Idx) : mulf p q y = p y * q y := rfl

theorem ds_apply (x : Vec Ideal S64x2560 .bf16) (a : Vec Ideal S64x2560 .f32) (g : FVec Ideal S64x1 .f32) (gp : Vec Ideal S1x2560 .f32) (r : Fin 64) (k : Fin 2560) :
    ds x a g gp (ix2 r k) = dxr (fun k => x (ix2 r k)) (fun k => a (ix2 r k)) (fun k => gp (ix2 0 k)) (g (ix2 r 0)) k := by
  refine (fin_apply _ _ _ _ r k).trans ?_
  simp only [mul_apply, dxv_apply, x_apply, rr_apply]
  rfl

/-- The whole finished gradient. -/
def dF (g : Vec Ideal S1x1024 .f32) (x : Vec Ideal S1024x2560 .bf16) (gp : Vec Ideal S1x2560 .f32) (a : Vec Ideal S1024x2560 .f32) : S1024x2560.Idx → EReal :=
  fun y => dxr (fun k => x (ix2 (y 0) k)) (fun k => a (ix2 (y 0) k)) (fun k => gp (ix2 0 k)) (g (ix2 0 (y 0))) (y 1)

theorem ldR {e : EltTy} (x : Vec Ideal S1024x2560 e) (n : ℕ) (i1 : ∀ a, (![n, 0] : Fin 2 → ℕ) a + S64x2560.size a ≤ S1024x2560.size a)
    (r : Fin 64) (k : Fin 2560) (i : Fin 1024) (hi : i.val = n + r.val) :
    View.ld x (Rect.unit (s := S1024x2560) ![n, 0] S64x2560.size i1) (ix2 r k) = x (ix2 i k) := by
  refine congrArg x ?_
  funext b
  match b with
  | ⟨0, _⟩ => exact Fin.ext (by show n + 1 * r.val = i.val; omega)
  | ⟨1, _⟩ => exact Fin.ext (by show 0 + 1 * k.val = k.val; omega)

theorem dstrip_ok (n : ℕ) (g : Vec Ideal S1x1024 .f32) (x : Vec Ideal S1024x2560 .bf16) (gp : Vec Ideal S1x2560 .f32) (a : Vec Ideal S1024x2560 .f32)
    (i1 : ∀ a, (![n, 0] : Fin 2 → ℕ) a + S64x2560.size a ≤ S1024x2560.size a) (hs : S1024x128.Slices ![n, 0] S64x1)
    (r : Fin 64) (k : Fin 2560) (i : Fin 1024) (hi : i.val = n + r.val) :
    ds (View.ld x (Rect.unit (s := S1024x2560) ![n, 0] S64x2560.size i1)) (View.ld a (Rect.unit (s := S1024x2560) ![n, 0] S64x2560.size i1))
      (extractStridedSlice S64x1 ![n, 0] (k0_pay32 (k0_pay30 g) (k0_pay31 g)) hs) gp (ix2 r k) = dF g x gp a (ix2 i k) := by
  refine (ds_apply _ _ _ _ r k).trans ?_
  have e : extractStridedSlice S64x1 ![n, 0] (k0_pay32 (k0_pay30 g) (k0_pay31 g)) hs (ix2 r 0) = g (ix2 0 i) := by
    refine Eq.trans ?_ (gsc_apply g i 0)
    refine congrArg (k0_pay32 (k0_pay30 g) (k0_pay31 g)) ?_
    funext b
    match b with
    | ⟨0, _⟩ => exact Fin.ext (by show n + r.val = i.val; omega)
    | ⟨1, _⟩ => exact Fin.ext rfl
  rw [e]
  have e1 : (fun k => View.ld x (Rect.unit (s := S1024x2560) ![n, 0] S64x2560.size i1) (ix2 r k)) = fun k => x (ix2 i k) := funext fun k => ldR x n i1 r k i hi
  have e2 : (fun k => View.ld a (Rect.unit (s := S1024x2560) ![n, 0] S64x2560.size i1) (ix2 r k)) = fun k => a (ix2 i k) := funext fun k => ldR a n i1 r k i hi
  rw [e1, e2]
  rfl

theorem dhLast_fun (x9 : Vec Ideal S1x1024 .f32) (x10 : Vec Ideal S1024x2560 .bf16) (x11 : Vec Ideal S1x2560 .f32) (x13 : Vec Ideal S1024x2560 .bf16) (x14 : Vec Ideal S1024x2560 .f32) :
    dhLast x9 x10 x11 x13 x14 = dF x9 x10 x11 x14 := by
  have h : ∀ y : S1024x2560.Idx, (y 0).val < 1024 → dhLast x9 x10 x11 x13 x14 y = dF x9 x10 x11 x14 y := by
    unfold dhLast
    refine putR_fun _ 960 _ _ ?_ (dstrip_ok 960 x9 x10 x11 x14 inb_S1024x2560_S64x2560_960_0 slices_S1024x128_o960_0_S64x1)
    refine putR_fun _ 896 _ _ ?_ (dstrip_ok 896 x9 x10 x11 x14 inb_S1024x2560_S64x2560_896_0 slices_S1024x128_o896_0_S64x1)
    refine putR_fun _ 832 _ _ ?_ (dstrip_ok 832 x9 x10 x11 x14 inb_S1024x2560_S64x2560_832_0 slices_S1024x128_o832_0_S64x1)
    refine putR_fun _ 768 _ _ ?_ (dstrip_ok 768 x9 x10 x11 x14 inb_S1024x2560_S64x2560_768_0 slices_S1024x128_o768_0_S64x1)
    refine putR_fun _ 704 _ _ ?_ (dstrip_ok 704 x9 x10 x11 x14 inb_S1024x2560_S64x2560_704_0 slices_S1024x128_o704_0_S64x1)
    refine putR_fun _ 640 _ _ ?_ (dstrip_ok 640 x9 x10 x11 x14 inb_S1024x2560_S64x2560_640_0 slices_S1024x128_o640_0_S64x1)
    refine putR_fun _ 576 _ _ ?_ (dstrip_ok 576 x9 x10 x11 x14 inb_S1024x2560_S64x2560_576_0 slices_S1024x128_o576_0_S64x1)
    refine putR_fun _ 512 _ _ ?_ (dstrip_ok 512 x9 x10 x11 x14 inb_S1024x2560_S64x2560_512_0 slices_S1024x128_o512_0_S64x1)
    refine putR_fun _ 448 _ _ ?_ (dstrip_ok 448 x9 x10 x11 x14 inb_S1024x2560_S64x2560_448_0 slices_S1024x128_o448_0_S64x1)
    refine putR_fun _ 384 _ _ ?_ (dstrip_ok 384 x9 x10 x11 x14 inb_S1024x2560_S64x2560_384_0 slices_S1024x128_o384_0_S64x1)
    refine putR_fun _ 320 _ _ ?_ (dstrip_ok 320 x9 x10 x11 x14 inb_S1024x2560_S64x2560_320_0 slices_S1024x128_o320_0_S64x1)
    refine putR_fun _ 256 _ _ ?_ (dstrip_ok 256 x9 x10 x11 x14 inb_S1024x2560_S64x2560_256_0 slices_S1024x128_o256_0_S64x1)
    refine putR_fun _ 192 _ _ ?_ (dstrip_ok 192 x9 x10 x11 x14 inb_S1024x2560_S64x2560_192_0 slices_S1024x128_o192_0_S64x1)
    refine putR_fun _ 128 _ _ ?_ (dstrip_ok 128 x9 x10 x11 x14 inb_S1024x2560_S64x2560_128_0 slices_S1024x128_o128_0_S64x1)
    refine putR_fun _ 64 _ _ ?_ (dstrip_ok 64 x9 x10 x11 x14 inb_S1024x2560_S64x2560_64_0 slices_S1024x128_o64_0_S64x1)
    refine putR_fun _ 0 _ _ ?_ (dstrip_ok 0 x9 x10 x11 x14 inb_S1024x2560_S64x2560_0_0 slices_S1024x128_o0_0_S64x1)
    intro y hy
    exact absurd hy (Nat.not_lt_zero _)
  exact funext fun y => h y (y 0).isLt
end Cert.GradIdeal.Value

namespace Cert.GradValue
/-- All codes, from the arguments. -/
def cod (u : (⟨2, ![1024, 151936]⟩ : Shape).Idx → EReal) (s : (⟨1, ![151936]⟩ : Shape).Idx → EReal) (xs mx ca cy : (⟨1, ![1024]⟩ : Shape).Idx → EReal)
    (lab : (⟨1, ![1024]⟩ : Shape).Idx → BitVec 32) (i : Fin 1024) (v : Fin 151936) : EReal :=
  el (u (ix2 i v)) (s (ix1 v)) (xs (ix1 i)) (mx (ix1 i)) (ca (ix1 i)) (cy (ix1 i)) (lab (ix1 i)) (BitVec.ofNat 32 v.val)
/-- The whole gradient, from the codes and the arguments. -/
def grd (g : Fin 1024 → Fin 151936 → EReal) (w : (⟨2, ![151936, 2560]⟩ : Shape).Idx → EReal) (gs : (⟨1, ![1024]⟩ : Shape).Idx → EReal)
    (x : (⟨2, ![1024, 2560]⟩ : Shape).Idx → EReal) (gp : (⟨1, ![2560]⟩ : Shape).Idx → EReal) (i : Fin 1024) (k : Fin 2560) : EReal :=
  dxr (fun k => x (ix2 i k)) (fun k => ∑ v, g i v * w (ix2 v k)) (fun k => gp (ix1 k)) (gs (ix1 i)) k
end Cert.GradValue

namespace Cert.GradIdeal.Value
open Cert.GradIdeal Cert.GradIdeal.Gen Cert.GradIdeal.Body Cert.GradValue

variable (m : (ℓ : Loc nD τ sig) → Buf (Elt Ideal) ℓ)

theorem idx : ∀ t : Fin cfg0.N, win0_0.index t = ![0, t.val] ∧ win0_1.index t = ![t.val, 0] ∧ win0_2.index t = ![0, t.val]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, t.val] ∧ win0_12.index t = ![0, 0] :=
  (by decide +kernel : ∀ t : Fin grid0.N, _)
theorem crd : ∀ t : Fin grid0.N, (grid0.coords t 0).val = t.val := by decide +kernel

theorem ub_at (c : Dev nD) (t : Fin cfg0.N) (r j : Fin 1024) (v : Fin 151936) (h : j.val < lim t) (hv : v.val = t.val * 1024 + j.val) :
    ub m c t (ix2 r j) = m ((c : Thread nD τ).loc main_arg0) (ix2 r v) := by
  unfold ub Pipeline.Window.fill
  rw [dif_pos (mv0 t (ix2 r j) h)]
  rw [← V_main_arg0 m c]
  blk_ext [iblk, idx t]
theorem wb_at (c : Dev nD) (t : Fin cfg0.N) (j : Fin 1024) (k : Fin 2560) (v : Fin 151936) (h : j.val < lim t) (hv : v.val = t.val * 1024 + j.val) :
    wb m c t (ix2 j k) = m ((c : Thread nD τ).loc main_arg1) (ix2 v k) := by
  unfold wb Pipeline.Window.fill
  rw [dif_pos (mv1 t (ix2 j k) h)]
  rw [← V_main_arg1 m c]
  blk_ext [iblk, idx t]
theorem sb_at (c : Dev nD) (t : Fin cfg0.N) (j : Fin 1024) (v : Fin 151936) (h : j.val < lim t) (hv : v.val = t.val * 1024 + j.val) :
    sb m c t (ix2 0 j) = V m c main_v0 (ix2 0 v) := by
  unfold sb Pipeline.Window.fill
  rw [dif_pos (mv2 t (ix2 0 j) h)]
  blk_ext [iblk, idx t]
theorem row_3 (c : Dev nD) (t : Fin cfg0.N) (r : Fin 1024) (k : Fin 128) : iblk m c 3 t (ix2 r k) = V m c main_v2 (ix2 r k) := by
  blk_ext [iblk, idx t]
theorem row_4 (c : Dev nD) (t : Fin cfg0.N) (r : Fin 1024) (k : Fin 128) : iblk m c 4 t (ix2 r k) = V m c main_v4 (ix2 r k) := by
  blk_ext [iblk, idx t]
theorem row_5 (c : Dev nD) (t : Fin cfg0.N) (r : Fin 1024) (k : Fin 128) : iblk m c 5 t (ix2 r k) = V m c main_v6 (ix2 r k) := by
  blk_ext [iblk, idx t]
theorem row_6 (c : Dev nD) (t : Fin cfg0.N) (r : Fin 1024) (k : Fin 128) : iblk m c 6 t (ix2 r k) = V m c main_v8 (ix2 r k) := by
  blk_ext [iblk, idx t]
theorem row_7 (c : Dev nD) (t : Fin cfg0.N) (r : Fin 1024) : iblk m c 7 t (ix2 0 r) = V m c main_v9 (ix2 0 r) := by
  blk_ext [iblk, idx t]
theorem row_8 (c : Dev nD) (t : Fin cfg0.N) (r : Fin 1024) : iblk m c 8 t (ix2 0 r) = V m c main_v10 (ix2 0 r) := by
  blk_ext [iblk, idx t]
theorem row_9 (c : Dev nD) (t : Fin cfg0.N) (r : Fin 1024) (k : Fin 2560) : iblk m c 9 t (ix2 r k) = m ((c : Thread nD τ).loc main_arg9) (ix2 r k) := by
  rw [← V_main_arg9 m c]
  blk_ext [iblk, idx t]
theorem row_10 (c : Dev nD) (t : Fin cfg0.N) (k : Fin 2560) : iblk m c 10 t (ix2 0 k) = V m c main_v11 (ix2 0 k) := by
  blk_ext [iblk, idx t]
theorem host_v0 (c : Dev nD) (k : Fin 151936) : V m c main_v0 (ix2 0 k) = m ((c : Thread nD τ).loc main_arg2) (ix1 k) := by
  have h : V m c main_v0 = shapeCast S1x151936 (m ((c : Thread nD τ).loc main_arg2)) shapeCasts_S151936_S1x151936 := by
    unfold V
    simp only [hostOps0, List.flatten_cons, List.flatten_nil, List.append_nil]
    after_results
    rfl
  rw [h]
  exact ValueIdx.shapeCast_a_1a_apply _ _ 0 k
theorem host_v9 (c : Dev nD) (k : Fin 1024) : V m c main_v9 (ix2 0 k) = m ((c : Thread nD τ).loc main_arg7) (ix1 k) := by
  have h : V m c main_v9 = shapeCast S1x1024 (m ((c : Thread nD τ).loc main_arg7)) shapeCasts_S1024_S1x1024 := by
    unfold V
    simp only [hostOps0, List.flatten_cons, List.flatten_nil, List.append_nil]
    after_results
    rfl
  rw [h]
  pointwise
theorem host_v10 (c : Dev nD) (k : Fin 1024) : V m c main_v10 (ix2 0 k) = m ((c : Thread nD τ).loc main_arg8) (ix1 k) := by
  have h : V m c main_v10 = shapeCast S1x1024 (m ((c : Thread nD τ).loc main_arg8)) shapeCasts_S1024_S1x1024 := by
    unfold V
    simp only [hostOps0, List.flatten_cons, List.flatten_nil, List.append_nil]
    after_results
    rfl
  rw [h]
  pointwise
theorem host_v11 (c : Dev nD) (k : Fin 2560) : V m c main_v11 (ix2 0 k) = m ((c : Thread nD τ).loc main_arg10) (ix1 k) := by
  have h : V m c main_v11 = shapeCast S1x2560 (m ((c : Thread nD τ).loc main_arg10)) shapeCasts_S2560_S1x2560 := by
    unfold V
    simp only [hostOps0, List.flatten_cons, List.flatten_nil, List.append_nil]
    after_results
    rfl
  rw [h]
  pointwise
theorem host_v2 (c : Dev nD) (r : Fin 1024) (k : Fin 128) : V m c main_v2 (ix2 r k) = m ((c : Thread nD τ).loc main_arg3) (ix1 r) := by
  have h : V m c main_v2 = broadcastInDim S1024x128 ![0, 1] bcast_S1024x1_S1024x128_0_1 (broadcastInDim S1024x1 ![0] bcast_S1024_S1024x1_0 (m ((c : Thread nD τ).loc main_arg3) : Vec Ideal S1024 .f32) : Vec Ideal S1024x1 .f32) := by
    unfold V
    simp only [hostOps0, List.flatten_cons, List.flatten_nil, List.append_nil]
    after_results
  rw [h]
  pointwise
theorem host_v4 (c : Dev nD) (r : Fin 1024) (k : Fin 128) : V m c main_v4 (ix2 r k) = m ((c : Thread nD τ).loc main_arg4) (ix1 r) := by
  have h : V m c main_v4 = broadcastInDim S1024x128 ![0, 1] bcast_S1024x1_S1024x128_0_1 (broadcastInDim S1024x1 ![0] bcast_S1024_S1024x1_0 (m ((c : Thread nD τ).loc main_arg4) : Vec Ideal S1024 .f32) : Vec Ideal S1024x1 .f32) := by
    unfold V
    simp only [hostOps0, List.flatten_cons, List.flatten_nil, List.append_nil]
    after_results
  rw [h]
  pointwise
theorem host_v6 (c : Dev nD) (r : Fin 1024) (k : Fin 128) : V m c main_v6 (ix2 r k) = m ((c : Thread nD τ).loc main_arg5) (ix1 r) := by
  have h : V m c main_v6 = broadcastInDim S1024x128 ![0, 1] bcast_S1024x1_S1024x128_0_1 (broadcastInDim S1024x1 ![0] bcast_S1024_S1024x1_0 (m ((c : Thread nD τ).loc main_arg5) : Vec Ideal S1024 .f32) : Vec Ideal S1024x1 .f32) := by
    unfold V
    simp only [hostOps0, List.flatten_cons, List.flatten_nil, List.append_nil]
    after_results
  rw [h]
  pointwise
theorem host_v8 (c : Dev nD) (r : Fin 1024) (k : Fin 128) : V m c main_v8 (ix2 r k) = m ((c : Thread nD τ).loc main_arg6) (ix1 r) := by
  have h : V m c main_v8 = broadcastInDim S1024x128 ![0, 1] bcast_S1024x1_S1024x128_0_1 (broadcastInDim S1024x1 ![0] bcast_S1024_S1024x1_0 (m ((c : Thread nD τ).loc main_arg6) : Vec Ideal S1024 .f32) : Vec Ideal S1024x1 .f32) := by
    unfold V
    simp only [hostOps0, List.flatten_cons, List.flatten_nil, List.append_nil]
    after_results
  rw [h]
  pointwise

/-- The codes, from the arguments as launched. -/
def K (c : Dev nD) : Fin 1024 → Fin 151936 → EReal :=
  cod (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem lanes_3 (c : Dev nD) (t : Fin cfg0.N) : Lanes (e := .f32) (iblk m c 3 t) := fun r k => by rw [row_3, row_3, host_v2, host_v2]
theorem lanes_4 (c : Dev nD) (t : Fin cfg0.N) : Lanes (e := .f32) (iblk m c 4 t) := fun r k => by rw [row_4, row_4, host_v4, host_v4]
theorem lanes_5 (c : Dev nD) (t : Fin cfg0.N) : Lanes (e := .f32) (iblk m c 5 t) := fun r k => by rw [row_5, row_5, host_v6, host_v6]
theorem lanes_6 (c : Dev nD) (t : Fin cfg0.N) : Lanes (e := .f32) (iblk m c 6 t) := fun r k => by rw [row_6, row_6, host_v8, host_v8]
theorem lanes_l (c : Dev nD) : Lanes (labS m c) := fun r k => by unfold labS; rw [lab_apply, lab_apply]
theorem lab_at (c : Dev nD) (r : Fin 1024) : labS m c (ix2 r 0) = m ((c : Thread nD τ).loc main_arg7) (ix1 r) := by
  unfold labS; rw [lab_apply, row_7, host_v9]

theorem col_at (t j v : ℕ) (hv : v = t * 1024 + j) : BitVec.ofNat 32 j + BitVec.ofNat 32 t * 1024#32 = BitVec.ofNat 32 v := by
  subst hv
  rw [BitVec.ofNat_add, BitVec.ofNat_mul, BitVec.add_comm]

theorem gF_at (c : Dev nD) (t : Fin cfg0.N) (r j : Fin 1024) (v : Fin 151936) (h : j.val < lim t) (hv : v.val = t.val * 1024 + j.val) :
    gF (BitVec.ofNat 32 (grid0.coords t 0).val) (ub m c t) (sb m c t) (iblk m c 3 t) (iblk m c 4 t) (iblk m c 5 t) (iblk m c 6 t) (labS m c) (ix2 r j) = K m c r v := by
  have e1 := ub_at m c t r j v h hv
  have e2 := (sb_at m c t j v h hv).trans (host_v0 m c v)
  have e3 := (row_3 m c t r 0).trans (host_v2 m c r 0)
  have e4 := (row_4 m c t r 0).trans (host_v4 m c r 0)
  have e5 := (row_5 m c t r 0).trans (host_v6 m c r 0)
  have e6 := (row_6 m c t r 0).trans (host_v8 m c r 0)
  have e7 := lab_at m c r
  have e8 : BitVec.ofNat 32 j.val + BitVec.ofNat 32 (grid0.coords t 0).val * 1024#32 = BitVec.ofNat 32 v.val := by
    rw [crd]; exact col_at t.val j.val v.val hv
  show el (ub m c t (ix2 r j)) (sb m c t (ix2 0 j)) (iblk m c 3 t (ix2 r 0)) (iblk m c 4 t (ix2 r 0)) (iblk m c 5 t (ix2 r 0)) (iblk m c 6 t (ix2 r 0)) (labS m c (ix2 r 0))
    (BitVec.ofNat 32 j.val + BitVec.ofNat 32 (grid0.coords t 0).val * 1024#32) = _
  rw [e1, e2, e3, e4, e5, e6, e7, e8]
  rfl

theorem gB_at (c : Dev nD) (t : Fin cfg0.N) (r j : Fin 1024) (v : Fin 151936) (h : t.val < 148) (hv : v.val = t.val * 1024 + j.val) :
    gB m c t (ix2 r j) = K m c r v := by
  unfold gB
  rw [gMid_fun _ _ _ _ _ _ _ _ _ (lanes_3 m c t) (lanes_4 m c t) (lanes_5 m c t) (lanes_6 m c t) (lanes_l m c)]
  exact gF_at m c t r j v (by unfold lim; rw [if_pos h]; exact j.isLt) hv
theorem gL_at (c : Dev nD) (t : Fin cfg0.N) (r j : Fin 1024) (v : Fin 151936) (h : ¬ t.val < 148) (hj : j.val < 384) (hv : v.val = t.val * 1024 + j.val) :
    gL m c t (ix2 r j) = K m c r v := by
  unfold gL
  rw [gLast_fun _ _ _ _ _ _ _ _ _ (lanes_3 m c t) (lanes_4 m c t) (lanes_5 m c t) (lanes_6 m c t) (lanes_l m c) (ix2 r j) hj]
  exact gF_at m c t r j v (by unfold lim; rw [if_neg h]; exact hj) hv

theorem pay4_apply (a : Vec Ideal S1024x2560 .f32) (g : Vec Ideal S1024x1024 .fp8e5m2) (w : Vec Ideal S1024x2560 .fp8e4m3) (i : Fin 1024) (k : Fin 2560) :
    k0_pay4 a g w (ix2 i k) = a (ix2 i k) + ∑ j : Fin 1024, (g (ix2 i j) * w (ix2 j k) : EReal) := by
  pointwise [k0_pay4]
theorem pay29_apply (a : Vec Ideal S1024x2560 .f32) (g : Vec Ideal S1024x384 .fp8e5m2) (w : Vec Ideal S384x2560 .fp8e4m3) (i : Fin 1024) (k : Fin 2560) :
    k0_pay29 a g w (ix2 i k) = a (ix2 i k) + ∑ j : Fin 384, (g (ix2 i j) * w (ix2 j k) : EReal) := by
  pointwise [k0_pay29]
theorem pay2_apply (y : S1024x2560.Idx) : k0_pay2 (F := Ideal) y = (0 : EReal) := by
  pointwise [k0_pay2]

/-- One product of the gradient's sum, by its column. -/
def f (c : Dev nD) (i : Fin 1024) (k : Fin 2560) (v : ℕ) : EReal :=
  if h : v < 151936 then K m c i ⟨v, h⟩ * (m ((c : Thread nD τ).loc main_arg1) : Vec Ideal S151936x2560 .fp8e4m3) (ix2 ⟨v, h⟩ k) else 0

theorem blk_sum (c : Dev nD) (t : Fin cfg0.N) (h : t.val < 148) (i : Fin 1024) (k : Fin 2560) :
    ∑ j : Fin 1024, (gB m c t (ix2 i j) * wb m c t (ix2 j k) : EReal) = ∑ j ∈ Finset.range 1024, f m c i k (t.val * 1024 + j) := by
  rw [Finset.sum_range]
  refine Finset.sum_congr rfl fun j _ => ?_
  have hlt : t.val * 1024 + j.val < 151936 := by have := j.isLt; omega
  unfold f
  rw [dif_pos hlt, gB_at m c t i j ⟨_, hlt⟩ h rfl, wb_at m c t j k ⟨_, hlt⟩ (by unfold lim; rw [if_pos h]; exact j.isLt) rfl]

theorem acc_sum (c : Dev nD) (i : Fin 1024) (k : Fin 2560) : ∀ (n : ℕ) (hn : n < cfg0.N), n < 148 →
    accAt m c n hn (ix2 i k) = ∑ v ∈ Finset.range (n * 1024 + 1024), f m c i k v
  | 0, hn, h => by
    refine (congrFun (accAt_zero m c ⟨0, hn⟩ rfl) _).trans ?_
    rw [pay4_apply, pay2_apply, blk_sum m c ⟨0, hn⟩ h, zero_add, Finset.sum_range_add, Nat.zero_mul, Finset.range_zero, Finset.sum_empty, zero_add]
  | n + 1, hn, h => by
    refine (congrFun (accAt_mid m c ⟨n + 1, hn⟩ (Nat.succ_ne_zero n) h) _).trans ?_
    rw [pay4_apply, blk_sum m c ⟨n + 1, hn⟩ h, Finset.sum_range_add]
    refine congrArg (· + _) ?_
    refine (acc_sum c i k n (Nat.lt_of_succ_lt hn) (Nat.lt_of_succ_lt h)).trans ?_
    rw [Nat.succ_mul]

theorem last_sum (c : Dev nD) (i : Fin 1024) (k : Fin 2560) :
    accAt m c pL.val pL.isLt (ix2 i k) = ∑ v : Fin 151936, (K m c i v * (m ((c : Thread nD τ).loc main_arg1) : Vec Ideal S151936x2560 .fp8e4m3) (ix2 v k) : EReal) := by
  refine (congrFun (accAt_last m c pL (by decide) (by decide)) _).trans ?_
  unfold lastAcc
  rw [pay29_apply]
  have e1 : (∑ v : Fin 151936, (K m c i v * (m ((c : Thread nD τ).loc main_arg1) : Vec Ideal S151936x2560 .fp8e4m3) (ix2 v k) : EReal))
      = ∑ v ∈ Finset.range 151936, f m c i k v := by
    rw [Finset.sum_range]
    refine Finset.sum_congr rfl fun v _ => ?_
    unfold f
    rw [dif_pos v.isLt]
  rw [e1, show (151936 : ℕ) = (147 * 1024 + 1024) + 384 from rfl, Finset.sum_range_add]
  refine congrArg₂ (· + ·) (acc_sum m c i k 147 (by decide) (by decide)) ?_
  rw [Finset.sum_range]
  refine Finset.sum_congr rfl fun j _ => ?_
  have hj := j.isLt
  have hlt : 147 * 1024 + 1024 + j.val < 151936 := by omega
  unfold f
  rw [dif_pos hlt]
  refine congrArg₂ (· * ·) ?_ ?_
  · refine Eq.trans (congrArg (gL m c pL) ?_) (gL_at m c pL i ⟨j.val, by omega⟩ ⟨_, hlt⟩ (by decide) hj rfl)
    funext b
    match b with
    | ⟨0, _⟩ => exact Fin.ext (by show 0 + 1 * i.val = i.val; omega)
    | ⟨1, _⟩ => exact Fin.ext (by show 0 + 1 * j.val = j.val; omega)
  · refine Eq.trans (congrArg (wb m c pL) ?_) (wb_at m c pL ⟨j.val, by omega⟩ k ⟨_, hlt⟩ hj rfl)
    funext b
    match b with
    | ⟨0, _⟩ => exact Fin.ext (by show 0 + 1 * j.val = j.val; omega)
    | ⟨1, _⟩ => exact Fin.ext (by show 0 + 1 * k.val = k.val; omega)

theorem final12 (c : Dev nD) : (dats m 0 c).arrAt 12 (cfgs 0).N
    = fun y : S1024x2560.Idx => grd (K m c) (m ((c : Thread nD τ).loc main_arg1)) (m ((c : Thread nD τ).loc main_arg8)) (m ((c : Thread nD τ).loc main_arg9)) (m ((c : Thread nD τ).loc main_arg10)) (y 0) (y 1) := by
  refine (dats m 0 c).arrAt_eq_of_after_last 12 pL (by decide +kernel) _ fun y => ?_
  blk_simp
  rw [after0_12]
  obtain ⟨i, k, rfl⟩ : ∃ (i : Fin 1024) (k : Fin 2560), y = ix2 i k := ⟨y 0, y 1, eq_ix2 y⟩
  unfold dhV
  rw [dhLast_fun]
  have e1 : (fun k => iblk m c 9 pL (ix2 i k)) = fun k => m ((c : Thread nD τ).loc main_arg9) (ix2 i k) := funext fun k => row_9 m c pL i k
  have e2 : (fun k => accAt m c pL.val pL.isLt (ix2 i k)) = fun k => ∑ v : Fin 151936, (K m c i v * (m ((c : Thread nD τ).loc main_arg1) : Vec Ideal S151936x2560 .fp8e4m3) (ix2 v k) : EReal) :=
    funext fun k => last_sum m c i k
  have e3 : (fun k => iblk m c 10 pL (ix2 0 k)) = fun k => m ((c : Thread nD τ).loc main_arg10) (ix1 k) := funext fun k => (row_10 m c pL k).trans (host_v11 m c k)
  have e4 := (row_8 m c pL i).trans (host_v10 m c i)
  exact (congr (congrArg₂ dxr e1 e2) e3 |> fun h => congrFun (congr h e4) k)

theorem final11 (c : Dev nD) : (dats m 0 c).arrAt 11 (cfgs 0).N = fun y : S1024x151936.Idx => K m c (y 0) (y 1) := by
  refine (dats m 0 c).arrAt_eq_of_covers 11 _ (by decide +kernel) fun t hf y => ?_
  blk_simp
  rw [after0_11]
  have hx1 : (y 1).val < lim t := lt_of_lt_of_eq (y 1).isLt (xs11 t).2
  have hx0 : (y 0).val < 1024 := lt_of_lt_of_eq (y 0).isLt (xs11 t).1
  have hj : (y 1).val < 1024 := lt_of_lt_of_le hx1 (by unfold lim; split <;> decide)
  have e : (cfg0.win 11).xinj (cfg0.grid.coords t) y = ix2 (⟨(y 0).val, hx0⟩ : Fin 1024) (⟨(y 1).val, hj⟩ : Fin 1024) := by
    funext b
    match b with
    | ⟨0, _⟩ => rfl
    | ⟨1, _⟩ => rfl
  have e0 : (win0_11.blk t).view.emb y 0 = (⟨(y 0).val, hx0⟩ : Fin 1024) := Fin.ext (by blk_simp [idx t])
  have e1 : ((win0_11.blk t).view.emb y 1 : Fin 151936).val = t.val * 1024 + (y 1).val := by blk_simp [idx t]
  rw [e, e0]
  split
  · rename_i h
    exact gB_at m c t _ _ _ h e1
  · rename_i h
    exact gL_at m c t _ _ _ h (lt_of_lt_of_eq hx1 (if_neg h)) e1

end Cert.GradIdeal.Value
namespace Cert.GradReferenceIdeal.Value
open Cert.GradReferenceIdeal Cert.GradReferenceIdeal.Gen Cert.GradValue

variable (m : (ℓ : Loc nD τ sig) → Buf (Elt Ideal) ℓ)

theorem cmpi_comm (a b : BitVec 32) : IntOp.cmpi CmpIPredicate.eq a b = IntOp.cmpi CmpIPredicate.eq b a := by
  unfold IntOp.cmpi
  simp only [eq_comm, Bool.beq_comm]

theorem code_r (x3 : Vec Ideal S1024x1 .f32) (x0 : Vec Ideal S1024x151936 .f32) (x4 : Vec Ideal S1024x1 .f32) (x7 : Vec Ideal S1024x1 .i32) (x5 x6 : Vec Ideal S1024x1 .f32) (x2 : Vec Ideal S1x151936 .f32) (i : Fin 1024) (v : Fin 151936) :
    k0_pay2 x3 x0 x4 x7 x5 x6 x2 (ix2 i v) = el (x0 (ix2 i v)) (x2 (ix2 0 v)) (x3 (ix2 i 0)) (x4 (ix2 i 0)) (x5 (ix2 i 0)) (x6 (ix2 i 0)) (x7 (ix2 i 0)) (BitVec.ofNat 32 v.val) := by
  unfold el
  rw [cmpi_comm]
  pointwise [k0_pay2]

/-- The incoming gradient. -/
def dxv (g : FVec Ideal S1024x151936 .fp8e5m2) (w : Vec Ideal S151936x2560 .fp8e4m3) (s : Vec Ideal S1024x1 .f32) (gp : Vec Ideal S1x2560 .f32) : FVec Ideal S1024x2560 .f32 :=
  mulf (mulf (matmul (φ₁ := .fp8e5m2) (φ₂ := .fp8e4m3) dot_S1024x151936_S151936x2560_S1024x2560_1_0_0_1_n_n none g w (constant S1024x2560 .f32 0x00000000#32)) (broadcastTo S1024x2560 (shapeCast S1024x1 s shapeCasts_S1024x1_S1024x1) broadcasts_S1024x1_S1024x2560)) (broadcastTo S1024x2560 (shapeCast S1x2560 gp shapeCasts_S1x2560_S1x2560) broadcasts_S1x2560_S1024x2560)
theorem mm_apply (g : FVec Ideal S1024x151936 .fp8e5m2) (w : Vec Ideal S151936x2560 .fp8e4m3) (i : Fin 1024) (k : Fin 2560) :
    matmul (φ₁ := .fp8e5m2) (φ₂ := .fp8e4m3) dot_S1024x151936_S151936x2560_S1024x2560_1_0_0_1_n_n none g w (constant S1024x2560 .f32 0x00000000#32) (ix2 i k) = ∑ v : Fin 151936, (g (ix2 i v) * w (ix2 v k) : EReal) := by
  pointwise
theorem sc_apply (a : FVec Ideal S1024x2560 .f32) (s : Vec Ideal S1024x1 .f32) (gp : Vec Ideal S1x2560 .f32) (i : Fin 1024) (k : Fin 2560) :
    mulf (mulf a (broadcastTo S1024x2560 (shapeCast S1024x1 s shapeCasts_S1024x1_S1024x1) broadcasts_S1024x1_S1024x2560)) (broadcastTo S1024x2560 (shapeCast S1x2560 gp shapeCasts_S1x2560_S1x2560) broadcasts_S1x2560_S1024x2560) (ix2 i k) = a (ix2 i k) * s (ix2 i 0) * gp (ix2 0 k) := by
  pointwise
theorem dxv_apply (g : FVec Ideal S1024x151936 .fp8e5m2) (w : Vec Ideal S151936x2560 .fp8e4m3) (s : Vec Ideal S1024x1 .f32) (gp : Vec Ideal S1x2560 .f32) (i : Fin 1024) (k : Fin 2560) :
    dxv g w s gp (ix2 i k) = (∑ v : Fin 151936, (g (ix2 i v) * w (ix2 v k) : EReal)) * s (ix2 i 0) * gp (ix2 0 k) := by
  refine (sc_apply _ _ _ i k).trans ?_
  rw [mm_apply]
/-- The inverse root mean square of the rows. -/
def rv (x : Vec Ideal S1024x2560 .bf16) : FVec Ideal S1024x1 .f32 :=
  divf (broadcast S1024x1 (Scalar.ofBits .f32 0x3F800000#32)) (sqrt (addf (divf (shapeCast S1024x1 (multiReduction .add [1] S1024 (mulf (extf .f32 x bitsLt_bf16_f32) (extf .f32 x bitsLt_bf16_f32)) 0x00000000#32 reduces_S1024x2560_S1024 (.inl rfl) rfl) shapeCasts_S1024_S1024x1)
    (broadcast S1024x1 (Scalar.ofBits .f32 0x45200000#32))) (broadcast S1024x1 (Scalar.ofBits .f32 0x358637BD#32))))
theorem rv_apply (x : Vec Ideal S1024x2560 .bf16) (r : Fin 1024) : rv x (ix2 r 0) = rrms (fun k => x (ix2 r k)) := by
  pointwise [rv, rrms]
/-- The finishing formula. -/
def fv (x : FVec Ideal S1024x2560 .f32) (rr : FVec Ideal S1024x1 .f32) (p q : FVec Ideal S1024x2560 .f32) : FVec Ideal S1024x2560 .bf16 :=
  truncf .bf16 (subf (mulf (broadcastTo S1024x2560 rr broadcasts_S1024x1_S1024x2560) p)
    (mulf (mulf x (broadcastTo S1024x2560 (mulf (mulf rr rr) rr) broadcasts_S1024x1_S1024x2560))
      (broadcastTo S1024x2560 (divf (shapeCast S1024x1 (multiReduction .add [1] S1024 q 0x00000000#32 reduces_S1024x2560_S1024 (.inl rfl) rfl) shapeCasts_S1024_S1024x1) (broadcast S1024x1 (Scalar.ofBits .f32 0x45200000#32))) broadcasts_S1024x1_S1024x2560))) bitsLt_bf16_f32
theorem fv_apply (x : FVec Ideal S1024x2560 .f32) (rr : FVec Ideal S1024x1 .f32) (p q : FVec Ideal S1024x2560 .f32) (r : Fin 1024) (k : Fin 2560) :
    fv x rr p q (ix2 r k) = fin (x (ix2 r k)) (rr (ix2 r 0)) (p (ix2 r k)) (Ideal.div (∑ d, q (ix2 r d)) (Ideal.ofBits FTy.f32 1159725056#32)) := by
  pointwise [fv, fin]
theorem x_apply (x : FVec Ideal S1024x2560 .bf16) (r : Fin 1024) (k : Fin 2560) : extf .f32 x bitsLt_bf16_f32 (ix2 r k) = x (ix2 r k) := by
  pointwise
theorem mul_apply (p q : FVec Ideal S1024x2560 .f32) (y : S1024x2560.Idx) : mulf p q y = p y * q y := rfl
theorem pay1_eq (g : FVec Ideal S1024x151936 .fp8e5m2) (w : Vec Ideal S151936x2560 .fp8e4m3) (s : Vec Ideal S1024x1 .f32) (gp : Vec Ideal S1x2560 .f32) (x : Vec Ideal S1024x2560 .bf16) :
    k0_pay1 g w s gp x = fv (extf .f32 x bitsLt_bf16_f32) (rv x) (dxv g w s gp) (mulf (dxv g w s gp) (extf .f32 x bitsLt_bf16_f32)) := rfl

theorem grad_r (g : FVec Ideal S1024x151936 .fp8e5m2) (w : Vec Ideal S151936x2560 .fp8e4m3) (s : Vec Ideal S1024x1 .f32) (gp : Vec Ideal S1x2560 .f32) (x : Vec Ideal S1024x2560 .bf16) (i : Fin 1024) (k : Fin 2560) :
    k0_pay1 g w s gp x (ix2 i k) = dxr (fun k => x (ix2 i k)) (fun k => ∑ v : Fin 151936, (g (ix2 i v) * w (ix2 v k) : EReal)) (fun k => gp (ix2 0 k)) (s (ix2 i 0)) k := by
  rw [pay1_eq]
  refine (fv_apply _ _ _ _ i k).trans ?_
  simp only [mul_apply, dxv_apply, x_apply, rv_apply]
  rfl

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)
theorem row_0 (c : Dev nD) (t : Fin cfg0.N) (r : Fin 1024) (k : Fin 151936) : iblk m c 0 t (ix2 r k) = m ((c : Thread nD τ).loc main_arg0) (ix2 r k) := by
  rw [← V_main_arg0 m c]
  blk_ext [iblk, idx t]
theorem row_1 (c : Dev nD) (t : Fin cfg0.N) (r : Fin 151936) (k : Fin 2560) : iblk m c 1 t (ix2 r k) = m ((c : Thread nD τ).loc main_arg1) (ix2 r k) := by
  rw [← V_main_arg1 m c]
  blk_ext [iblk, idx t]
theorem row_9 (c : Dev nD) (t : Fin cfg0.N) (r : Fin 1024) (k : Fin 2560) : iblk m c 9 t (ix2 r k) = m ((c : Thread nD τ).loc main_arg9) (ix2 r k) := by
  rw [← V_main_arg9 m c]
  blk_ext [iblk, idx t]
theorem row_2 (c : Dev nD) (t : Fin cfg0.N) (k : Fin 151936) : iblk m c 2 t (ix2 0 k) = V m c main_v0 (ix2 0 k) := by
  blk_ext [iblk, idx t]
theorem row_10 (c : Dev nD) (t : Fin cfg0.N) (k : Fin 2560) : iblk m c 10 t (ix2 0 k) = V m c main_v7 (ix2 0 k) := by
  blk_ext [iblk, idx t]
theorem row_3 (c : Dev nD) (t : Fin cfg0.N) (k : Fin 1024) : iblk m c 3 t (ix2 k 0) = V m c main_v1 (ix2 k 0) := by
  blk_ext [iblk, idx t]
theorem row_4 (c : Dev nD) (t : Fin cfg0.N) (k : Fin 1024) : iblk m c 4 t (ix2 k 0) = V m c main_v2 (ix2 k 0) := by
  blk_ext [iblk, idx t]
theorem row_5 (c : Dev nD) (t : Fin cfg0.N) (k : Fin 1024) : iblk m c 5 t (ix2 k 0) = V m c main_v3 (ix2 k 0) := by
  blk_ext [iblk, idx t]
theorem row_6 (c : Dev nD) (t : Fin cfg0.N) (k : Fin 1024) : iblk m c 6 t (ix2 k 0) = V m c main_v4 (ix2 k 0) := by
  blk_ext [iblk, idx t]
theorem row_7 (c : Dev nD) (t : Fin cfg0.N) (k : Fin 1024) : iblk m c 7 t (ix2 k 0) = V m c main_v5 (ix2 k 0) := by
  blk_ext [iblk, idx t]
theorem row_8 (c : Dev nD) (t : Fin cfg0.N) (k : Fin 1024) : iblk m c 8 t (ix2 k 0) = V m c main_v6 (ix2 k 0) := by
  blk_ext [iblk, idx t]
theorem host_v0 (c : Dev nD) (k : Fin 151936) : V m c main_v0 (ix2 0 k) = m ((c : Thread nD τ).loc main_arg2) (ix1 k) := by
  have h : V m c main_v0 = shapeCast S1x151936 (m ((c : Thread nD τ).loc main_arg2)) shapeCasts_S151936_S1x151936 := by
    unfold V
    simp only [hostOps0, List.flatten_cons, List.flatten_nil, List.append_nil]
    after_results
    rfl
  rw [h]
  exact ValueIdx.shapeCast_a_1a_apply _ _ 0 k
theorem host_v7 (c : Dev nD) (k : Fin 2560) : V m c main_v7 (ix2 0 k) = m ((c : Thread nD τ).loc main_arg10) (ix1 k) := by
  have h : V m c main_v7 = shapeCast S1x2560 (m ((c : Thread nD τ).loc main_arg10)) shapeCasts_S2560_S1x2560 := by
    unfold V
    simp only [hostOps0, List.flatten_cons, List.flatten_nil, List.append_nil]
    after_results
    rfl
  rw [h]
  exact ValueIdx.shapeCast_a_1a_apply _ _ 0 k
theorem host_v1 (c : Dev nD) (k : Fin 1024) : V m c main_v1 (ix2 k 0) = m ((c : Thread nD τ).loc main_arg3) (ix1 k) := by
  have h : V m c main_v1 = shapeCast S1024x1 (m ((c : Thread nD τ).loc main_arg3)) shapeCasts_S1024_S1024x1 := by
    unfold V
    simp only [hostOps0, List.flatten_cons, List.flatten_nil, List.append_nil]
    after_results
    rfl
  rw [h]
  exact ValueIdx.shapeCast_a_a1_apply _ _ k 0
theorem host_v2 (c : Dev nD) (k : Fin 1024) : V m c main_v2 (ix2 k 0) = m ((c : Thread nD τ).loc main_arg4) (ix1 k) := by
  have h : V m c main_v2 = shapeCast S1024x1 (m ((c : Thread nD τ).loc main_arg4)) shapeCasts_S1024_S1024x1 := by
    unfold V
    simp only [hostOps0, List.flatten_cons, List.flatten_nil, List.append_nil]
    after_results
    rfl
  rw [h]
  exact ValueIdx.shapeCast_a_a1_apply _ _ k 0
theorem host_v3 (c : Dev nD) (k : Fin 1024) : V m c main_v3 (ix2 k 0) = m ((c : Thread nD τ).loc main_arg5) (ix1 k) := by
  have h : V m c main_v3 = shapeCast S1024x1 (m ((c : Thread nD τ).loc main_arg5)) shapeCasts_S1024_S1024x1 := by
    unfold V
    simp only [hostOps0, List.flatten_cons, List.flatten_nil, List.append_nil]
    after_results
    rfl
  rw [h]
  exact ValueIdx.shapeCast_a_a1_apply _ _ k 0
theorem host_v4 (c : Dev nD) (k : Fin 1024) : V m c main_v4 (ix2 k 0) = m ((c : Thread nD τ).loc main_arg6) (ix1 k) := by
  have h : V m c main_v4 = shapeCast S1024x1 (m ((c : Thread nD τ).loc main_arg6)) shapeCasts_S1024_S1024x1 := by
    unfold V
    simp only [hostOps0, List.flatten_cons, List.flatten_nil, List.append_nil]
    after_results
    rfl
  rw [h]
  exact ValueIdx.shapeCast_a_a1_apply _ _ k 0
theorem host_v5 (c : Dev nD) (k : Fin 1024) : V m c main_v5 (ix2 k 0) = m ((c : Thread nD τ).loc main_arg7) (ix1 k) := by
  have h : V m c main_v5 = shapeCast S1024x1 (m ((c : Thread nD τ).loc main_arg7)) shapeCasts_S1024_S1024x1 := by
    unfold V
    simp only [hostOps0, List.flatten_cons, List.flatten_nil, List.append_nil]
    after_results
    rfl
  rw [h]
  exact ValueIdx.shapeCast_a_a1_apply _ _ k 0
theorem host_v6 (c : Dev nD) (k : Fin 1024) : V m c main_v6 (ix2 k 0) = m ((c : Thread nD τ).loc main_arg8) (ix1 k) := by
  have h : V m c main_v6 = shapeCast S1024x1 (m ((c : Thread nD τ).loc main_arg8)) shapeCasts_S1024_S1024x1 := by
    unfold V
    simp only [hostOps0, List.flatten_cons, List.flatten_nil, List.append_nil]
    after_results
    rfl
  rw [h]
  exact ValueIdx.shapeCast_a_a1_apply _ _ k 0

/-- The codes, from the arguments as launched. -/
def K (c : Dev nD) : Fin 1024 → Fin 151936 → EReal :=
  cod (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem code_at (c : Dev nD) (t : Fin cfg0.N) (i : Fin 1024) (v : Fin 151936) :
    k0_pay2 (iblk m c 3 t) (iblk m c 0 t) (iblk m c 4 t) (iblk m c 7 t) (iblk m c 5 t) (iblk m c 6 t) (iblk m c 2 t) (ix2 i v) = K m c i v := by
  refine (code_r _ _ _ _ _ _ _ i v).trans ?_
  rw [row_0, row_2, row_3, row_4, row_5, row_6, row_7, host_v0, host_v1, host_v2, host_v3, host_v4, host_v5]
  rfl

theorem final12 (c : Dev nD) : (dats m 0 c).arrAt 12 (cfgs 0).N = fun y : S1024x151936.Idx => K m c (y 0) (y 1) := by
  refine (dats m 0 c).arrAt_eq_of_after_last 12 t0_0 (by decide +kernel) _ fun y => ?_
  blk_simp
  rw [after0_12]
  frame_out
  obtain ⟨i, v, rfl⟩ : ∃ (i : Fin 1024) (v : Fin 151936), y = ix2 i v := ⟨y 0, y 1, eq_ix2 y⟩
  exact code_at m c _ i v

theorem final11 (c : Dev nD) : (dats m 0 c).arrAt 11 (cfgs 0).N
    = fun y : S1024x2560.Idx => grd (K m c) (m ((c : Thread nD τ).loc main_arg1)) (m ((c : Thread nD τ).loc main_arg8)) (m ((c : Thread nD τ).loc main_arg9)) (m ((c : Thread nD τ).loc main_arg10)) (y 0) (y 1) := by
  refine (dats m 0 c).arrAt_eq_of_after_last 11 t0_0 (by decide +kernel) _ fun y => ?_
  blk_simp
  rw [after0_11]
  frame_out
  obtain ⟨i, k, rfl⟩ : ∃ (i : Fin 1024) (k : Fin 2560), y = ix2 i k := ⟨y 0, y 1, eq_ix2 y⟩
  refine (grad_r _ _ _ _ _ i k).trans ?_
  have e1 : (fun k => iblk m c 9 t0_0 (ix2 i k)) = fun k => m ((c : Thread nD τ).loc main_arg9) (ix2 i k) := funext fun k => row_9 m c t0_0 i k
  have e2 : (fun k => ∑ v : Fin 151936, (k0_pay2 (iblk m c 3 t0_0) (iblk m c 0 t0_0) (iblk m c 4 t0_0) (iblk m c 7 t0_0) (iblk m c 5 t0_0) (iblk m c 6 t0_0) (iblk m c 2 t0_0) (ix2 i v) * (iblk m c 1 t0_0 : Vec Ideal S151936x2560 .fp8e4m3) (ix2 v k) : EReal))
      = fun k => ∑ v : Fin 151936, (K m c i v * (m ((c : Thread nD τ).loc main_arg1) : Vec Ideal S151936x2560 .fp8e4m3) (ix2 v k) : EReal) :=
    funext fun k => Finset.sum_congr rfl fun v _ => congrArg₂ (· * ·) (code_at m c t0_0 i v) (row_1 m c t0_0 v k)
  have e3 : (fun k => iblk m c 10 t0_0 (ix2 0 k)) = fun k => m ((c : Thread nD τ).loc main_arg10) (ix1 k) := funext fun k => (row_10 m c t0_0 k).trans (host_v7 m c k)
  have e4 := (row_8 m c t0_0 i).trans (host_v6 m c i)
  exact (congr (congrArg₂ dxr e1 e2) e3 |> fun h => congrFun (congr h e4) k)

end Cert.GradReferenceIdeal.Value

end
-- ==== Proof.lean ====
module

public import proofs.«01_k».proof.Defs
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepReferenceIdeal
public import proofs.«01_k».proof.Proof.Gen.PrepReferenceIdeal.Skeleton
public import proofs.«01_k».proof.Proof.Gen.PrepReferenceIdeal.Launch
public import proofs.«01_k».proof.Proof.Gen.PrepReferenceIdeal.Points
public import proofs.«01_k».proof.Proof.Gen.PrepReferenceIdeal.Frame
public import proofs.«01_k».proof.Proof.Gen.Stats
public import proofs.«01_k».proof.Proof.Gen.Stats.Skeleton
public import proofs.«01_k».proof.Proof.Gen.Stats.Launch
public import proofs.«01_k».proof.Proof.Gen.Stats.Points
public import proofs.«01_k».proof.Proof.Gen.Stats.Frame
public import proofs.«01_k».proof.Proof.Gen.StatsIdeal
public import proofs.«01_k».proof.Proof.Gen.StatsIdeal.Skeleton
public import proofs.«01_k».proof.Proof.Gen.StatsIdeal.Launch
public import proofs.«01_k».proof.Proof.Gen.StatsIdeal.Points
public import proofs.«01_k».proof.Proof.Gen.StatsIdeal.Frame
public import proofs.«01_k».proof.Proof.Gen.StatsReferenceIdeal
public import proofs.«01_k».proof.Proof.Gen.StatsReferenceIdeal.Skeleton
public import proofs.«01_k».proof.Proof.Gen.StatsReferenceIdeal.Launch
public import proofs.«01_k».proof.Proof.Gen.StatsReferenceIdeal.Points
public import proofs.«01_k».proof.Proof.Gen.StatsReferenceIdeal.Frame
public import proofs.«01_k».proof.Proof.Gen.Grad
public import proofs.«01_k».proof.Proof.Gen.Grad.Skeleton
public import proofs.«01_k».proof.Proof.Gen.Grad.Launch
public import proofs.«01_k».proof.Proof.Gen.Grad.Points
public import proofs.«01_k».proof.Proof.Gen.Grad.Frame
public import proofs.«01_k».proof.Proof.Gen.GradIdeal
public import proofs.«01_k».proof.Proof.Gen.GradIdeal.Skeleton
public import proofs.«01_k».proof.Proof.Gen.GradIdeal.Launch
public import proofs.«01_k».proof.Proof.Gen.GradIdeal.Points
public import proofs.«01_k».proof.Proof.Gen.GradIdeal.Frame
public import proofs.«01_k».proof.Proof.Gen.GradReferenceIdeal
public import proofs.«01_k».proof.Proof.Gen.GradReferenceIdeal.Skeleton
public import proofs.«01_k».proof.Proof.Gen.GradReferenceIdeal.Launch
public import proofs.«01_k».proof.Proof.Gen.GradReferenceIdeal.Points
public import proofs.«01_k».proof.Proof.Gen.GradReferenceIdeal.Frame
public import proofs.«01_k».proof.Proof.PrepValue
public import proofs.«01_k».proof.Proof.PlainStatsOb
public import proofs.«01_k».proof.Proof.StatsValue
public import proofs.«01_k».proof.Proof.PlainGradOb
public import proofs.«01_k».proof.Proof.GradValue
public import Idealize.ShloMosaic.Lib.Claim
public import Idealize.ShloMosaic.Adequacy
public import Idealize.ShloMosaic.Init

@[expose] public section

noncomputable section

namespace Cert.Proof

open Idealize.ShloMosaic Idealize.SL.Sem Cert.Prep

set_option maxRecDepth 16384

theorem prep_algebraic : Cert.algebraic_PrepIdeal_PrepReferenceIdeal (hPrepIdeal := Cert.PrepIdeal.Gen.facts)
    (hPrepReferenceIdeal := Cert.PrepReferenceIdeal.Gen.facts) := by
  pair_intro
  · run_from Cert.PrepIdeal.Gen.run_main m g
    · exact Cert.PrepIdeal.Gen.W_main_arg2 m _ c
    · exact Cert.PrepIdeal.Gen.W_main_arg3 m _ c
  · run_from Cert.PrepReferenceIdeal.Gen.run_main m' g'
    · rw [Cert.PrepReferenceIdeal.Value.res0, Cert.PrepIdeal.Value.res0, (hagree c).1, (hagree c).2.2.1]
    · rw [Cert.PrepReferenceIdeal.Value.res1, Cert.PrepIdeal.Value.res1, (hagree c).1, (hagree c).2.2.1]
    · rw [Cert.PrepReferenceIdeal.Value.res2, Cert.PrepIdeal.Value.res2, (hagree c).2.1, (hagree c).2.2.2]
    · rw [Cert.PrepReferenceIdeal.Value.res3, Cert.PrepIdeal.Value.res3, (hagree c).2.1, (hagree c).2.2.2]
    · exact (Cert.PrepReferenceIdeal.Gen.W_main_arg2 m' _ c).trans (hagree c).2.2.1
    · exact (Cert.PrepReferenceIdeal.Gen.W_main_arg3 m' _ c).trans (hagree c).2.2.2

/-- The run of the gradient call. -/
theorem grad_run (m : (ℓ : Loc Cert.GradIdeal.nD Cert.GradIdeal.τ Cert.GradIdeal.sig) → Buf (Elt Ideal) ℓ) (g : Dev Cert.GradIdeal.nD → PrngReg) :
    θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v12_1) = (Cert.GradIdeal.Body.dats m 0 c).arrAt 12 (Cert.GradIdeal.cfgs 0).N
          ∧ r.2.mem ((c.tc : Thread Cert.GradIdeal.nD Cert.GradIdeal.τ).loc Cert.GradIdeal.main_v12_0) = (Cert.GradIdeal.Body.dats m 0 c).arrAt 11 (Cert.GradIdeal.cfgs 0).N
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
          ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
          ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
          ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
          ∧ r.2.mem ((c.tc : Thread Cert.GradIdeal.nD Cert.GradIdeal.τ).loc Cert.GradIdeal.main_arg8) = m ((c.tc : Thread Cert.GradIdeal.nD Cert.GradIdeal.τ).loc Cert.GradIdeal.main_arg8)
          ∧ r.2.mem ((c.tc : Thread Cert.GradIdeal.nD Cert.GradIdeal.τ).loc Cert.GradIdeal.main_arg9) = m ((c.tc : Thread Cert.GradIdeal.nD Cert.GradIdeal.τ).loc Cert.GradIdeal.main_arg9)
          ∧ r.2.mem ((c.tc : Thread Cert.GradIdeal.nD Cert.GradIdeal.τ).loc Cert.GradIdeal.main_arg10) = m ((c.tc : Thread Cert.GradIdeal.nD Cert.GradIdeal.τ).loc Cert.GradIdeal.main_arg10)) :=
  (θ_run (Cert.GradIdeal.defs (F := Ideal)) _ _).mono (fun r h c => ⟨(h.1 c).1 12, (h.1 c).1 11, h.2.1 c⟩)
    (θ_run_and (Cert.GradIdeal.Body.run_main m g) (Cert.GradIdeal.Body.frame m g))

/-- The run of its reference. -/
theorem grad_reference_run (m' : (ℓ : Loc Cert.GradReferenceIdeal.nD Cert.GradReferenceIdeal.τ Cert.GradReferenceIdeal.sig) → Buf (Elt Ideal) ℓ) (g : Dev Cert.GradReferenceIdeal.nD → PrngReg) :
    θ_run (Cert.GradReferenceIdeal.defs (F := Ideal)) (onTc (τ := Cert.GradReferenceIdeal.τ) (Cert.GradReferenceIdeal.main (F := Ideal))) ⟨m', fun _ => 0, g⟩ (fun r => ∀ c : Dev Cert.GradReferenceIdeal.nD,
          r.2.mem ((c.tc : Thread Cert.GradReferenceIdeal.nD Cert.GradReferenceIdeal.τ).loc Cert.GradReferenceIdeal.main_v8_0) = (Cert.GradReferenceIdeal.Gen.dats m' 0 c).arrAt 11 (Cert.GradReferenceIdeal.cfgs 0).N
          ∧ r.2.mem ((c.tc : Thread Cert.GradReferenceIdeal.nD Cert.GradReferenceIdeal.τ).loc Cert.GradReferenceIdeal.main_v8_1) = (Cert.GradReferenceIdeal.Gen.dats m' 0 c).arrAt 12 (Cert.GradReferenceIdeal.cfgs 0).N
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1)
          ∧ r.2.mem ((c.tc : Thread Cert.GradReferenceIdeal.nD Cert.GradReferenceIdeal.τ).loc Cert.GradReferenceIdeal.main_arg2) = m' ((c.tc : Thread Cert.GradReferenceIdeal.nD Cert.GradReferenceIdeal.τ).loc Cert.GradReferenceIdeal.main_arg2)
          ∧ r.2.mem ((c.tc : Thread Cert.GradReferenceIdeal.nD Cert.GradReferenceIdeal.τ).loc Cert.GradReferenceIdeal.main_arg3) = m' ((c.tc : Thread Cert.GradReferenceIdeal.nD Cert.GradReferenceIdeal.τ).loc Cert.GradReferenceIdeal.main_arg3)
          ∧ r.2.mem ((c.tc : Thread Cert.GradReferenceIdeal.nD Cert.GradReferenceIdeal.τ).loc Cert.GradReferenceIdeal.main_arg4) = m' ((c.tc : Thread Cert.GradReferenceIdeal.nD Cert.GradReferenceIdeal.τ).loc Cert.GradReferenceIdeal.main_arg4)
          ∧ r.2.mem ((c.tc : Thread Cert.GradReferenceIdeal.nD Cert.GradReferenceIdeal.τ).loc Cert.GradReferenceIdeal.main_arg5) = m' ((c.tc : Thread Cert.GradReferenceIdeal.nD Cert.GradReferenceIdeal.τ).loc Cert.GradReferenceIdeal.main_arg5)
          ∧ r.2.mem ((c.tc : Thread Cert.GradReferenceIdeal.nD Cert.GradReferenceIdeal.τ).loc Cert.GradReferenceIdeal.main_arg6) = m' ((c.tc : Thread Cert.GradReferenceIdeal.nD Cert.GradReferenceIdeal.τ).loc Cert.GradReferenceIdeal.main_arg6)
          ∧ r.2.mem ((c.tc : Thread Cert.GradReferenceIdeal.nD Cert.GradReferenceIdeal.τ).loc Cert.GradReferenceIdeal.main_arg7) = m' ((c.tc : Thread Cert.GradReferenceIdeal.nD Cert.GradReferenceIdeal.τ).loc Cert.GradReferenceIdeal.main_arg7)
          ∧ r.2.mem ((c.tc : Thread Cert.GradReferenceIdeal.nD Cert.GradReferenceIdeal.τ).loc Cert.GradReferenceIdeal.main_arg8) = m' ((c.tc : Thread Cert.GradReferenceIdeal.nD Cert.GradReferenceIdeal.τ).loc Cert.GradReferenceIdeal.main_arg8)
          ∧ r.2.mem ((c.tc : Thread Cert.GradReferenceIdeal.nD Cert.GradReferenceIdeal.τ).loc Cert.GradReferenceIdeal.main_arg9) = m' ((c.tc : Thread Cert.GradReferenceIdeal.nD Cert.GradReferenceIdeal.τ).loc Cert.GradReferenceIdeal.main_arg9)
          ∧ r.2.mem ((c.tc : Thread Cert.GradReferenceIdeal.nD Cert.GradReferenceIdeal.τ).loc Cert.GradReferenceIdeal.main_arg10) = m' ((c.tc : Thread Cert.GradReferenceIdeal.nD Cert.GradReferenceIdeal.τ).loc Cert.GradReferenceIdeal.main_arg10)) :=
  (θ_run (Cert.GradReferenceIdeal.defs (F := Ideal)) _ _).mono (fun r h c => ⟨(h.1 c).1 11, (h.1 c).1 12, h.2.1 c⟩)
    (θ_run_and (Cert.GradReferenceIdeal.Gen.run_main m' g) (Cert.GradReferenceIdeal.Gen.frame m' g))

theorem dh_same (m : (ℓ : Loc Cert.GradIdeal.nD Cert.GradIdeal.τ Cert.GradIdeal.sig) → Buf (Elt Ideal) ℓ)
    (m' : (ℓ : Loc Cert.GradReferenceIdeal.nD Cert.GradReferenceIdeal.τ Cert.GradReferenceIdeal.sig) → Buf (Elt Ideal) ℓ) (c : Dev Cert.GradIdeal.nD)
    (h : m' ((c.tc : Thread Cert.GradReferenceIdeal.nD Cert.GradReferenceIdeal.τ).loc Cert.GradReferenceIdeal.main_arg0) = m ((c.tc : Thread Cert.GradIdeal.nD Cert.GradIdeal.τ).loc Cert.GradIdeal.main_arg0)
      ∧ m' ((c.tc : Thread Cert.GradReferenceIdeal.nD Cert.GradReferenceIdeal.τ).loc Cert.GradReferenceIdeal.main_arg1) = m ((c.tc : Thread Cert.GradIdeal.nD Cert.GradIdeal.τ).loc Cert.GradIdeal.main_arg1)
      ∧ m' ((c.tc : Thread Cert.GradReferenceIdeal.nD Cert.GradReferenceIdeal.τ).loc Cert.GradReferenceIdeal.main_arg2) = m ((c.tc : Thread Cert.GradIdeal.nD Cert.GradIdeal.τ).loc Cert.GradIdeal.main_arg2)
      ∧ m' ((c.tc : Thread Cert.GradReferenceIdeal.nD Cert.GradReferenceIdeal.τ).loc Cert.GradReferenceIdeal.main_arg3) = m ((c.tc : Thread Cert.GradIdeal.nD Cert.GradIdeal.τ).loc Cert.GradIdeal.main_arg3)
      ∧ m' ((c.tc : Thread Cert.GradReferenceIdeal.nD Cert.GradReferenceIdeal.τ).loc Cert.GradReferenceIdeal.main_arg4) = m ((c.tc : Thread Cert.GradIdeal.nD Cert.GradIdeal.τ).loc Cert.GradIdeal.main_arg4)
      ∧ m' ((c.tc : Thread Cert.GradReferenceIdeal.nD Cert.GradReferenceIdeal.τ).loc Cert.GradReferenceIdeal.main_arg5) = m ((c.tc : Thread Cert.GradIdeal.nD Cert.GradIdeal.τ).loc Cert.GradIdeal.main_arg5)
      ∧ m' ((c.tc : Thread Cert.GradReferenceIdeal.nD Cert.GradReferenceIdeal.τ).loc Cert.GradReferenceIdeal.main_arg6) = m ((c.tc : Thread Cert.GradIdeal.nD Cert.GradIdeal.τ).loc Cert.GradIdeal.main_arg6)
      ∧ m' ((c.tc : Thread Cert.GradReferenceIdeal.nD Cert.GradReferenceIdeal.τ).loc Cert.GradReferenceIdeal.main_arg7) = m ((c.tc : Thread Cert.GradIdeal.nD Cert.GradIdeal.τ).loc Cert.GradIdeal.main_arg7)
      ∧ m' ((c.tc : Thread Cert.GradReferenceIdeal.nD Cert.GradReferenceIdeal.τ).loc Cert.GradReferenceIdeal.main_arg8) = m ((c.tc : Thread Cert.GradIdeal.nD Cert.GradIdeal.τ).loc Cert.GradIdeal.main_arg8)
      ∧ m' ((c.tc : Thread Cert.GradReferenceIdeal.nD Cert.GradReferenceIdeal.τ).loc Cert.GradReferenceIdeal.main_arg9) = m ((c.tc : Thread Cert.GradIdeal.nD Cert.GradIdeal.τ).loc Cert.GradIdeal.main_arg9)
      ∧ m' ((c.tc : Thread Cert.GradReferenceIdeal.nD Cert.GradReferenceIdeal.τ).loc Cert.GradReferenceIdeal.main_arg10) = m ((c.tc : Thread Cert.GradIdeal.nD Cert.GradIdeal.τ).loc Cert.GradIdeal.main_arg10)) :
    (Cert.GradReferenceIdeal.Gen.dats m' 0 c).arrAt 11 (Cert.GradReferenceIdeal.cfgs 0).N = (Cert.GradIdeal.Body.dats m 0 c).arrAt 12 (Cert.GradIdeal.cfgs 0).N := by
  obtain ⟨h0, h1, h2, h3, h4, h5, h6, h7, h8, h9, h10⟩ := h
  refine (Cert.GradReferenceIdeal.Value.final11 m' c).trans (Eq.trans ?_ (Cert.GradIdeal.Value.final12 m c).symm)
  unfold Cert.GradReferenceIdeal.Value.K Cert.GradIdeal.Value.K
  rw [h0, h2, h3, h4, h5, h6, h7, h1, h8, h9, h10]

theorem codes_same (m : (ℓ : Loc Cert.GradIdeal.nD Cert.GradIdeal.τ Cert.GradIdeal.sig) → Buf (Elt Ideal) ℓ)
    (m' : (ℓ : Loc Cert.GradReferenceIdeal.nD Cert.GradReferenceIdeal.τ Cert.GradReferenceIdeal.sig) → Buf (Elt Ideal) ℓ) (c : Dev Cert.GradIdeal.nD)
    (h : m' ((c.tc : Thread Cert.GradReferenceIdeal.nD Cert.GradReferenceIdeal.τ).loc Cert.GradReferenceIdeal.main_arg0) = m ((c.tc : Thread Cert.GradIdeal.nD Cert.GradIdeal.τ).loc Cert.GradIdeal.main_arg0)
      ∧ m' ((c.tc : Thread Cert.GradReferenceIdeal.nD Cert.GradReferenceIdeal.τ).loc Cert.GradReferenceIdeal.main_arg1) = m ((c.tc : Thread Cert.GradIdeal.nD Cert.GradIdeal.τ).loc Cert.GradIdeal.main_arg1)
      ∧ m' ((c.tc : Thread Cert.GradReferenceIdeal.nD Cert.GradReferenceIdeal.τ).loc Cert.GradReferenceIdeal.main_arg2) = m ((c.tc : Thread Cert.GradIdeal.nD Cert.GradIdeal.τ).loc Cert.GradIdeal.main_arg2)
      ∧ m' ((c.tc : Thread Cert.GradReferenceIdeal.nD Cert.GradReferenceIdeal.τ).loc Cert.GradReferenceIdeal.main_arg3) = m ((c.tc : Thread Cert.GradIdeal.nD Cert.GradIdeal.τ).loc Cert.GradIdeal.main_arg3)
      ∧ m' ((c.tc : Thread Cert.GradReferenceIdeal.nD Cert.GradReferenceIdeal.τ).loc Cert.GradReferenceIdeal.main_arg4) = m ((c.tc : Thread Cert.GradIdeal.nD Cert.GradIdeal.τ).loc Cert.GradIdeal.main_arg4)
      ∧ m' ((c.tc : Thread Cert.GradReferenceIdeal.nD Cert.GradReferenceIdeal.τ).loc Cert.GradReferenceIdeal.main_arg5) = m ((c.tc : Thread Cert.GradIdeal.nD Cert.GradIdeal.τ).loc Cert.GradIdeal.main_arg5)
      ∧ m' ((c.tc : Thread Cert.GradReferenceIdeal.nD Cert.GradReferenceIdeal.τ).loc Cert.GradReferenceIdeal.main_arg6) = m ((c.tc : Thread Cert.GradIdeal.nD Cert.GradIdeal.τ).loc Cert.GradIdeal.main_arg6)
      ∧ m' ((c.tc : Thread Cert.GradReferenceIdeal.nD Cert.GradReferenceIdeal.τ).loc Cert.GradReferenceIdeal.main_arg7) = m ((c.tc : Thread Cert.GradIdeal.nD Cert.GradIdeal.τ).loc Cert.GradIdeal.main_arg7)
      ∧ m' ((c.tc : Thread Cert.GradReferenceIdeal.nD Cert.GradReferenceIdeal.τ).loc Cert.GradReferenceIdeal.main_arg8) = m ((c.tc : Thread Cert.GradIdeal.nD Cert.GradIdeal.τ).loc Cert.GradIdeal.main_arg8)
      ∧ m' ((c.tc : Thread Cert.GradReferenceIdeal.nD Cert.GradReferenceIdeal.τ).loc Cert.GradReferenceIdeal.main_arg9) = m ((c.tc : Thread Cert.GradIdeal.nD Cert.GradIdeal.τ).loc Cert.GradIdeal.main_arg9)
      ∧ m' ((c.tc : Thread Cert.GradReferenceIdeal.nD Cert.GradReferenceIdeal.τ).loc Cert.GradReferenceIdeal.main_arg10) = m ((c.tc : Thread Cert.GradIdeal.nD Cert.GradIdeal.τ).loc Cert.GradIdeal.main_arg10)) :
    (Cert.GradReferenceIdeal.Gen.dats m' 0 c).arrAt 12 (Cert.GradReferenceIdeal.cfgs 0).N = (Cert.GradIdeal.Body.dats m 0 c).arrAt 11 (Cert.GradIdeal.cfgs 0).N := by
  obtain ⟨h0, h1, h2, h3, h4, h5, h6, h7, h8, h9, h10⟩ := h
  refine (Cert.GradReferenceIdeal.Value.final12 m' c).trans (Eq.trans ?_ (Cert.GradIdeal.Value.final11 m c).symm)
  unfold Cert.GradReferenceIdeal.Value.K Cert.GradIdeal.Value.K
  rw [h0, h2, h3, h4, h5, h6, h7]

theorem grad_algebraic : Cert.algebraic_GradIdeal_GradReferenceIdeal (hGradIdeal := Cert.GradIdeal.Gen.facts)
    (hGradReferenceIdeal := Cert.GradReferenceIdeal.Gen.facts) := by
  intro m g m' g' _ hagree
  exact ⟨_, _, grad_run m g, (θ_run (Cert.GradReferenceIdeal.defs (F := Ideal)) _ _).mono
    (fun r h c => ⟨(h c).1.trans (dh_same m m' c (hagree c)), (h c).2.1.trans (codes_same m m' c (hagree c)), (h c).2.2⟩)
    (grad_reference_run m' g')⟩

theorem stats_algebraic : Cert.algebraic_StatsIdeal_StatsReferenceIdeal (hStatsIdeal := Cert.StatsIdeal.Gen.facts)
    (hStatsReferenceIdeal := Cert.StatsReferenceIdeal.Gen.facts) := by
  intro m g m' g' _ hagree
  refine ⟨fun c => fun y : Cert.StatsIdeal.S1024x151936.Idx => Cert.StatsIdeal.Value.K m c (y 0) (y 1), ?_, ?_⟩
  · exact (θ_run (Cert.StatsIdeal.defs (F := Ideal)) _ _).mono (fun r h c => ⟨Cert.StatsIdeal.Value.left_u m r h.1 c, h.2.1 c⟩)
      (θ_run_and (Cert.StatsIdeal.Body.run_main m g) (Cert.StatsIdeal.Body.frame m g))
  · refine (θ_run (Cert.StatsReferenceIdeal.defs (F := Ideal)) _ _).mono (fun r h c => ⟨((h.1 c).1 3).trans ?_, h.2.1 c⟩)
      (θ_run_and (Cert.StatsReferenceIdeal.Gen.run_main m' g') (Cert.StatsReferenceIdeal.Gen.frame m' g'))
    obtain ⟨h0, h1, h2, h3, h4, h5, h6, h7, h8, h9, h10, h11, h12, h13, h14⟩ := hagree c
    refine (Cert.StatsReferenceIdeal.Value.final3 m' c).trans ?_
    unfold Cert.StatsReferenceIdeal.Value.K Cert.StatsIdeal.Value.K
    rw [h3, h11, h13]

theorem claim : Cert.Claim := ⟨Cert.Prep.Gen.facts, Cert.PrepIdeal.Gen.facts, Cert.PrepReferenceIdeal.Gen.facts,
  Cert.Stats.Gen.facts, Cert.StatsIdeal.Gen.facts, Cert.StatsReferenceIdeal.Gen.facts,
  Cert.Grad.Gen.facts, Cert.GradIdeal.Gen.facts, Cert.GradReferenceIdeal.Gen.facts,
  fun m ρ _ => Cert.Prep.Gen.frame m ρ, fun m ρ _ => Cert.PrepIdeal.Gen.frame m ρ,
  fun m ρ _ => Cert.PrepReferenceIdeal.Gen.frame m ρ, fun m ρ _ => Cert.Stats.Body.frame m ρ,
  fun m ρ _ => Cert.StatsIdeal.Body.frame m ρ, fun m ρ _ => Cert.StatsReferenceIdeal.Gen.frame m ρ,
  fun m ρ _ => Cert.Grad.Body.frame m ρ,
  fun m ρ _ => Cert.GradIdeal.Body.frame m ρ, fun m ρ _ => Cert.GradReferenceIdeal.Gen.frame m ρ,
  trivial, prep_algebraic, trivial, stats_algebraic, trivial, grad_algebraic⟩

end Cert.Proof

end
